-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def preserves_Kernel_KernelIdeal : Prop :=
  IdealRules.named_const.Statement Cert.KernelIdeal.κ "scale2" .f32 0x3E0293EE#32 (((Real.sqrt 128)⁻¹ * (Real.log 2)⁻¹ : ℝ) : EReal)
  ∧ IdealRules.named_const.Statement Cert.KernelIdeal.κ "mask" .f32 0xF149F2CA#32 ⊥
  ∧ IdealRules.named_const.Statement Cert.KernelIdeal.κ "scale" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v93_0)) (v1 : (c : Dev Cert.KernelIdeal.nD) → Buf (Elt Ideal) ((c.tc : Thread Cert.KernelIdeal.nD Cert.KernelIdeal.τ).loc Cert.KernelIdeal.main_v93_1)) (v2 : (c : Dev Cert.KernelIdeal.nD) → Buf (Elt Ideal) ((c.tc : Thread Cert.KernelIdeal.nD Cert.KernelIdeal.τ).loc Cert.KernelIdeal.main_v93_2)) (v3 : (c : Dev Cert.KernelIdeal.nD) → Buf (Elt Ideal) ((c.tc : Thread Cert.KernelIdeal.nD Cert.KernelIdeal.τ).loc Cert.KernelIdeal.main_v93_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93_0) = v0 c
          ∧ r.2.mem ((c.tc : Thread Cert.KernelIdeal.nD Cert.KernelIdeal.τ).loc Cert.KernelIdeal.main_v93_1) = v1 c
          ∧ r.2.mem ((c.tc : Thread Cert.KernelIdeal.nD Cert.KernelIdeal.τ).loc Cert.KernelIdeal.main_v93_2) = v2 c
          ∧ r.2.mem ((c.tc : Thread Cert.KernelIdeal.nD Cert.KernelIdeal.τ).loc Cert.KernelIdeal.main_v93_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v94) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_v13) = v1 c
          ∧ r.2.mem ((c.tc : Thread Cert.Reference8Ideal.nD Cert.Reference8Ideal.τ).loc Cert.Reference8Ideal.main_v15) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v34) = v0 c
          ∧ r.2.mem ((c.tc : Thread Cert.Reference9Ideal.nD Cert.Reference9Ideal.τ).loc Cert.Reference9Ideal.main_v17) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S8192x3072 : Shape := ⟨2, ![8192, 3072]⟩
abbrev S8x8192 : Shape := ⟨2, ![8, 8192]⟩
abbrev S8192x1024 : Shape := ⟨2, ![8192, 1024]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S8x8192 : S_.BroadcastsInDim S8x8192 (![] : Fin 0 → Fin S8x8192.rank)
  reducesTo_S8x8192_S_d0_1 : S8x8192.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x3072 .bf16) (main_arg1 : FVec F S8x8192 .f32) (main_arg2 : FVec F S8192x1024 .bf16) : IVec S_ 1 :=
  let main_v0 : FVec F S8192x3072 .bf16 := Host.absf main_arg0
  let main_cst : FVec F S_ .bf16 := constant S_ .bf16 0x7F80#16
  let main_v1 : FVec F S8192x3072 .bf16 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_v4 : FVec F S8x8192 .f32 := Host.absf main_arg1
  let main_cst_0 : FVec F S_ .f32 := constant S_ .f32 0x7F800000#32
  let main_v5 : FVec F S8x8192 .f32 := broadcastInDim S8x8192 ![] bcast_S_S8x8192 main_cst_0
  let main_v6 : IVec S8x8192 1 := cmpf .olt main_v4 main_v5
  let main_c_1 : IVec S_ 1 := constantI S_ 1 1#1
  let main_v7 : IVec S_ 1 := (fun x v => Host.reduce IntOp.andi x v reducesTo_S8x8192_S_d0_1 h_S_) main_v6 main_c_1
  let main_v8 : IVec S_ 1 := andi main_v3 main_v7
  let main_v9 : FVec F S8192x1024 .bf16 := Host.absf main_arg2
  let main_cst_2 : FVec F S_ .bf16 := constant S_ .bf16 0x7F80#16
  let main_v10 : FVec F S8192x1024 .bf16 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_finite8.lean ====
abbrev S8192x2048 : Shape := ⟨2, ![8192, 2048]⟩
abbrev S8192x1024 : Shape := ⟨2, ![8192, 1024]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x2048 .f32) (main_arg1 : FVec F S8192x1024 .f32) (main_arg2 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x3072 : Shape := ⟨2, ![8192, 3072]⟩
abbrev S8x8192 : Shape := ⟨2, ![8, 8192]⟩
abbrev S8192x1024 : Shape := ⟨2, ![8192, 1024]⟩
abbrev S_ : Shape := ⟨0, ![]⟩
abbrev S8x8192x128 : Shape := ⟨3, ![8, 8192, 128]⟩
abbrev S8x8192x1 : Shape := ⟨3, ![8, 8192, 1]⟩
abbrev S8192x8x128 : Shape := ⟨3, ![8192, 8, 128]⟩
abbrev S8192 : Shape := ⟨1, ![8192]⟩
abbrev S8x8192x8192 : Shape := ⟨3, ![8, 8192, 8192]⟩
abbrev S8x1x8192 : Shape := ⟨3, ![8, 1, 8192]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩
abbrev S8192x8 : Shape := ⟨2, ![8192, 8]⟩
abbrev S8x8x1x1024 : Shape := ⟨4, ![8, 8, 1, 1024]⟩
abbrev S1024x128 : Shape := ⟨2, ![1024, 128]⟩
abbrev S1x1024x128 : Shape := ⟨3, ![1, 1024, 128]⟩
abbrev S8192x128 : Shape := ⟨2, ![8192, 128]⟩
abbrev S1x8192x128 : Shape := ⟨3, ![1, 8192, 128]⟩
abbrev S1x8x1x1024 : Shape := ⟨4, ![1, 8, 1, 1024]⟩
abbrev S1x1x1x1024 : Shape := ⟨4, ![1, 1, 1, 1024]⟩
abbrev S1024x256 : Shape := ⟨2, ![1024, 256]⟩
abbrev S1024x1 : Shape := ⟨2, ![1024, 1]⟩
abbrev S1x1024 : Shape := ⟨2, ![1, 1024]⟩
abbrev S512x128 : Shape := ⟨2, ![512, 128]⟩
abbrev S1x512x128 : Shape := ⟨3, ![1, 512, 128]⟩
abbrev S512x256 : Shape := ⟨2, ![512, 256]⟩
abbrev S512x512 : Shape := ⟨2, ![512, 512]⟩
abbrev S1x512 : Shape := ⟨2, ![1, 512]⟩
abbrev S512 : Shape := ⟨1, ![512]⟩
abbrev S512x1 : Shape := ⟨2, ![512, 1]⟩
abbrev S1024x512 : Shape := ⟨2, ![1024, 512]⟩
abbrev S1024 : Shape := ⟨1, ![1024]⟩
abbrev S128x1024 : Shape := ⟨2, ![128, 1024]⟩

abbrev nBuf : Space → Nat
  | .hbm => 130
  | .vmem => 26
  | .smem => 0
  | _ => 0

abbrev hbmTy0_0 (i : Nat) : BufTy := match i % 128 with
  | 0 => ⟨S8192x3072, .bf16⟩
  | 1 => ⟨S8x8192, .f32⟩
  | 2 => ⟨S8192x1024, .bf16⟩
  | 3 => ⟨S_, .f32⟩
  | 4 => ⟨S_, .f32⟩
  | 5 => ⟨S8x8192, .f32⟩
  | 6 => ⟨S8x8192, .f32⟩
  | 7 => ⟨S8x8192, .bf16⟩
  | 8 => ⟨S8x8192, .f32⟩
  | 9 => ⟨S8x8192, .f32⟩
  | 10 => ⟨S8x8192, .bf16⟩
  | 11 => ⟨S8x8192, .f32⟩
  | 12 => ⟨S8x8192, .f32⟩
  | 13 => ⟨S8x8192x128, .i32⟩
  | 14 => ⟨S_, .i32⟩
  | 15 => ⟨S8x8192x128, .i32⟩
  | 16 => ⟨S8x8192x128, .i1⟩
  | 17 => ⟨S_, .i32⟩
  | 18 => ⟨S8x8192x128, .i32⟩
  | 19 => ⟨S8x8192x128, .i1⟩
  | 20 => ⟨S8x8192x128, .i1⟩
  | 21 => ⟨S_, .i32⟩
  | 22 => ⟨S8x8192x128, .i32⟩
  | 23 => ⟨S8x8192x128, .i1⟩
  | 24 => ⟨S_, .i32⟩
  | 25 => ⟨S8x8192x128, .i32⟩
  | 26 => ⟨S8x8192x128, .i1⟩
  | 27 => ⟨S8x8192x128, .i1⟩
  | 28 => ⟨S8x8192x1, .f32⟩
  | 29 => ⟨S8x8192x128, .f32⟩
  | 30 => ⟨S8x8192x1, .f32⟩
  | 31 => ⟨S8x8192x128, .f32⟩
  | 32 => ⟨S8x8192x1, .f32⟩
  | 33 => ⟨S8x8192x128, .f32⟩
  | 34 => ⟨S8x8192x128, .f32⟩
  | 35 => ⟨S8x8192x128, .f32⟩
  | 36 => ⟨S_, .i32⟩
  | 37 => ⟨S8x8192x128, .i32⟩
  | 38 => ⟨S8x8192x128, .i1⟩
  | 39 => ⟨S_, .i32⟩
  | 40 => ⟨S8x8192x128, .i32⟩
  | 41 => ⟨S8x8192x128, .i1⟩
  | 42 => ⟨S_, .f32⟩
  | 43 => ⟨S_, .f32⟩
  | 44 => ⟨S8x8192x128, .f32⟩
  | 45 => ⟨S8x8192x128, .f32⟩
  | 46 => ⟨S8x8192x128, .f32⟩
  | 47 => ⟨S8x8192x128, .f32⟩
  | 48 => ⟨S8x8192x128, .f32⟩
  | 49 => ⟨S8x8192x128, .bf16⟩
  | 50 => ⟨S_, .i32⟩
  | 51 => ⟨S8x8192x128, .i32⟩
  | 52 => ⟨S8x8192x128, .i1⟩
  | 53 => ⟨S_, .i32⟩
  | 54 => ⟨S8x8192x128, .i32⟩
  | 55 => ⟨S8x8192x128, .i1⟩
  | 56 => ⟨S8x8192x128, .f32⟩
  | 57 => ⟨S_, .f32⟩
  | 58 => ⟨S_, .f32⟩
  | 59 => ⟨S8x8192x128, .f32⟩
  | 60 => ⟨S8x8192x128, .f32⟩
  | 61 => ⟨S_, .f32⟩
  | 62 => ⟨S_, .f32⟩
  | 63 => ⟨S8x8192x128, .f32⟩
  | 64 => ⟨S8x8192x128, .f32⟩
  | 65 => ⟨S8x8192x128, .bf16⟩
  | 66 => ⟨S8192x1024, .bf16⟩
  | 67 => ⟨S8192x1024, .f32⟩
  | 68 => ⟨S8192x8x128, .f32⟩
  | 69 => ⟨S8192x1024, .bf16⟩
  | 70 => ⟨S8192x1024, .f32⟩
  | 71 => ⟨S8192x8x128, .f32⟩
  | 72 => ⟨S8192x1024, .bf16⟩
  | 73 => ⟨S8192x1024, .f32⟩
  | 74 => ⟨S8192x8x128, .f32⟩
  | 75 => ⟨S8192, .i32⟩
  | 76 => ⟨S8x8192x8192, .f32⟩
  | 77 => ⟨S_, .f32⟩
  | 78 => ⟨S_, .f32⟩
  | 79 => ⟨S8x8192x8192, .f32⟩
  | 80 => ⟨S8x8192x8192, .f32⟩
  | 81 => ⟨S8x8192x1, .f32⟩
  | 82 => ⟨S8x1x8192, .f32⟩
  | 83 => ⟨S8x8192x8192, .f32⟩
  | 84 => ⟨S8x8192x8192, .f32⟩
  | 85 => ⟨S8x8192x8192, .f32⟩
  | 86 => ⟨S1x8192, .i32⟩
  | 87 => ⟨S8192x1, .i32⟩
  | 88 => ⟨S8192x8192, .i32⟩
  | 89 => ⟨S8192x8192, .i32⟩
  | 90 => ⟨S8192x8192, .i1⟩
  | 91 => ⟨S8x8192x8192, .f32⟩
  | 92 => ⟨S_, .f32⟩
  | 93 => ⟨S_, .f32⟩
  | 94 => ⟨S8x8192x8192, .i1⟩
  | 95 => ⟨S8x8192x8192, .f32⟩
  | 96 => ⟨S8x8192x8192, .f32⟩
  | 97 => ⟨S_, .f32⟩
  | 98 => ⟨S8x8192, .f32⟩
  | 99 => ⟨S8x8192x1, .f32⟩
  | 100 => ⟨S8x8192x8192, .f32⟩
  | 101 => ⟨S8x8192x8192, .f32⟩
  | 102 => ⟨S8x8192x8192, .f32⟩
  | 103 => ⟨S_, .f32⟩
  | 104 => ⟨S8x8192, .f32⟩
  | 105 => ⟨S_, .f32⟩
  | 106 => ⟨S8x8192, .f32⟩
  | 107 => ⟨S8x8192, .f32⟩
  | 108 => ⟨S8x8192x1, .f32⟩
  | 109 => ⟨S8x8192x8192, .f32⟩
  | 110 => ⟨S8x8192x8192, .f32⟩
  | 111 => ⟨S8x128x8192, .f32⟩
  | 112 => ⟨S8192x8x128, .f32⟩
  | 113 => ⟨S8192x1024, .f32⟩
  | 114 => ⟨S8192x8x128, .f32⟩
  | 115 => ⟨S8192x8x128, .f32⟩
  | 116 => ⟨S_, .f32⟩
  | 117 => ⟨S8192x8, .f32⟩
  | 118 => ⟨S8x8192, .f32⟩
  | 119 => ⟨S_, .f32⟩
  | 120 => ⟨S_, .f32⟩
  | 121 => ⟨S8x8192, .f32⟩
  | 122 => ⟨S8x8192, .f32⟩
  | 123 => ⟨S8x8x1x1024, .f32⟩
  | 124 => ⟨S8x8x1x1024, .f32⟩
  | 125 => ⟨S8x8x1x1024, .f32⟩
  | 126 => ⟨S8192x1024, .f32⟩
  | 127 => ⟨S8192x1024, .bf16⟩
  | _ => ⟨S8192x3072, .bf16⟩

abbrev hbmTy0_1 (i : Nat) : BufTy := match i % 128 with
  | 0 => ⟨S8192x1024, .bf16⟩
  | 1 => ⟨S8x8x1x1024, .f32⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | .local _ .vmem, ⟨0, _⟩ => ⟨S1024x128, .bf16⟩
  | .local _ .vmem, ⟨1, _⟩ => ⟨S1024x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1024x128, .bf16⟩
  | .local _ .vmem, ⟨5, _⟩ => ⟨S1024x128, .bf16⟩
  | .local _ .vmem, ⟨6, _⟩ => ⟨S8192x128, .bf16⟩
  | .local _ .vmem, ⟨7, _⟩ => ⟨S8192x128, .bf16⟩
  | .local _ .vmem, ⟨8, _⟩ => ⟨S1x8192x128, .bf16⟩
  | .local _ .vmem, ⟨9, _⟩ => ⟨S1x8192x128, .bf16⟩
  | .local _ .vmem, ⟨10, _⟩ => ⟨S8192x128, .bf16⟩
  | .local _ .vmem, ⟨11, _⟩ => ⟨S8192x128, .bf16⟩
  | .local _ .vmem, ⟨12, _⟩ => ⟨S1x8x1x1024, .f32⟩
  | .local _ .vmem, ⟨13, _⟩ => ⟨S1x8x1x1024, .f32⟩
  | .local _ .vmem, ⟨14, _⟩ => ⟨S1x8x1x1024, .f32⟩
  | .local _ .vmem, ⟨15, _⟩ => ⟨S1x8x1x1024, .f32⟩
  | .local _ .vmem, ⟨16, _⟩ => ⟨S1x8x1x1024, .f32⟩
  | .local _ .vmem, ⟨17, _⟩ => ⟨S1x8x1x1024, .f32⟩
  | .local _ .vmem, ⟨18, _⟩ => ⟨S8192x128, .f32⟩
  | .local _ .vmem, ⟨19, _⟩ => ⟨S8192x128, .f32⟩
  | .local _ .vmem, ⟨20, _⟩ => ⟨S1024x128, .bf16⟩
  | .local _ .vmem, ⟨21, _⟩ => ⟨S1024x128, .bf16⟩
  | .local _ .vmem, ⟨22, _⟩ => ⟨S1024x128, .bf16⟩
  | .local _ .vmem, ⟨23, _⟩ => ⟨S1024x128, .bf16⟩
  | .local _ .vmem, ⟨24, _⟩ => ⟨S1x1x1x1024, .f32⟩
  | .local _ .vmem, ⟨25, _⟩ => ⟨S1x1x1x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_3 : Ref sig .tc := ⟨.hbm, 36, rfl⟩
abbrev main_v28 : Ref sig .tc := ⟨.hbm, 37, rfl⟩
abbrev main_v29 : Ref sig .tc := ⟨.hbm, 38, rfl⟩
abbrev main_c_4 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_cst_6 : Ref sig .tc := ⟨.hbm, 43, rfl⟩
abbrev main_call2_v0 : Ref sig .tc := ⟨.hbm, 44, rfl⟩
abbrev main_call2_v1 : Ref sig .tc := ⟨.hbm, 45, rfl⟩
abbrev main_v32 : Ref sig .tc := ⟨.hbm, 46, rfl⟩
abbrev main_call3_v0 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_call4_v0 : Ref sig .tc := ⟨.hbm, 58, rfl⟩
abbrev main_call4_v1 : Ref sig .tc := ⟨.hbm, 59, rfl⟩
abbrev main_v40 : Ref sig .tc := ⟨.hbm, 60, rfl⟩
abbrev main_cst_10 : Ref sig .tc := ⟨.hbm, 61, rfl⟩
abbrev main_call5_v0 : Ref sig .tc := ⟨.hbm, 62, rfl⟩
abbrev main_call5_v1 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_12 : Ref sig .tc := ⟨.hbm, 92, rfl⟩
abbrev main_call6_v0 : Ref sig .tc := ⟨.hbm, 93, rfl⟩
abbrev main_call6_v1 : Ref sig .tc := ⟨.hbm, 94, rfl⟩
abbrev main_call6_v2 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_14 : Ref sig .tc := ⟨.hbm, 103, rfl⟩
abbrev main_v74 : Ref sig .tc := ⟨.hbm, 104, rfl⟩
abbrev main_cst_15 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_16 : Ref sig .tc := ⟨.hbm, 116, rfl⟩
abbrev main_v85 : Ref sig .tc := ⟨.hbm, 117, rfl⟩
abbrev main_v86 : Ref sig .tc := ⟨.hbm, 118, rfl⟩
abbrev main_cst_17 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93_0 : Ref sig .tc := ⟨.hbm, 126, rfl⟩
abbrev main_v93_1 : Ref sig .tc := ⟨.hbm, 127, rfl⟩
abbrev main_v93_2 : Ref sig .tc := ⟨.hbm, 128, rfl⟩
abbrev main_v93_3 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 8], ![false, false]⟩

def k0_off1 (i : grid0.Coords) : Fin 4 → Nat :=
  let c0_9 : Index := 0#32
  let arg1 : BitVec 32 := BitVec.ofNat 32 (i 1).val
  let v11 : Index := Scalar.indexCast arg1
  let c0_10 : Index := 0#32
  let c0_11 : Index := 0#32
  ![0, v11.toNat, 0, 0]
def k0_mult1 (i : grid0.Coords) : BitVec 32 :=
  let arg1 : BitVec 32 := BitVec.ofNat 32 (i 1).val
  let c1024_i32 : BitVec 32 := 1024#32
  let v20 : BitVec 32 := Scalar.muli arg1 c1024_i32
  let c0_i32_18 : BitVec 32 := 0#32
  let v21 : BitVec 32 := Scalar.addi v20 c0_i32_18
  v21
def k0_off2 (i : grid0.Coords) (c0_i32_18 : BitVec 32) : Fin 2 → Nat :=
  let arg1 : BitVec 32 := BitVec.ofNat 32 (i 1).val
  let c1024_i32 : BitVec 32 := 1024#32
  let v20 : BitVec 32 := Scalar.muli arg1 c1024_i32
  let v21 : BitVec 32 := Scalar.addi v20 c0_i32_18
  let v22 : BitVec 32 := v21
  let v23 : Index := Scalar.indexCast v22
  let c0_19 : Index := 0#32
  ![v23.toNat, 0]
def k0_off3 (i : grid0.Coords) (c0_i32_18 : BitVec 32) : Fin 3 → Nat :=
  let c0_20 : Index := 0#32
  let arg1 : BitVec 32 := BitVec.ofNat 32 (i 1).val
  let c1024_i32 : BitVec 32 := 1024#32
  let v20 : BitVec 32 := Scalar.muli arg1 c1024_i32
  let v21 : BitVec 32 := Scalar.addi v20 c0_i32_18
  let v22 : BitVec 32 := v21
  let v25 : Index := Scalar.indexCast v22
  let c0_21 : Index := 0#32
  ![0, v25.toNat, 0]
def k0_mult2 (i : grid0.Coords) : BitVec 32 :=
  let arg1 : BitVec 32 := BitVec.ofNat 32 (i 1).val
  let c1024_i32_39 : BitVec 32 := 1024#32
  let v84 : BitVec 32 := Scalar.muli arg1 c1024_i32_39
  let c512_i32 : BitVec 32 := 512#32
  let v85 : BitVec 32 := Scalar.addi v84 c512_i32
  v85
@[reducible] def k0_t1_loop (i : grid0.Coords) : Scf.Loop 32 :=
  let arg1 : BitVec 32 := BitVec.ofNat 32 (i 1).val
  let c1_i32 : BitVec 32 := 1#32
  let v139 : BitVec 32 := Scalar.addi arg1 c1_i32
  let c8_i32 : BitVec 32 := 8#32
  let v140 : BitVec 32 := Scalar.subi c8_i32 v139
  let c1_i32_57 : BitVec 32 := 1#32
  let v142 : BitVec 32 := Scalar.divsi v140 c1_i32_57
  let v143 : BitVec 32 := Scalar.muli v142 c1_i32_57
  let v144 : BitVec 32 := Scalar.addi v139 v143
  let c1_i32_58 : BitVec 32 := 1#32
  ⟨v139, v144, c1_i32_58⟩
def k0_off4 (i : grid0.Coords) (k0_t1 : Fin (k0_t1_loop i).trips) : Fin 4 → Nat :=
  let c0_69 : Index := 0#32
  let arg1 : BitVec 32 := BitVec.ofNat 32 (i 1).val
  let c1_i32 : BitVec 32 := 1#32
  let v139 : BitVec 32 := Scalar.addi arg1 c1_i32
  let c1_i32_58 : BitVec 32 := 1#32
  let arg15 : BitVec 32 := Scf.iv v139 c1_i32_58 k0_t1
  let v160 : Index := Scalar.indexCast arg15
  let c0_70 : Index := 0#32
  let c0_71 : Index := 0#32
  ![0, v160.toNat, 0, 0]
def k0_mult3 (i : grid0.Coords) (k0_t1 : Fin (k0_t1_loop i).trips) : BitVec 32 :=
  let arg1 : BitVec 32 := BitVec.ofNat 32 (i 1).val
  let c1_i32 : BitVec 32 := 1#32
  let v139 : BitVec 32 := Scalar.addi arg1 c1_i32
  let c1_i32_58 : BitVec 32 := 1#32
  let arg15 : BitVec 32 := Scf.iv v139 c1_i32_58 k0_t1
  let c1024_i32_78 : BitVec 32 := 1024#32
  let v169 : BitVec 32 := Scalar.muli arg15 c1024_i32_78
  let c0_i32_79 : BitVec 32 := 0#32
  let v170 : BitVec 32 := Scalar.addi v169 c0_i32_79
  v170
def k0_off5 (i : grid0.Coords) (k0_t1 : Fin (k0_t1_loop i).trips) (c0_i32_79 : BitVec 32) : Fin 2 → Nat :=
  let arg1 : BitVec 32 := BitVec.ofNat 32 (i 1).val
  let c1_i32 : BitVec 32 := 1#32
  let v139 : BitVec 32 := Scalar.addi arg1 c1_i32
  let c1_i32_58 : BitVec 32 := 1#32
  let arg15 : BitVec 32 := Scf.iv v139 c1_i32_58 k0_t1
  let c1024_i32_78 : BitVec 32 := 1024#32
  let v169 : BitVec 32 := Scalar.muli arg15 c1024_i32_78
  let v170 : BitVec 32 := Scalar.addi v169 c0_i32_79
  let v171 : BitVec 32 := v170
  let v172 : Index := Scalar.indexCast v171
  let c0_80 : Index := 0#32
  ![v172.toNat, 0]
def k0_off6 (i : grid0.Coords) (k0_t1 : Fin (k0_t1_loop i).trips) (c0_i32_79 : BitVec 32) : Fin 3 → Nat :=
  let c0_81 : Index := 0#32
  let arg1 : BitVec 32 := BitVec.ofNat 32 (i 1).val
  let c1_i32 : BitVec 32 := 1#32
  let v139 : BitVec 32 := Scalar.addi arg1 c1_i32
  let c1_i32_58 : BitVec 32 := 1#32
  let arg15 : BitVec 32 := Scf.iv v139 c1_i32_58 k0_t1
  let c1024_i32_78 : BitVec 32 := 1024#32
  let v169 : BitVec 32 := Scalar.muli arg15 c1024_i32_78
  let v170 : BitVec 32 := Scalar.addi v169 c0_i32_79
  let v171 : BitVec 32 := v170
  let v174 : Index := Scalar.indexCast v171
  let c0_82 : Index := 0#32
  ![0, v174.toNat, 0]
def k0_mult4 (i : grid0.Coords) (k0_t1 : Fin (k0_t1_loop i).trips) : BitVec 32 :=
  let arg1 : BitVec 32 := BitVec.ofNat 32 (i 1).val
  let c1_i32 : BitVec 32 := 1#32
  let v139 : BitVec 32 := Scalar.addi arg1 c1_i32
  let c1_i32_58 : BitVec 32 := 1#32
  let arg15 : BitVec 32 := Scf.iv v139 c1_i32_58 k0_t1
  let c1024_i32_94 : BitVec 32 := 1024#32
  let v215 : BitVec 32 := Scalar.muli arg15 c1024_i32_94
  let c512_i32_95 : BitVec 32 := 512#32
  let v216 : BitVec 32 := Scalar.addi v215 c512_i32_95
  v216
@[reducible] def k0_t2_loop (i : grid0.Coords) : Scf.Loop 32 :=
  let arg1 : BitVec 32 := BitVec.ofNat 32 (i 1).val
  let c1_i32 : BitVec 32 := 1#32
  let v139 : BitVec 32 := Scalar.addi arg1 c1_i32
  let c8_i32 : BitVec 32 := 8#32
  let v140 : BitVec 32 := Scalar.subi c8_i32 v139
  let c1_i32_57 : BitVec 32 := 1#32
  let v142 : BitVec 32 := Scalar.divsi v140 c1_i32_57
  let v143 : BitVec 32 := Scalar.muli v142 c1_i32_57
  let v144 : BitVec 32 := Scalar.addi v139 v143
  let v141 : BitVec 32 := Scalar.addi v139 v140
  let c1_i32_59 : BitVec 32 := 1#32
  ⟨v144, v141, c1_i32_59⟩
def k0_off7 (i : grid0.Coords) (k0_t2 : Fin (k0_t2_loop i).trips) : Fin 4 → Nat :=
  let c0_69 : Index := 0#32
  let arg1 : BitVec 32 := BitVec.ofNat 32 (i 1).val
  let c1_i32 : BitVec 32 := 1#32
  let v139 : BitVec 32 := Scalar.addi arg1 c1_i32
  let c8_i32 : BitVec 32 := 8#32
  let v140 : BitVec 32 := Scalar.subi c8_i32 v139
  let c1_i32_57 : BitVec 32 := 1#32
  let v142 : BitVec 32 := Scalar.divsi v140 c1_i32_57
  let v143 : BitVec 32 := Scalar.muli v142 c1_i32_57
  let v144 : BitVec 32 := Scalar.addi v139 v143
  let c1_i32_59 : BitVec 32 := 1#32
  let arg15 : BitVec 32 := Scf.iv v144 c1_i32_59 k0_t2
  let v160 : Index := Scalar.indexCast arg15
  let c0_70 : Index := 0#32
  let c0_71 : Index := 0#32
  ![0, v160.toNat, 0, 0]
def k0_mult5 (i : grid0.Coords) (k0_t2 : Fin (k0_t2_loop i).trips) : BitVec 32 :=
  let arg1 : BitVec 32 := BitVec.ofNat 32 (i 1).val
  let c1_i32 : BitVec 32 := 1#32
  let v139 : BitVec 32 := Scalar.addi arg1 c1_i32
  let c8_i32 : BitVec 32 := 8#32
  let v140 : BitVec 32 := Scalar.subi c8_i32 v139
  let c1_i32_57 : BitVec 32 := 1#32
  let v142 : BitVec 32 := Scalar.divsi v140 c1_i32_57
  let v143 : BitVec 32 := Scalar.muli v142 c1_i32_57
  let v144 : BitVec 32 := Scalar.addi v139 v143
  let c1_i32_59 : BitVec 32 := 1#32
  let arg15 : BitVec 32 := Scf.iv v144 c1_i32_59 k0_t2
  let c1024_i32_78 : BitVec 32 := 1024#32
  let v169 : BitVec 32 := Scalar.muli arg15 c1024_i32_78
  let c0_i32_79 : BitVec 32 := 0#32
  let v170 : BitVec 32 := Scalar.addi v169 c0_i32_79
  v170
def k0_off8 (i : grid0.Coords) (k0_t2 : Fin (k0_t2_loop i).trips) (c0_i32_79 : BitVec 32) : Fin 2 → Nat :=
  let arg1 : BitVec 32 := BitVec.ofNat 32 (i 1).val
  let c1_i32 : BitVec 32 := 1#32
  let v139 : BitVec 32 := Scalar.addi arg1 c1_i32
  let c8_i32 : BitVec 32 := 8#32
  let v140 : BitVec 32 := Scalar.subi c8_i32 v139
  let c1_i32_57 : BitVec 32 := 1#32
  let v142 : BitVec 32 := Scalar.divsi v140 c1_i32_57
  let v143 : BitVec 32 := Scalar.muli v142 c1_i32_57
  let v144 : BitVec 32 := Scalar.addi v139 v143
  let c1_i32_59 : BitVec 32 := 1#32
  let arg15 : BitVec 32 := Scf.iv v144 c1_i32_59 k0_t2
  let c1024_i32_78 : BitVec 32 := 1024#32
  let v169 : BitVec 32 := Scalar.muli arg15 c1024_i32_78
  let v170 : BitVec 32 := Scalar.addi v169 c0_i32_79
  let v171 : BitVec 32 := v170
  let v172 : Index := Scalar.indexCast v171
  let c0_80 : Index := 0#32
  ![v172.toNat, 0]
def k0_off9 (i : grid0.Coords) (k0_t2 : Fin (k0_t2_loop i).trips) (c0_i32_79 : BitVec 32) : Fin 3 → Nat :=
  let c0_81 : Index := 0#32
  let arg1 : BitVec 32 := BitVec.ofNat 32 (i 1).val
  let c1_i32 : BitVec 32 := 1#32
  let v139 : BitVec 32 := Scalar.addi arg1 c1_i32
  let c8_i32 : BitVec 32 := 8#32
  let v140 : BitVec 32 := Scalar.subi c8_i32 v139
  let c1_i32_57 : BitVec 32 := 1#32
  let v142 : BitVec 32 := Scalar.divsi v140 c1_i32_57
  let v143 : BitVec 32 := Scalar.muli v142 c1_i32_57
  let v144 : BitVec 32 := Scalar.addi v139 v143
  let c1_i32_59 : BitVec 32 := 1#32
  let arg15 : BitVec 32 := Scf.iv v144 c1_i32_59 k0_t2
  let c1024_i32_78 : BitVec 32 := 1024#32
  let v169 : BitVec 32 := Scalar.muli arg15 c1024_i32_78
  let v170 : BitVec 32 := Scalar.addi v169 c0_i32_79
  let v171 : BitVec 32 := v170
  let v174 : Index := Scalar.indexCast v171
  let c0_82 : Index := 0#32
  ![0, v174.toNat, 0]
def k0_mult6 (i : grid0.Coords) (k0_t2 : Fin (k0_t2_loop i).trips) : BitVec 32 :=
  let arg1 : BitVec 32 := BitVec.ofNat 32 (i 1).val
  let c1_i32 : BitVec 32 := 1#32
  let v139 : BitVec 32 := Scalar.addi arg1 c1_i32
  let c8_i32 : BitVec 32 := 8#32
  let v140 : BitVec 32 := Scalar.subi c8_i32 v139
  let c1_i32_57 : BitVec 32 := 1#32
  let v142 : BitVec 32 := Scalar.divsi v140 c1_i32_57
  let v143 : BitVec 32 := Scalar.muli v142 c1_i32_57
  let v144 : BitVec 32 := Scalar.addi v139 v143
  let c1_i32_59 : BitVec 32 := 1#32
  let arg15 : BitVec 32 := Scf.iv v144 c1_i32_59 k0_t2
  let c1024_i32_94 : BitVec 32 := 1024#32
  let v215 : BitVec 32 := Scalar.muli arg15 c1024_i32_94
  let c512_i32_95 : BitVec 32 := 512#32
  let v216 : BitVec 32 := Scalar.addi v215 c512_i32_95
  v216
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "mask" => some ⊥
  | "scale" => some (((Real.sqrt 128)⁻¹ : ℝ) : EReal)
  | "scale2" => some (((Real.sqrt 128)⁻¹ * (Real.log 2)⁻¹ : ℝ) : EReal)
  | _ => none
-- ==== ReferenceIdeal.lean ====
abbrev S8192x3072 : Shape := ⟨2, ![8192, 3072]⟩
abbrev S8x8192 : Shape := ⟨2, ![8, 8192]⟩
abbrev S8192x1024 : Shape := ⟨2, ![8192, 1024]⟩
abbrev S8192x8x128 : Shape := ⟨3, ![8192, 8, 128]⟩
abbrev S8192 : Shape := ⟨1, ![8192]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S1x8192 : Shape := ⟨2, ![1, 8192]⟩
abbrev S8192x1 : Shape := ⟨2, ![8192, 1]⟩
abbrev S8192x8192 : Shape := ⟨2, ![8192, 8192]⟩
abbrev S8x128x8192 : Shape := ⟨3, ![8, 128, 8192]⟩
abbrev S8x8192x128 : Shape := ⟨3, ![8, 8192, 128]⟩
abbrev S8x8x1x1024 : Shape := ⟨4, ![8, 8, 1, 1024]⟩

abbrev nBuf : Space → Nat
  | .hbm => 123
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8x8192, .f32⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8192x8x128, .f32⟩
  | .hbm, ⟨6, _⟩ => ⟨S8192x1024, .bf16⟩
  | .hbm, ⟨7, _⟩ => ⟨S8192x1024, .f32⟩
  | .hbm, ⟨8, _⟩ => ⟨S8192x8x128, .f32⟩
  | .hbm, ⟨9, _⟩ => ⟨S8192x1024, .bf16⟩
  | .hbm, ⟨10, _⟩ => ⟨S8192x1024, .f32⟩
  | .hbm, ⟨11, _⟩ => ⟨S8192x8x128, .f32⟩
  | .hbm, ⟨12, _⟩ => ⟨S8192, .i32⟩
  | .hbm, ⟨13, _⟩ => ⟨S8x8192x8192, .f32⟩
  | .hbm, ⟨14, _⟩ => ⟨S_, .f32⟩
  | .hbm, ⟨15, _⟩ => ⟨S_, .f32⟩
  | .hbm, ⟨16, _⟩ => ⟨S8x8192x8192, .f32⟩
  | .hbm, ⟨17, _⟩ => ⟨S8x8192x8192, .f32⟩
  | .hbm, ⟨18, _⟩ => ⟨S8x8192x1, .f32⟩
  | .hbm, ⟨19, _⟩ => ⟨S8x1x8192, .f32⟩
  | .hbm, ⟨20, _⟩ => ⟨S8x8192x8192, .f32⟩
  | .hbm, ⟨21, _⟩ => ⟨S8x8192x8192, .f32⟩
  | .hbm, ⟨22, _⟩ => ⟨S8x8192x8192, .f32⟩
  | .hbm, ⟨23, _⟩ => ⟨S1x8192, .i32⟩
  | .hbm, ⟨24, _⟩ => ⟨S8192x1, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S8x8192x8192, .f32⟩
  | .hbm, ⟨29, _⟩ => ⟨S_, .f32⟩
  | .hbm, ⟨30, _⟩ => ⟨S_, .f32⟩
  | .hbm, ⟨31, _⟩ => ⟨S8x8192x8192, .i1⟩
  | .hbm, ⟨32, _⟩ => ⟨S8x8192x8192, .f32⟩
  | .hbm, ⟨33, _⟩ => ⟨S8x8192x8192, .f32⟩
  | .hbm, ⟨34, _⟩ => ⟨S_, .f32⟩
  | .hbm, ⟨35, _⟩ => ⟨S8x8192x8192, .f32⟩
  | .hbm, ⟨36, _⟩ => ⟨S_, .f32⟩
  | .hbm, ⟨37, _⟩ => ⟨S8x8192, .f32⟩
  | .hbm, ⟨38, _⟩ => ⟨S8x8192x1, .f32⟩
  | .hbm, ⟨39, _⟩ => ⟨S8x8192x8192, .f32⟩
  | .hbm, ⟨40, _⟩ => ⟨S8x8192x8192, .i1⟩
  | .hbm, ⟨41, _⟩ => ⟨S8x8192x8192, .f32⟩
  | .hbm, ⟨42, _⟩ => ⟨S_, .f32⟩
  | .hbm, ⟨43, _⟩ => ⟨S8x8192, .f32⟩
  | .hbm, ⟨44, _⟩ => ⟨S_, .f32⟩
  | .hbm, ⟨45, _⟩ => ⟨S8x8192, .f32⟩
  | .hbm, ⟨46, _⟩ => ⟨S8x8192, .f32⟩
  | .hbm, ⟨47, _⟩ => ⟨S_, .f32⟩
  | .hbm, ⟨48, _⟩ => ⟨S8x8192, .f32⟩
  | .hbm, ⟨49, _⟩ => ⟨S8x8192, .i1⟩
  | .hbm, ⟨50, _⟩ => ⟨S_, .f32⟩
  | .hbm, ⟨51, _⟩ => ⟨S8x8192, .f32⟩
  | .hbm, ⟨52, _⟩ => ⟨S8x8192, .i1⟩
  | .hbm, ⟨53, _⟩ => ⟨S_, .f32⟩
  | .hbm, ⟨54, _⟩ => ⟨S8x8192, .f32⟩
  | .hbm, ⟨55, _⟩ => ⟨S_, .f32⟩
  | .hbm, ⟨56, _⟩ => ⟨S8x8192, .f32⟩
  | .hbm, ⟨57, _⟩ => ⟨S_, .f32⟩
  | .hbm, ⟨58, _⟩ => ⟨S8x8192, .f32⟩
  | .hbm, ⟨59, _⟩ => ⟨S8x8192, .f32⟩
  | .hbm, ⟨60, _⟩ => ⟨S8x8192, .f32⟩
  | .hbm, ⟨61, _⟩ => ⟨S8x8192x1, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S_, .f32⟩
  | .hbm, ⟨66, _⟩ => ⟨S8x8192, .f32⟩
  | .hbm, ⟨67, _⟩ => ⟨S8x8192x1, .f32⟩
  | .hbm, ⟨68, _⟩ => ⟨S8x8192x8192, .f32⟩
  | .hbm, ⟨69, _⟩ => ⟨S8x8192x8192, .f32⟩
  | .hbm, ⟨70, _⟩ => ⟨S8x8192x1, .f32⟩
  | .hbm, ⟨71, _⟩ => ⟨S_, .f32⟩
  | .hbm, ⟨72, _⟩ => ⟨S8x8192x1, .f32⟩
  | .hbm, ⟨73, _⟩ => ⟨S8x8192x1, .f32⟩
  | .hbm, ⟨74, _⟩ => ⟨S8x128x8192, .f32⟩
  | .hbm, ⟨75, _⟩ => ⟨S8192x8x128, .f32⟩
  | .hbm, ⟨76, _⟩ => ⟨S8192x1024, .f32⟩
  | .hbm, ⟨77, _⟩ => ⟨S8192x8x128, .f32⟩
  | .hbm, ⟨78, _⟩ => ⟨S8x128x8192, .f32⟩
  | .hbm, ⟨79, _⟩ => ⟨S8x8192x8192, .f32⟩
  | .hbm, ⟨80, _⟩ => ⟨S8x128x8192, .f32⟩
  | .hbm, ⟨81, _⟩ => ⟨S8192x8x128, .f32⟩
  | .hbm, ⟨82, _⟩ => ⟨S8x8192x8192, .f32⟩
  | .hbm, ⟨83, _⟩ => ⟨S8x8192x8192, .f32⟩
  | .hbm, ⟨84, _⟩ => ⟨S8x8192x8192, .f32⟩
  | .hbm, ⟨85, _⟩ => ⟨S_, .f32⟩
  | .hbm, ⟨86, _⟩ => ⟨S8x8192, .f32⟩
  | .hbm, ⟨87, _⟩ => ⟨S8x8192x1, .f32⟩
  | .hbm, ⟨88, _⟩ => ⟨S8x8192x1, .f32⟩
  | .hbm, ⟨89, _⟩ => ⟨S8x8192x8192, .f32⟩
  | .hbm, ⟨90, _⟩ => ⟨S8x8192x8192, .f32⟩
  | .hbm, ⟨91, _⟩ => ⟨S_, .f32⟩
  | .hbm, ⟨92, _⟩ => ⟨S8x8192, .f32⟩
  | .hbm, ⟨93, _⟩ => ⟨S8x8192x8192, .f32⟩
  | .hbm, ⟨94, _⟩ => ⟨S8x8192x8192, .f32⟩
  | .hbm, ⟨95, _⟩ => ⟨S8x8192x8192, .f32⟩
  | .hbm, ⟨96, _⟩ => ⟨S_, .f32⟩
  | .hbm, ⟨97, _⟩ => ⟨S8x8192x8192, .f32⟩
  | .hbm, ⟨98, _⟩ => ⟨S8x8192x8192, .f32⟩
  | .hbm, ⟨99, _⟩ => ⟨S_, .f32⟩
  | .hbm, ⟨100, _⟩ => ⟨S8x8192, .f32⟩
  | .hbm, ⟨101, _⟩ => ⟨S8x8192x1, .f32⟩
  | .hbm, ⟨102, _⟩ => ⟨S8x8192x8192, .f32⟩
  | .hbm, ⟨103, _⟩ => ⟨S_, .f32⟩
  | .hbm, ⟨104, _⟩ => ⟨S8x8192, .f32⟩
  | .hbm, ⟨105, _⟩ => ⟨S8x1x8192, .f32⟩
  | .hbm, ⟨106, _⟩ => ⟨S_, .f32⟩
  | .hbm, ⟨107, _⟩ => ⟨S8x8192, .f32⟩
  | .hbm, ⟨108, _⟩ => ⟨S_, .f32⟩
  | .hbm, ⟨109, _⟩ => ⟨S8x8192, .f32⟩
  | .hbm, ⟨110, _⟩ => ⟨S8x8192, .f32⟩
  | .hbm, ⟨111, _⟩ => ⟨S8x8192x8192, .f32⟩
  | .hbm, ⟨112, _⟩ => ⟨S8x8192x8192, .f32⟩
  | .hbm, ⟨113, _⟩ => ⟨S8x8192x128, .f32⟩
  | .hbm, ⟨114, _⟩ => ⟨S8192x8x128, .f32⟩
  | .hbm, ⟨115, _⟩ => ⟨S8x8192x128, .f32⟩
  | .hbm, ⟨116, _⟩ => ⟨S8192x8x128, .f32⟩
  | .hbm, ⟨117, _⟩ => ⟨S8192x1024, .f32⟩
  | .hbm, ⟨118, _⟩ => ⟨S8192x1024, .f32⟩
  | .hbm, ⟨119, _⟩ => ⟨S8192x1024, .bf16⟩
  | .hbm, ⟨120, _⟩ => ⟨S8192x1024, .f32⟩
  | .hbm, ⟨121, _⟩ => ⟨S8192x1024, .bf16⟩
  | .hbm, ⟨122, _⟩ => ⟨S8x8x1x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_v25_1 : Ref sig .tc := ⟨.hbm, 31, rfl⟩
abbrev main_call0_v2 : Ref sig .tc := ⟨.hbm, 32, rfl⟩
abbrev main_v25_0 : Ref sig .tc := ⟨.hbm, 33, rfl⟩
abbrev main_call0_cst : Ref sig .tc := ⟨.hbm, 34, rfl⟩
abbrev main_v25_2 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_11 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call1_cst : Ref sig .tc := ⟨.hbm, 96, rfl⟩
abbrev main_call1_v0 : Ref sig .tc := ⟨.hbm, 97, rfl⟩
abbrev main_v74 : Ref sig .tc := ⟨.hbm, 98, rfl⟩
abbrev main_cst_13 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_14 : Ref sig .tc := ⟨.hbm, 103, rfl⟩
abbrev main_v78 : Ref sig .tc := ⟨.hbm, 104, rfl⟩
abbrev main_v79 : Ref sig .tc := ⟨.hbm, 105, rfl⟩
abbrev main_cst_15 : Ref sig .tc := ⟨.hbm, 106, rfl⟩
abbrev main_v80 : Ref sig .tc := ⟨.hbm, 107, rfl⟩
abbrev main_cst_16 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩

abbrev nD : Nat := 1
abbrev τ : Topo := Topo.v7x

variable {F : FTy → Type} [FloatOps F]
-- ==== Kernel2.lean ====
abbrev S2048x8192 : Shape := ⟨2, ![2048, 8192]⟩
abbrev S8192x6656 : Shape := ⟨2, ![8192, 6656]⟩
abbrev S2048x6656 : Shape := ⟨2, ![2048, 6656]⟩
abbrev S1024x2048 : Shape := ⟨2, ![1024, 2048]⟩
abbrev S2048x1664 : Shape := ⟨2, ![2048, 1664]⟩
abbrev S1024x1664 : Shape := ⟨2, ![1024, 1664]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x6656, .bf16⟩
  | .hbm, ⟨2, _⟩ => ⟨S2048x6656, .f32⟩
  | .local _ .vmem, ⟨0, _⟩ => ⟨S1024x2048, .bf16⟩
  | .local _ .vmem, ⟨1, _⟩ => ⟨S1024x2048, .bf16⟩
  | .local _ .vmem, ⟨2, _⟩ => ⟨S2048x1664, .bf16⟩
  | .local _ .vmem, ⟨3, _⟩ => ⟨S2048x1664, .bf16⟩
  | .local _ .vmem, ⟨4, _⟩ => ⟨S1024x1664, .f32⟩
  | .local _ .vmem, ⟨5, _⟩ => ⟨S1024x1664, .f32⟩
  | .local _ .vmem, ⟨6, _⟩ => ⟨S1024x1664, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x8192 : Shape := ⟨2, ![2048, 8192]⟩
abbrev S8192x6656 : Shape := ⟨2, ![8192, 6656]⟩
abbrev S8192x2048 : Shape := ⟨2, ![8192, 2048]⟩
abbrev S_ : Shape := ⟨0, ![]⟩
abbrev S2048x6656 : Shape := ⟨2, ![2048, 6656]⟩
abbrev S6656x2048 : Shape := ⟨2, ![6656, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x6656, .bf16⟩
  | .hbm, ⟨2, _⟩ => ⟨S8192x2048, .bf16⟩
  | .hbm, ⟨3, _⟩ => ⟨S8192x2048, .f32⟩
  | .hbm, ⟨4, _⟩ => ⟨S_, .f32⟩
  | .hbm, ⟨5, _⟩ => ⟨S2048x6656, .f32⟩
  | .hbm, ⟨6, _⟩ => ⟨S8192x6656, .f32⟩
  | .hbm, ⟨7, _⟩ => ⟨S8192x6656, .f32⟩
  | .hbm, ⟨8, _⟩ => ⟨S6656x2048, .f32⟩
  | .hbm, ⟨9, _⟩ => ⟨S2048x6656, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S2048x8192 : Shape := ⟨2, ![2048, 8192]⟩
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x8192 : Shape := ⟨2, ![2048, 8192]⟩
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S8192x2048, .bf16⟩
  | .hbm, ⟨3, _⟩ => ⟨S8192x2048, .f32⟩
  | .hbm, ⟨4, _⟩ => ⟨S_, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S2048x2048, .f32⟩
  | .hbm, ⟨9, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x2048 : Shape := ⟨2, ![8192, 2048]⟩
abbrev S2048x6656 : Shape := ⟨2, ![2048, 6656]⟩
abbrev S8192x3072 : Shape := ⟨2, ![8192, 3072]⟩
abbrev S2048x2048 : Shape := ⟨2, ![2048, 2048]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6656, .bf16⟩
  | .hbm, ⟨2, _⟩ => ⟨S8192x3072, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi arg1 c3_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S2048x6656 : Shape := ⟨2, ![2048, 6656]⟩
abbrev S2048x3072 : Shape := ⟨2, ![2048, 3072]⟩
abbrev S8192x3072 : Shape := ⟨2, ![8192, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6656, .bf16⟩
  | .hbm, ⟨2, _⟩ => ⟨S8192x2048, .f32⟩
  | .hbm, ⟨3, _⟩ => ⟨S2048x3072, .bf16⟩
  | .hbm, ⟨4, _⟩ => ⟨S2048x3072, .f32⟩
  | .hbm, ⟨5, _⟩ => ⟨S8192x3072, .f32⟩
  | .hbm, ⟨6, _⟩ => ⟨S8192x3072, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S8192x2048 : Shape := ⟨2, ![8192, 2048]⟩
abbrev S2048x6656 : Shape := ⟨2, ![2048, 6656]⟩
abbrev S2048x2048 : Shape := ⟨2, ![2048, 2048]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6656, .bf16⟩
  | .hbm, ⟨2, _⟩ => ⟨S8192x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.addi arg1 c9_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2048 : Shape := ⟨2, ![8192, 2048]⟩
abbrev S2048x6656 : Shape := ⟨2, ![2048, 6656]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6656, .bf16⟩
  | .hbm, ⟨2, _⟩ => ⟨S8192x2048, .f32⟩
  | .hbm, ⟨3, _⟩ => ⟨S2048x2048, .bf16⟩
  | .hbm, ⟨4, _⟩ => ⟨S2048x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8192x2048 : Shape := ⟨2, ![8192, 2048]⟩
abbrev S8192x1024 : Shape := ⟨2, ![8192, 1024]⟩
abbrev S8x8x1x1024 : Shape := ⟨4, ![8, 8, 1, 1024]⟩
abbrev S1024x128 : Shape := ⟨2, ![1024, 128]⟩
abbrev S1x1x1x1024 : Shape := ⟨4, ![1, 1, 1, 1024]⟩
abbrev S1024 : Shape := ⟨1, ![1024]⟩
abbrev S1024x1 : Shape := ⟨2, ![1024, 1]⟩
abbrev S128x1024 : Shape := ⟨2, ![128, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .f32⟩
  | .hbm, ⟨3, _⟩ => ⟨S8192x1024, .bf16⟩
  | .hbm, ⟨4, _⟩ => ⟨S8192x1024, .bf16⟩
  | .hbm, ⟨5, _⟩ => ⟨S8x8x1x1024, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1x1x1x1024, .f32⟩
  | .local _ .vmem, ⟨11, _⟩ => ⟨S1x1x1x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S8192x2048 : Shape := ⟨2, ![8192, 2048]⟩
abbrev S8192x1024 : Shape := ⟨2, ![8192, 1024]⟩
abbrev S_ : Shape := ⟨0, ![]⟩
abbrev S8192x8x128 : Shape := ⟨3, ![8192, 8, 128]⟩
abbrev S8192x8 : Shape := ⟨2, ![8192, 8]⟩
abbrev S8x8192 : Shape := ⟨2, ![8, 8192]⟩
abbrev S8x8x1x1024 : Shape := ⟨4, ![8, 8, 1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | .hbm, ⟨26, _⟩ => ⟨S8192x1024, .f32⟩
  | .hbm, ⟨27, _⟩ => ⟨S8192x1024, .f32⟩
  | .hbm, ⟨28, _⟩ => ⟨S8192x8x128, .f32⟩
  | .hbm, ⟨29, _⟩ => ⟨S_, .f32⟩
  | .hbm, ⟨30, _⟩ => ⟨S8192x8, .f32⟩
  | .hbm, ⟨31, _⟩ => ⟨S8192x1024, .bf16⟩
  | .hbm, ⟨32, _⟩ => ⟨S8192x1024, .bf16⟩
  | .hbm, ⟨33, _⟩ => ⟨S8x8192, .f32⟩
  | .hbm, ⟨34, _⟩ => ⟨S8x8x1x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== Kernel9.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference9Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel10.lean ====
abbrev S1666x2048 : Shape := ⟨2, ![1666, 2048]⟩
abbrev S1666x256 : Shape := ⟨2, ![1666, 256]⟩

abbrev nBuf : Space → Nat
  | .hbm => 7
  | .vmem => 14
  | .smem => 0
  | _ => 0

abbrev bufTy : (tb : Table) → Fin (tcTables nBuf tb) → BufTy
  | .hbm, ⟨0, _⟩ => ⟨S1666x2048, .f32⟩
  | .hbm, ⟨1, _⟩ => ⟨S1666x2048, .f32⟩
  | .hbm, ⟨2, _⟩ => ⟨S1666x2048, .f32⟩
  | .hbm, ⟨3, _⟩ => ⟨S1666x2048, .f32⟩
  | .hbm, ⟨4, _⟩ => ⟨S1666x2048, .f32⟩
  | .hbm, ⟨5, _⟩ => ⟨S1666x2048, .f32⟩
  | .hbm, ⟨6, _⟩ => ⟨S1666x2048, .f32⟩
  | .local _ .vmem, ⟨0, _⟩ => ⟨S1666x256, .f32⟩
  | .local _ .vmem, ⟨1, _⟩ => ⟨S1666x256, .f32⟩
  | .local _ .vmem, ⟨2, _⟩ => ⟨S1666x256, .f32⟩
  | .local _ .vmem, ⟨3, _⟩ => ⟨S1666x256, .f32⟩
  | .local _ .vmem, ⟨4, _⟩ => ⟨S1666x256, .f32⟩
  | .local _ .vmem, ⟨5, _⟩ => ⟨S1666x256, .f32⟩
  | .local _ .vmem, ⟨6, _⟩ => ⟨S1666x256, .f32⟩
  | .local _ .vmem, ⟨7, _⟩ => ⟨S1666x256, .f32⟩
  | .local _ .vmem, ⟨8, _⟩ => ⟨S1666x256, .f32⟩
  | .local _ .vmem, ⟨9, _⟩ => ⟨S1666x256, .f32⟩
  | .local _ .vmem, ⟨10, _⟩ => ⟨S1666x256, .f32⟩
  | .local _ .vmem, ⟨11, _⟩ => ⟨S1666x256, .f32⟩
  | .local _ .vmem, ⟨12, _⟩ => ⟨S1666x256, .f32⟩
  | .local _ .vmem, ⟨13, _⟩ => ⟨S1666x256, .f32⟩
  | _, _ => ⟨S1666x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1666x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1666x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1666x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1666x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1666x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1666x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1666x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference10Ideal.lean ====
abbrev S1666x2048 : Shape := ⟨2, ![1666, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1666x2048, .f32⟩
  | .hbm, ⟨1, _⟩ => ⟨S1666x2048, .f32⟩
  | .hbm, ⟨2, _⟩ => ⟨S1666x2048, .f32⟩
  | .hbm, ⟨3, _⟩ => ⟨S1666x2048, .f32⟩
  | .hbm, ⟨4, _⟩ => ⟨S_, .f32⟩
  | .hbm, ⟨5, _⟩ => ⟨S1666x2048, .f32⟩
  | .hbm, ⟨6, _⟩ => ⟨S1666x2048, .f32⟩
  | .hbm, ⟨7, _⟩ => ⟨S_, .f32⟩
  | .hbm, ⟨8, _⟩ => ⟨S1666x2048, .f32⟩
  | .hbm, ⟨9, _⟩ => ⟨S1666x2048, .f32⟩
  | .hbm, ⟨10, _⟩ => ⟨S1666x2048, .f32⟩
  | .hbm, ⟨11, _⟩ => ⟨S_, .f32⟩
  | .hbm, ⟨12, _⟩ => ⟨S1666x2048, .f32⟩
  | .hbm, ⟨13, _⟩ => ⟨S1666x2048, .f32⟩
  | .hbm, ⟨14, _⟩ => ⟨S1666x2048, .f32⟩
  | .hbm, ⟨15, _⟩ => ⟨S_, .f32⟩
  | .hbm, ⟨16, _⟩ => ⟨S1666x2048, .f32⟩
  | .hbm, ⟨17, _⟩ => ⟨S1666x2048, .f32⟩
  | .hbm, ⟨18, _⟩ => ⟨S1666x2048, .f32⟩
  | .hbm, ⟨19, _⟩ => ⟨S_, .f32⟩
  | .hbm, ⟨20, _⟩ => ⟨S1666x2048, .f32⟩
  | .hbm, ⟨21, _⟩ => ⟨S1666x2048, .f32⟩
  | .hbm, ⟨22, _⟩ => ⟨S_, .f32⟩
  | .hbm, ⟨23, _⟩ => ⟨S1666x2048, .f32⟩
  | .hbm, ⟨24, _⟩ => ⟨S1666x2048, .f32⟩
  | .hbm, ⟨25, _⟩ => ⟨S1666x2048, .f32⟩
  | .hbm, ⟨26, _⟩ => ⟨S_, .f32⟩
  | .hbm, ⟨27, _⟩ => ⟨S1666x2048, .f32⟩
  | .hbm, ⟨28, _⟩ => ⟨S1666x2048, .f32⟩
  | .hbm, ⟨29, _⟩ => ⟨S1666x2048, .f32⟩
  | .hbm, ⟨30, _⟩ => ⟨S_, .f32⟩
  | .hbm, ⟨31, _⟩ => ⟨S1666x2048, .f32⟩
  | .hbm, ⟨32, _⟩ => ⟨S1666x2048, .f32⟩
  | .hbm, ⟨33, _⟩ => ⟨S1666x2048, .f32⟩
  | .hbm, ⟨34, _⟩ => ⟨S_, .f32⟩
  | .hbm, ⟨35, _⟩ => ⟨S1666x2048, .f32⟩
  | .hbm, ⟨36, _⟩ => ⟨S1666x2048, .f32⟩
  | _, _ => ⟨S1666x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference11Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.BodyRun.lean ====
/- The backward body run once at a symbolic grid point: what it leaves in each output as a function of what it finds. -/
module

public import proofs.«01_k».proof.Proof.Gen.KernelIdeal.Loops
public import proofs.«01_k».proof.Proof.Gen.KernelIdeal.Frame
public import Idealize.ShloMosaic.Lib.LoopRemainder
public import Idealize.ShloMosaic.Lib.VecWindow

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The point is the first of its head: there the body clears the query gradient. -/
abbrev firstTile (i : grid0.Coords) : Prop := (Scalar.cmpi .ne (Scalar.extui (Scalar.cmpi .eq (BitVec.ofNat 32 (i 1).val) 0#32)) 0#32) = 1#1

variable (c : Dev nD) (i : grid0.Coords) (arg2 : Memref sig .tc .vmem S1024x128 .bf16) (harg2 : arg2.IsWhole) (arg3 : Memref sig .tc .vmem S1x1024x128 .bf16) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S1x8192x128 .bf16) (harg6 : arg6.IsWhole) (arg7 : Memref sig .tc .vmem S8192x128 .bf16) (harg7 : arg7.IsWhole) (arg8 : Memref sig .tc .vmem S1x8x1x1024 .f32) (harg8 : arg8.IsWhole) (arg9 : Memref sig .tc .vmem S1x8x1x1024 .f32) (harg9 : arg9.IsWhole) (arg10 : Memref sig .tc .vmem S1x8x1x1024 .f32) (harg10 : arg10.IsWhole) (arg11 : Memref sig .tc .vmem S8192x128 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x1x1x1024 .f32) (harg14 : arg14.IsWhole)

set_option maxHeartbeats 4000000 in
/-- The body at a later tile of its head: the query gradient it finds (`d9`) is added to; the other outputs are stored whole. -/
def runLater (hc : ¬ firstTile i)
    (x0 : Vec F S1024x128 .bf16) (x1 : Vec F S1x1024x128 .bf16) (x2 : Vec F S1024x128 .bf16) (x3 : Vec F S8192x128 .bf16) (x4 : Vec F S1x8192x128 .bf16) (x5 : Vec F S8192x128 .bf16) (x6 : Vec F S1x8x1x1024 .f32) (x7 : Vec F S1x8x1x1024 .f32) (x8 : Vec F S1x8x1x1024 .f32) (d9 : Vec F S8192x128 .f32) :
    Σ' (o9 : Vec F S8192x128 .f32) (o10 : Vec F S1024x128 .bf16) (o11 : Vec F S1024x128 .bf16),
    { o12 : Vec F S1x1x1x1024 .f32 // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare d9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare o9 ∗ owns (c : Thread nD τ) arg12 fullShare o10 ∗ owns (c : Thread nD τ) arg13 fullShare o11 ∗ owns (c : Thread nD τ) arg14 fullShare o12) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun E K => ?run⟩
  case run =>
    simp only [cc0_fox_bwd_eq_skeleton]; unfold cc0_fox_bwd_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; rfl
    isplitl [H10]
    · iexists _; isplitr; swap; · iexact H10
      ipureintro; exact View.read_writes_full _ _ _ _ _
    isplitl [H11]
    · iexists _; isplitr; swap; · iexact H11
      ipureintro; exact View.read_writes_full _ _ _ _ _
    iexists _; isplitr; swap; · iexact H12
    ipureintro; exact View.read_writes_full _ _ _ _ _

end Cert.KernelIdeal.Fox

end
-- ==== Proof.BodyRunFirst.lean ====
/- The backward body run once at a symbolic grid point: what it leaves in each output as a function of what it finds. -/
module

public import proofs.«01_k».proof.Proof.Gen.KernelIdeal.Loops
public import proofs.«01_k».proof.Proof.Gen.KernelIdeal.Frame
public import proofs.«01_k».proof.Proof.BodyRun
public import Idealize.ShloMosaic.Lib.VecWindow

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (c : Dev nD) (i : grid0.Coords) (arg2 : Memref sig .tc .vmem S1024x128 .bf16) (harg2 : arg2.IsWhole) (arg3 : Memref sig .tc .vmem S1x1024x128 .bf16) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S1x8192x128 .bf16) (harg6 : arg6.IsWhole) (arg7 : Memref sig .tc .vmem S8192x128 .bf16) (harg7 : arg7.IsWhole) (arg8 : Memref sig .tc .vmem S1x8x1x1024 .f32) (harg8 : arg8.IsWhole) (arg9 : Memref sig .tc .vmem S1x8x1x1024 .f32) (harg9 : arg9.IsWhole) (arg10 : Memref sig .tc .vmem S1x8x1x1024 .f32) (harg10 : arg10.IsWhole) (arg11 : Memref sig .tc .vmem S8192x128 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x1x1x1024 .f32) (harg14 : arg14.IsWhole)

set_option maxHeartbeats 4000000 in
/-- The body at the first tile of a head: the query gradient is cleared, whatever it holds (`d9`), and then added to, so
    that nothing it leaves depends on `d9`. -/
def runFirst (hc : firstTile i)
    (x0 : Vec F S1024x128 .bf16) (x1 : Vec F S1x1024x128 .bf16) (x2 : Vec F S1024x128 .bf16) (x3 : Vec F S8192x128 .bf16) (x4 : Vec F S1x8192x128 .bf16) (x5 : Vec F S8192x128 .bf16) (x6 : Vec F S1x8x1x1024 .f32) (x7 : Vec F S1x8x1x1024 .f32) (x8 : Vec F S1x8x1x1024 .f32) :
    Σ' (o9 : Vec F S8192x128 .f32) (o10 : Vec F S1024x128 .bf16) (o11 : Vec F S1024x128 .bf16),
    { o12 : Vec F S1x1x1x1024 .f32 // ∀ (d9 : Vec F S8192x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare d9 ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare o9 ∗ owns (c : Thread nD τ) arg12 fullShare o10 ∗ owns (c : Thread nD τ) arg13 fullShare o11 ∗ owns (c : Thread nD τ) arg14 fullShare o12) -∗ K ⟨⟩))
          ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, fun d9 E K => ?run⟩
  case run =>
    simp only [cc0_fox_bwd_eq_skeleton]; unfold cc0_fox_bwd_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; swap; · iexact H9
      ipureintro; rfl
    isplitl [H10]
    · iexists _; isplitr; swap; · iexact H10
      ipureintro; exact View.read_writes_full _ _ _ _ _
    isplitl [H11]
    · iexists _; isplitr; swap; · iexact H11
      ipureintro; exact View.read_writes_full _ _ _ _ _
    iexists _; isplitr; swap; · iexact H12
    ipureintro; exact View.read_writes_full _ _ _ _ _

end Cert.KernelIdeal.Fox

end
-- ==== Proof.FoxRun.lean ====
/- The run of the idealized kernel: what every window holds at every grid point, the body's obligation, and the run of
   the whole program to the arrays the write-backs leave. -/
module

public import proofs.«01_k».proof.Proof.BodyRunFirst
public import Idealize.ShloMosaic.Lib.Claim

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The staging memrefs and the branch -/

abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S8192x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x8192x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S8192x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x8x1x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x8x1x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x8x1x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S8192x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S1024x128 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S1024x128 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x1x1x1024 .f32 := win0_12.stage (cfg0.slots t 12)
abbrev hs12 (t : Fin cfg0.N) : (ms12 t).IsWhole := hstage0_12 ((cfg0.slots t 12).cast nbuf0_12)

/-- The first tile of a head is the point `t ≡ 0 (mod 8)`. -/
theorem firstTile_iff : ∀ t : Fin cfg0.N, firstTile (grid0.coords t) ↔ t.val % 8 = 0 :=
  (fun t => by
    have ht : t.val < 64 := Nat.lt_of_lt_of_eq t.isLt N_0
    have e1 : (grid0.coords t 1).val = t.val / 1 % 8 := Pipeline.Grid.coords_val t 1 (by decide) rfl
    simp only [firstTile, e1]
    word_cmp
   : ∀ t : Fin grid0.N, firstTile (grid0.coords t) ↔ t.val % 8 = 0)

/-! ## What the outputs hold, point by point -/

/-- The contents of the four output buffers. -/
abbrev Outs (F : FTy → Type) : Type := Vec F S8192x128 .f32 × Vec F S1024x128 .bf16 × Vec F S1024x128 .bf16 × Vec F S1x1x1x1024 .f32

/-- What the body leaves at the first tile of a head. -/
def firstAt (c : Dev nD) (t : Fin cfg0.N) (h : t.val % 8 = 0) : Outs F :=
  let r := runFirst c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) ((firstTile_iff t).mpr h) (iblk m c 0 t) (iblk m c 1 t) (iblk m c 2 t) (iblk m c 3 t) (iblk m c 4 t) (iblk m c 5 t) (iblk m c 6 t) (iblk m c 7 t) (iblk m c 8 t)
  (r.1, r.2.1, r.2.2.1, r.2.2.2.1)

/-- What the body leaves at a later tile, the query gradient so far being `d9`. -/
def laterAt (c : Dev nD) (t : Fin cfg0.N) (h : ¬ t.val % 8 = 0) (d9 : Vec F S8192x128 .f32) : Outs F :=
  let r := runLater c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (fun hh => h ((firstTile_iff t).mp hh)) (iblk m c 0 t) (iblk m c 1 t) (iblk m c 2 t) (iblk m c 3 t) (iblk m c 4 t) (iblk m c 5 t) (iblk m c 6 t) (iblk m c 7 t) (iblk m c 8 t) d9
  (r.1, r.2.1, r.2.2.1, r.2.2.2.1)

/-- What the body leaves at every point: the query gradient is handed on from tile to tile of a head. -/
def outsAt (c : Dev nD) : (n : ℕ) → n < cfg0.N → Outs F
  | 0, h => firstAt m c ⟨0, h⟩ rfl
  | n + 1, h =>
    if h0 : (n + 1) % 8 = 0 then firstAt m c ⟨n + 1, h⟩ h0
    else laterAt m c ⟨n + 1, h⟩ h0 (outsAt c n (Nat.lt_of_succ_lt h)).1

theorem outsAt_first (c : Dev nD) (t : Fin cfg0.N) (h : t.val % 8 = 0) : outsAt m c t.val t.isLt = firstAt m c t h := by
  obtain ⟨n, hn⟩ := t
  cases n with
  | zero => rw [outsAt]
  | succ n => rw [outsAt, dif_pos h]

theorem outsAt_later (c : Dev nD) (t : Fin cfg0.N) (h : ¬ t.val % 8 = 0) :
    outsAt m c t.val t.isLt
      = laterAt m c t h (outsAt m c (t.val - 1) (Nat.lt_of_le_of_lt (Nat.sub_le _ _) t.isLt)).1 := by
  obtain ⟨n, hn⟩ := t
  cases n with
  | zero => exact absurd rfl h
  | succ n => rw [outsAt, dif_neg h]; rfl

/-! ## The proof data -/

/-- The arrays as the region finds them, each input's buffer at its block, the outputs at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt m c t.val t.isLt).1
    | ⟨10, _⟩ => (outsAt m c t.val t.isLt).2.1
    | ⟨11, _⟩ => (outsAt m c t.val t.isLt).2.2.1
    | ⟨12, _⟩ => (outsAt m c t.val t.isLt).2.2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = (outsAt m c t.val t.isLt).1 := by dsimp only [dats]
theorem after_10 (c : Dev nD) (t : Fin cfg0.N) : (dats m 0 c).after 10 t = (outsAt m c t.val t.isLt).2.1 := by dsimp only [dats]
theorem after_11 (c : Dev nD) (t : Fin cfg0.N) : (dats m 0 c).after 11 t = (outsAt m c t.val t.isLt).2.2.1 := by dsimp only [dats]
theorem after_12 (c : Dev nD) (t : Fin cfg0.N) : (dats m 0 c).after 12 t = (outsAt m c t.val t.isLt).2.2.2 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- At a later tile the query-gradient buffer holds what the tile before left. -/
theorem before_9 (c : Dev nD) (t : Fin cfg0.N) (h : ¬ t.val % 8 = 0) (d) :
    (dats m 0 c).before 9 t d = (outsAt m c (t.val - 1) (Nat.lt_of_le_of_lt (Nat.sub_le _ _) t.isLt)).1 := by
  have hN : t.val < 64 := lt_of_lt_of_eq t.isLt (show cfg0.N = 64 from N_0)
  rw [Dat.before_out_kept _ 9 rfl t (by omega)
    (Bool.eq_false_iff.mpr fun h => by have := (flush0_9 _).mp h; dsimp only at this; omega) (fun _ => rfl) (fun _ _ => rfl)]
  dsimp only [dats]

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t))

set_option maxHeartbeats 2400000 in
/-- The body at any point: the inputs hold their blocks; at the first tile of a head the query gradient's buffer may hold
    anything, at a later one it holds what the tile before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12]
  by_cases h0 : t.val % 8 = 0
  · rw [outsAt_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runFirst c (grid0.coords t) _ _ _ _ _ _ _ _ _ _ _ _ _ _ _ _ _ _ _ _ _ _ _ _ _ _ ((firstTile_iff t).mpr h0) (iblk m c 0 t) (iblk m c 1 t) (iblk m c 2 t) (iblk m c 3 t) (iblk m c 4 t) (iblk m c 5 t) (iblk m c 6 t) (iblk m c 7 t) (iblk m c 8 t)).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [outsAt_later m c t h0]
    simp only [before_9 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runLater c (grid0.coords t) _ _ _ _ _ _ _ _ _ _ _ _ _ _ _ _ _ _ _ _ _ _ _ _ _ _ (fun hh => h0 ((firstTile_iff t).mp hh)) (iblk m c 0 t) (iblk m c 1 t) (iblk m c 2 t) (iblk m c 3 t) (iblk m c 4 t) (iblk m c 5 t) (iblk m c 6 t) (iblk m c 7 t) (iblk m c 8 t) (outsAt m c (t.val - 1) (Nat.lt_of_le_of_lt (Nat.sub_le _ _) t.isLt)).1).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    iintro ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The program runs to the arrays its write-backs leave, every semaphore counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.KernelIdeal.Fox

end
-- ==== Proof.FoxClaims.lean ====
/- The frames of the three programs and the meaning of the named constants. -/
module

public import proofs.«01_k».proof.Defs
public import proofs.«01_k».proof.Proof.FoxRun
public import proofs.«01_k».proof.Proof.Gen.Kernel
public import proofs.«01_k».proof.Proof.PrintedFoxRun
public import proofs.«01_k».proof.Proof.Gen.ReferenceIdeal
public import proofs.«01_k».proof.Proof.Gen.ReferenceIdeal.Run
public import Idealize.ShloMosaic.Adequacy

@[expose] public section

noncomputable section

namespace Cert.FoxClaims

open Idealize.ShloMosaic Idealize.SL.Sem

/-- The kernel as printed terminates, leaves its arguments and ends with its semaphores at zero. -/
theorem frame_kernel : Cert.quiescent_Kernel := fun m ρ _ => Cert.Kernel.Fox.frame m ρ

/-- So does the kernel over the extended reals. -/
theorem frame_ideal : Cert.quiescent_KernelIdeal := fun m ρ _ => Cert.KernelIdeal.Fox.frame m ρ

/-- And the reference. -/
theorem frame_reference : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- Each named constant of the kernel is the word that its name stands for. -/
theorem preserves : Cert.preserves_Kernel_KernelIdeal :=
  ⟨IdealRules.named_const.statement Cert.KernelIdeal.κ "scale2" .f32 0x3E0293EE#32 _ rfl,
    IdealRules.named_const.statement Cert.KernelIdeal.κ "mask" .f32 0xF149F2CA#32 _ rfl,
    IdealRules.named_const.statement Cert.KernelIdeal.κ "scale" .f32 0x3DB504F3#32 _ rfl⟩

end Cert.FoxClaims

end
-- ==== Proof.FoxPay.lean ====
/- The body's payloads read at an index over the extended reals: every half of a query tile adds its part of one sum over
   the queries. -/
module

public import proofs.«01_k».proof.Proof.Gen.KernelIdeal.Loops
public import Idealize.ShloMosaic.Lib.Pointwise
public import Idealize.ShloMosaic.Lib.WordCmp

@[expose] public section

set_option maxRecDepth 16384

noncomputable section

namespace Cert.KernelIdeal.Fox

open Cert.KernelIdeal.Gen
open Idealize.ShloMosaic

/-! ## Sums over the queries, half a tile at a time -/

theorem lo_lt (c : Fin 512) : c.val < 1024 := by omega
theorem hi_lt (c : Fin 512) : 512 + c.val < 1024 := by omega
theorem div_lt (q : Fin 8192) : q.val / 1024 < 8 := by omega
theorem mod_lt (q : Fin 8192) : q.val % 1024 < 1024 := by omega
theorem qix_lt (B : ℕ) (h : B < 16) (c : Fin 512) : 512 * B + c.val < 8192 := by omega

/-- Query `c` of half tile `B`. -/
def qix (B : ℕ) (h : B < 16) (c : Fin 512) : Fin 8192 := ⟨512 * B + c, qix_lt B h c⟩

/-- The sum over the queries of the first `B` half tiles. -/
def sumTo {M : Type} [AddCommMonoid M] (B : ℕ) (f : Fin 8192 → M) : M := ∑ q : Fin 8192, if q.val < 512 * B then f q else 0

theorem sumTo_succ {M : Type} [AddCommMonoid M] (B : ℕ) (h : B < 16) (f : Fin 8192 → M) :
    sumTo (B + 1) f = sumTo B f + ∑ c, f (qix B h c) := by
  have e : ∀ q : Fin 8192, (if q.val < 512 * (B + 1) then f q else 0)
      = (if q.val < 512 * B then f q else 0) + (if 512 * B ≤ q.val ∧ q.val < 512 * (B + 1) then f q else 0) := by
    intro q
    by_cases h1 : q.val < 512 * B
    · rw [if_pos h1, if_pos (by omega), if_neg (by omega), add_zero]
    · by_cases h2 : q.val < 512 * (B + 1)
      · rw [if_neg h1, if_pos h2, if_pos (by omega), zero_add]
      · rw [if_neg h1, if_neg h2, if_neg (by omega), zero_add]
  unfold sumTo
  rw [Finset.sum_congr rfl fun q _ => e q, Finset.sum_add_distrib]
  congr 1
  rw [← Finset.sum_filter]
  refine Finset.sum_nbij' (i := fun q => ⟨(q.val - 512 * B) % 512, Nat.mod_lt _ (by norm_num)⟩) (j := qix B h) ?_ ?_ ?_ ?_ ?_
  · intro q _; exact Finset.mem_univ _
  · intro c _
    rw [Finset.mem_filter]
    exact ⟨Finset.mem_univ _, by show 512 * B ≤ 512 * B + c.val ∧ 512 * B + c.val < 512 * (B + 1); omega⟩
  · intro q hq
    rw [Finset.mem_filter] at hq
    exact Fin.ext (by show 512 * B + (q.val - 512 * B) % 512 = q.val; omega)
  · intro c _
    exact Fin.ext (by show (512 * B + c.val - 512 * B) % 512 = c.val; omega)
  · intro q hq
    rw [Finset.mem_filter] at hq
    exact congrArg f (Fin.ext (by show q.val = 512 * B + (q.val - 512 * B) % 512; omega))

theorem sumTo_zero {M : Type} [AddCommMonoid M] (B : ℕ) (f : Fin 8192 → M) (h : ∀ q : Fin 8192, q.val < 512 * B → f q = 0) :
    sumTo B f = 0 :=
  Finset.sum_eq_zero fun q _ => by
    by_cases hq : q.val < 512 * B
    · rw [if_pos hq, h q hq]
    · rw [if_neg hq]

theorem sumTo_all {M : Type} [AddCommMonoid M] (f : Fin 8192 → M) : sumTo 16 f = ∑ q, f q :=
  Finset.sum_congr rfl fun q _ => if_pos (by omega)

/-! ## One pair of a key and a query -/

/-- The factor of the scores, the factor of the gradients and the masked score. -/
def s2 : EReal := (Named.named (F := Ideal) κ "scale2" 0x3E0293EE#32 : Ideal .f32)
def s1 : EReal := (Named.named (F := Ideal) κ "scale" 0x3DB504F3#32 : Ideal .f32)
def mk : EReal := (Named.named (F := Ideal) κ "mask" 0xF149F2CA#32 : Ideal .f32)

theorem s2_eq : s2 = (((Real.sqrt 128)⁻¹ * (Real.log 2)⁻¹ : ℝ) : EReal) := rfl
theorem s1_eq : s1 = (((Real.sqrt 128)⁻¹ : ℝ) : EReal) := rfl
theorem mk_eq : mk = ⊥ := rfl

/-- An unmasked probability from its key's and its query's rows. -/
def pE (kr kar qr qar : Fin 128 → EReal) (m l : EReal) : EReal :=
  Ideal.exp2 ((∑ d, kr d * qr d + ∑ d, kar d * qar d) * s2 - m) * l

/-- A row's entry for query `q`. -/
def rowAt (x : Vec Ideal S1x8x1x1024 .f32) (q : Fin 8192) : EReal :=
  x (ix4 0 (⟨q.val / 1024, div_lt q⟩ : Fin 8) 0 (⟨q.val % 1024, mod_lt q⟩ : Fin 1024))

section Pair

variable (j : ℕ) (x0 : Vec Ideal S1024x128 .bf16) (x1 : Vec Ideal S1x1024x128 .bf16) (x2 : Vec Ideal S1024x128 .bf16)
  (x3 : Vec Ideal S8192x128 .bf16) (x4 : Vec Ideal S1x8192x128 .bf16) (x5 : Vec Ideal S8192x128 .bf16)
  (x6 x7 x8 : Vec Ideal S1x8x1x1024 .f32)

/-- The probability of key `r` of tile `j` for query `q`. -/
def prob (r : Fin 1024) (q : Fin 8192) : EReal :=
  if 1024 * j + r.val ≤ q.val then
    pE (fun d => x0 (ix2 r d)) (fun d => x1 (ix3 0 r d)) (fun d => x3 (ix2 q d)) (fun d => x4 (ix3 0 q d)) (rowAt x6 q) (rowAt x7 q)
  else 0

/-- The gradient of the score of key `r` for query `q`. -/
def dsc (r : Fin 1024) (q : Fin 8192) : EReal :=
  prob j x0 x1 x3 x4 x6 x7 r q * ((∑ d, x2 (ix2 r d) * x5 (ix2 q d)) - rowAt x8 q)

theorem dsc_before (r : Fin 1024) (q : Fin 8192) (h : ¬ 1024 * j + r.val ≤ q.val) : dsc j x0 x1 x2 x3 x4 x5 x6 x7 x8 r q = 0 := by
  rw [dsc, prob, if_neg h, zero_mul]

variable (B : ℕ) (hB : B < 16) (q : Vec Ideal S512x128 .bf16) (qa : Vec Ideal S1x512x128 .bf16) (o : Vec Ideal S512x128 .bf16)
  (M L D : Vec Ideal S1x1x1x1024 .f32)
  (hq : ∀ c d, q (ix2 c d) = x3 (ix2 (qix B hB c) d)) (hqa : ∀ c d, qa (ix3 0 c d) = x4 (ix3 0 (qix B hB c) d))
  (ho : ∀ c d, o (ix2 c d) = x5 (ix2 (qix B hB c) d))

section Even

variable (hM : ∀ c : Fin 512, M (ix4 0 0 0 (⟨c.val, lo_lt c⟩ : Fin 1024)) = rowAt x6 (qix B hB c))
  (hL : ∀ c : Fin 512, L (ix4 0 0 0 (⟨c.val, lo_lt c⟩ : Fin 1024)) = rowAt x7 (qix B hB c))
  (hD : ∀ c : Fin 512, D (ix4 0 0 0 (⟨c.val, lo_lt c⟩ : Fin 1024)) = rowAt x8 (qix B hB c))

include hq hqa hM hL

theorem pay5_at (h : 2 * (j + 1) ≤ B) (r : Fin 1024) (c : Fin 512) :
    k0_pay5 (k0_pay31 x0 x1) M L q qa (ix2 r c) = prob j x0 x1 x3 x4 x6 x7 r (qix B hB c) := by
  rw [prob, if_pos (by show 1024 * j + r.val ≤ 512 * B + c.val; omega)]
  simp only [← hq, ← hqa, ← hM, ← hL]
  pointwise [k0_pay5, k0_pay31, k0_pay2, k0_pay3, pE, s2]
  rfl

include ho hD in
theorem pay7_at (h : 2 * (j + 1) ≤ B) (r : Fin 1024) (c : Fin 512) :
    k0_pay7 (k0_pay31 x0 x1) x2 M L D q qa o (ix2 r c) = dsc j x0 x1 x2 x3 x4 x5 x6 x7 x8 r (qix B hB c) := by
  rw [dsc, ← pay5_at j x0 x1 x3 x4 x6 x7 B hB q qa M L hq hqa hM hL h]
  simp only [← ho, ← hD]
  pointwise [k0_pay7, k0_pay4]

theorem pay39_at (h : 2 * j = B) (r : Fin 512) (c : Fin 512) :
    k0_pay39 (k0_pay31 x0 x1) (k0_pay35 M) (k0_pay36 L) (k0_pay38 q qa) (ix2 r c)
      = prob j x0 x1 x3 x4 x6 x7 (⟨r.val, lo_lt r⟩ : Fin 1024) (qix B hB c) := by
  have e : IntOp.cmpi CmpIPredicate.sge (IntOp.addi (BitVec.ofNat 32 c.val) 0#32) (IntOp.addi (BitVec.ofNat 32 r.val) 0#32)
      = BitVec.ofBool (decide (r.val ≤ c.val)) := by
    rw [show ∀ x, IntOp.addi x 0#32 = x from fun x => BitVec.add_zero x, show ∀ x, IntOp.addi x 0#32 = x from fun x => BitVec.add_zero x]
    exact WordCmp.cmpi_sge_ofNat (by have := c.isLt; omega) (by have := r.isLt; omega)
  have e2 : (1024 * j + r.val ≤ (qix B hB c).val) = (r.val ≤ c.val) := propext (by
    show 1024 * j + r.val ≤ 512 * B + c.val ↔ _; omega)
  simp only [prob, e2, ← hq, ← hqa, ← hM, ← hL]
  pointwise [k0_pay39, k0_pay31, k0_pay38, k0_pay35, k0_pay36, pE, s2]
  rw [e]
  by_cases hc : r.val ≤ c.val
  · rw [if_pos hc, decide_eq_true hc]
    rfl
  · rw [if_neg hc, decide_eq_false hc]
    show Ideal.exp2 (mk - _) * _ = 0
    rw [mk_eq, sub_eq_add_neg, EReal.bot_add, Ideal.exp2_bot, zero_mul]

include ho hD in
theorem pay41_at (h : 2 * j = B) (r : Fin 512) (c : Fin 512) :
    k0_pay41 (k0_pay31 x0 x1) x2 (k0_pay35 M) (k0_pay36 L) (k0_pay37 D) (k0_pay38 q qa) o (ix2 r c)
      = dsc j x0 x1 x2 x3 x4 x5 x6 x7 x8 (⟨r.val, lo_lt r⟩ : Fin 1024) (qix B hB c) := by
  rw [dsc, ← pay39_at j x0 x1 x3 x4 x6 x7 B hB q qa M L hq hqa hM hL h]
  simp only [← ho, ← hD]
  pointwise [k0_pay41, k0_pay37]

end Even

section Odd

variable (hM : ∀ c : Fin 512, M (ix4 0 0 0 (⟨512 + c.val, hi_lt c⟩ : Fin 1024)) = rowAt x6 (qix B hB c))
  (hL : ∀ c : Fin 512, L (ix4 0 0 0 (⟨512 + c.val, hi_lt c⟩ : Fin 1024)) = rowAt x7 (qix B hB c))
  (hD : ∀ c : Fin 512, D (ix4 0 0 0 (⟨512 + c.val, hi_lt c⟩ : Fin 1024)) = rowAt x8 (qix B hB c))

include hq hqa hM hL

theorem pay12_at (h : 2 * (j + 1) ≤ B) (r : Fin 1024) (c : Fin 512) :
    k0_pay12 (k0_pay31 x0 x1) (k0_pay2 M) (k0_pay3 L) q qa (ix2 r c) = prob j x0 x1 x3 x4 x6 x7 r (qix B hB c) := by
  rw [prob, if_pos (by show 1024 * j + r.val ≤ 512 * B + c.val; omega)]
  simp only [← hq, ← hqa, ← hM, ← hL]
  pointwise [k0_pay12, k0_pay31, k0_pay2, k0_pay3, pE, s2]
  rfl

include ho hD in
theorem pay54_at (h : 2 * (j + 1) ≤ B) (r : Fin 1024) (c : Fin 512) :
    k0_pay54 (k0_pay12 (k0_pay31 x0 x1) (k0_pay2 M) (k0_pay3 L) q qa) (k0_pay14 x2 o) (k0_pay15 (k0_pay4 D)) (ix2 r c)
      = dsc j x0 x1 x2 x3 x4 x5 x6 x7 x8 r (qix B hB c) := by
  rw [dsc, ← pay12_at j x0 x1 x3 x4 x6 x7 B hB q qa M L hq hqa hM hL h]
  simp only [← ho, ← hD]
  pointwise [k0_pay54, k0_pay14, k0_pay15, k0_pay4]

theorem pay46_at (h : 2 * j + 1 = B) (r : Fin 1024) (c : Fin 512) :
    k0_pay46 (k0_pay31 x0 x1) (k0_pay35 M) (k0_pay36 L) q qa (ix2 r c)
      = prob j x0 x1 x3 x4 x6 x7 r (qix B hB c) := by
  have e : IntOp.cmpi CmpIPredicate.sge (IntOp.addi (BitVec.ofNat 32 c.val) 512#32) (IntOp.addi (BitVec.ofNat 32 r.val) 0#32)
      = BitVec.ofBool (decide (r.val ≤ c.val + 512)) := by
    rw [show ∀ x, IntOp.addi x 0#32 = x from fun x => BitVec.add_zero x,
      show IntOp.addi (BitVec.ofNat 32 c.val) 512#32 = BitVec.ofNat 32 (c.val + 512) from (BitVec.ofNat_add ..).symm]
    exact WordCmp.cmpi_sge_ofNat (by have := c.isLt; omega) (by have := r.isLt; omega)
  have e2 : (1024 * j + r.val ≤ (qix B hB c).val) = (r.val ≤ c.val + 512) := propext (by
    show 1024 * j + r.val ≤ 512 * B + c.val ↔ _; omega)
  simp only [prob, e2, ← hq, ← hqa, ← hM, ← hL]
  pointwise [k0_pay46, k0_pay31, k0_pay35, k0_pay36, pE, s2]
  rw [e]
  by_cases hc : r.val ≤ c.val + 512
  · rw [if_pos hc, decide_eq_true hc]
    rfl
  · rw [if_neg hc, decide_eq_false hc]
    show Ideal.exp2 (mk - _) * _ = 0
    rw [mk_eq, sub_eq_add_neg, EReal.bot_add, Ideal.exp2_bot, zero_mul]

include ho hD in
theorem pay49_at (h : 2 * j + 1 = B) (r : Fin 1024) (c : Fin 512) :
    k0_pay49 (k0_pay37 D) (k0_pay46 (k0_pay31 x0 x1) (k0_pay35 M) (k0_pay36 L) q qa) (k0_pay48 x2 o) (ix2 r c)
      = dsc j x0 x1 x2 x3 x4 x5 x6 x7 x8 r (qix B hB c) := by
  rw [dsc, ← pay46_at j x0 x1 x3 x4 x6 x7 B hB q qa M L hq hqa hM hL h]
  simp only [← ho, ← hD]
  pointwise [k0_pay49, k0_pay48, k0_pay37]

end Odd

end Pair

/-! ## The accumulations -/

theorem pay6_at (kk : FVec Ideal S1024x256 .bf16) (a : FVec Ideal S1024x128 .f32) (M L : Vec Ideal S1x1x1x1024 .f32) (q : Vec Ideal S512x128 .bf16)
    (qa : Vec Ideal S1x512x128 .bf16) (o : Vec Ideal S512x128 .bf16) (r : Fin 1024) (d : Fin 128) :
    k0_pay6 kk a M L q qa o (ix2 r d) = a (ix2 r d) + ∑ c, k0_pay5 kk M L q qa (ix2 r c) * o (ix2 c d) := by
  pointwise [k0_pay6]

theorem pay13_at (kk : FVec Ideal S1024x256 .bf16) (M L : FVec Ideal S1x1024 .f32) (a : FVec Ideal S1024x128 .f32) (q : Vec Ideal S512x128 .bf16)
    (qa : Vec Ideal S1x512x128 .bf16) (o : Vec Ideal S512x128 .bf16) (r : Fin 1024) (d : Fin 128) :
    k0_pay13 kk M L a q qa o (ix2 r d) = a (ix2 r d) + ∑ c, k0_pay12 kk M L q qa (ix2 r c) * o (ix2 c d) := by
  pointwise [k0_pay13]

theorem pay9_at (a : FVec Ideal S1024x128 .f32) (q : Vec Ideal S512x128 .bf16) (ds : FVec Ideal S1024x512 .f32) (r : Fin 1024) (d : Fin 128) :
    k0_pay9 a q ds (ix2 r d) = a (ix2 r d) + ∑ c, ds (ix2 r c) * q (ix2 c d) := by
  pointwise [k0_pay9, k0_pay8]

theorem pay56_at (a : FVec Ideal S1024x128 .f32) (q : Vec Ideal S512x128 .bf16) (p dp : FVec Ideal S1024x512 .f32) (D : FVec Ideal S1x512 .f32) (r : Fin 1024) (d : Fin 128) :
    k0_pay56 a q p dp D (ix2 r d) = a (ix2 r d) + ∑ c, k0_pay54 p dp D (ix2 r c) * q (ix2 c d) := by
  pointwise [k0_pay56, k0_pay55]

theorem pay10_at (k : Vec Ideal S1024x128 .bf16) (ds : FVec Ideal S1024x512 .f32) (p : Vec Ideal S512x128 .f32) (c : Fin 512) (d : Fin 128) :
    k0_pay10 k ds p (ix2 c d) = p (ix2 c d) + (∑ r, ds (ix2 r c) * k (ix2 r d)) * s1 := by
  pointwise [k0_pay10, k0_pay8, s1]

theorem pay57_at (k : Vec Ideal S1024x128 .bf16) (p dp : FVec Ideal S1024x512 .f32) (D : FVec Ideal S1x512 .f32) (a : Vec Ideal S512x128 .f32) (c : Fin 512) (d : Fin 128) :
    k0_pay57 k p dp D a (ix2 c d) = a (ix2 c d) + (∑ r, k0_pay54 p dp D (ix2 r c) * k (ix2 r d)) * s1 := by
  pointwise [k0_pay57, k0_pay55, s1]

theorem pay11_at (a : FVec Ideal S1024x1 .f32) (ds : FVec Ideal S1024x512 .f32) (r : Fin 1024) :
    k0_pay11 a ds (ix2 r 0) = a (ix2 r 0) - ∑ c, ds (ix2 r c) := by
  pointwise [k0_pay11]

theorem pay58_at (a : FVec Ideal S1024x1 .f32) (p dp : FVec Ideal S1024x512 .f32) (D : FVec Ideal S1x512 .f32) (r : Fin 1024) :
    k0_pay58 a p dp D (ix2 r 0) = a (ix2 r 0) - ∑ c, k0_pay54 p dp D (ix2 r c) := by
  pointwise [k0_pay58]

theorem pay40_at (kk : FVec Ideal S1024x256 .bf16) (a : FVec Ideal S1024x128 .f32) (M L : FVec Ideal S1x1024 .f32) (qq : FVec Ideal S512x256 .bf16)
    (o : Vec Ideal S512x128 .bf16) (r : Fin 1024) (d : Fin 128) :
    k0_pay40 kk a M L qq o (ix2 r d) = a (ix2 r d) + if h : r.val < 512 then ∑ c, k0_pay39 kk M L qq (ix2 (⟨r.val, h⟩ : Fin 512) c) * o (ix2 c d) else 0 := by
  pointwise [k0_pay40]

theorem pay43_at (kk : FVec Ideal S1024x256 .bf16) (v : Vec Ideal S1024x128 .bf16) (a : FVec Ideal S1024x128 .f32) (M L D : FVec Ideal S1x1024 .f32)
    (q : Vec Ideal S512x128 .bf16) (qq : FVec Ideal S512x256 .bf16) (o : Vec Ideal S512x128 .bf16) (r : Fin 1024) (d : Fin 128) :
    k0_pay43 kk v a M L D q qq o (ix2 r d)
      = a (ix2 r d) + if h : r.val < 512 then ∑ c, k0_pay41 kk v M L D qq o (ix2 (⟨r.val, h⟩ : Fin 512) c) * q (ix2 c d) else 0 := by
  pointwise [k0_pay43, k0_pay42]

theorem pay44_at (k : Vec Ideal S1024x128 .bf16) (kk : FVec Ideal S1024x256 .bf16) (v : Vec Ideal S1024x128 .bf16) (M L D : FVec Ideal S1x1024 .f32)
    (qq : FVec Ideal S512x256 .bf16) (o : Vec Ideal S512x128 .bf16) (a : Vec Ideal S512x128 .f32) (c : Fin 512) (d : Fin 128) :
    k0_pay44 k kk v M L D qq o a (ix2 c d)
      = a (ix2 c d) + (∑ r : Fin 512, k0_pay41 kk v M L D qq o (ix2 r c) * k (ix2 (⟨r.val, lo_lt r⟩ : Fin 1024) d)) * s1 := by
  pointwise [k0_pay44, k0_pay42, s1]

theorem pay45_at (a : FVec Ideal S1024x1 .f32) (ds : FVec Ideal S512x512 .f32) (r : Fin 1024) :
    k0_pay45 a ds (ix2 r 0) = a (ix2 r 0) - if h : r.val < 512 then ∑ c, ds (ix2 (⟨r.val, h⟩ : Fin 512) c) else 0 := by
  pointwise [k0_pay45]

theorem pay47_at (kk : FVec Ideal S1024x256 .bf16) (M L : FVec Ideal S1x1024 .f32) (a : FVec Ideal S1024x128 .f32) (q : Vec Ideal S512x128 .bf16)
    (qa : Vec Ideal S1x512x128 .bf16) (o : Vec Ideal S512x128 .bf16) (r : Fin 1024) (d : Fin 128) :
    k0_pay47 kk M L a q qa o (ix2 r d) = a (ix2 r d) + ∑ c, k0_pay46 kk M L q qa (ix2 r c) * o (ix2 c d) := by
  pointwise [k0_pay47]

theorem pay51_at (D : FVec Ideal S1x1024 .f32) (a : FVec Ideal S1024x128 .f32) (q : Vec Ideal S512x128 .bf16) (p dp : FVec Ideal S1024x512 .f32) (r : Fin 1024) (d : Fin 128) :
    k0_pay51 D a q p dp (ix2 r d) = a (ix2 r d) + ∑ c, k0_pay49 D p dp (ix2 r c) * q (ix2 c d) := by
  pointwise [k0_pay51, k0_pay50]

theorem pay52_at (k : Vec Ideal S1024x128 .bf16) (D : FVec Ideal S1x1024 .f32) (p dp : FVec Ideal S1024x512 .f32) (a : Vec Ideal S512x128 .f32) (c : Fin 512) (d : Fin 128) :
    k0_pay52 k D p dp a (ix2 c d) = a (ix2 c d) + (∑ r, k0_pay49 D p dp (ix2 r c) * k (ix2 r d)) * s1 := by
  pointwise [k0_pay52, k0_pay50, s1]

theorem pay53_at (D : FVec Ideal S1x1024 .f32) (a : FVec Ideal S1024x1 .f32) (p dp : FVec Ideal S1024x512 .f32) (r : Fin 1024) :
    k0_pay53 D a p dp (ix2 r 0) = a (ix2 r 0) - ∑ c, k0_pay49 D p dp (ix2 r c) := by
  pointwise [k0_pay53]

theorem pay64_at (a : FVec Ideal S1024x128 .f32) (r : Fin 1024) (d : Fin 128) : k0_pay64 a (ix2 r d) = a (ix2 r d) * s1 := by
  pointwise [k0_pay64, s1]

theorem pay65_at (a : FVec Ideal S1024x128 .f32) (r : Fin 1024) (d : Fin 128) : k0_pay65 a (ix2 r d) = a (ix2 r d) := by
  pointwise [k0_pay65]

theorem pay66_at (a : FVec Ideal S1024x1 .f32) (r : Fin 1024) : k0_pay1 (k0_pay66 a) (ix4 0 0 0 r) = a (ix2 r 0) := by
  pointwise [k0_pay1, k0_pay66]

theorem pay30_at (q : Fin 8192) (d : Fin 128) : k0_pay30 (F := Ideal) (ix2 q d) = (0 : EReal) := by
  pointwise [k0_pay30]

theorem pay32_at (r : Fin 1024) (d : Fin 128) : k0_pay32 (F := Ideal) (ix2 r d) = (0 : EReal) := by
  pointwise [k0_pay32]

theorem pay33_at (r : Fin 1024) (d : Fin 128) : k0_pay33 (F := Ideal) (ix2 r d) = (0 : EReal) := by
  pointwise [k0_pay33]

theorem pay34_at (r : Fin 1024) : k0_pay34 (F := Ideal) (ix2 r 0) = (0 : EReal) := by
  pointwise [k0_pay34]

end Cert.KernelIdeal.Fox
-- ==== Proof.FoxTrip.lean ====
/- One trip of the loop over the query tiles, and the loop. -/
module

public import proofs.«01_k».proof.Proof.FoxPay
public import proofs.«01_k».proof.Proof.Gen.KernelIdeal.Loops
public import proofs.«01_k».proof.Proof.Gen.KernelIdeal.Frame
public import Idealize.ShloMosaic.Lib.LoopRemainder
public import Idealize.ShloMosaic.Lib.VecWindow
public import Idealize.ShloMosaic.Lib.WritesUnit

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI

/-! ## What has been summed after `B` half tiles of queries -/

section Inv

variable (j : ℕ) (x0 : Vec Ideal S1024x128 .bf16) (x1 : Vec Ideal S1x1024x128 .bf16) (x2 : Vec Ideal S1024x128 .bf16)
  (x3 : Vec Ideal S8192x128 .bf16) (x4 : Vec Ideal S1x8192x128 .bf16) (x5 : Vec Ideal S8192x128 .bf16)
  (x6 x7 x8 : Vec Ideal S1x8x1x1024 .f32)

/-- What key tile `j` adds to the query gradient. -/
def dqAdd (q : Fin 8192) (d : Fin 128) : EReal := (∑ r, dsc j x0 x1 x2 x3 x4 x5 x6 x7 x8 r q * x0 (ix2 r d)) * s1

theorem dqAdd_before (q : Fin 8192) (d : Fin 128) (h : q.val < 1024 * j) : dqAdd j x0 x1 x2 x3 x4 x5 x6 x7 x8 q d = 0 := by
  rw [dqAdd, Finset.sum_eq_zero, zero_mul]
  intro r _
  rw [dsc_before _ _ _ _ _ _ _ _ _ _ _ _ (by omega), zero_mul]

/-- The carried gradients and the query gradient after the first `B` half tiles. -/
structure Inv (B : ℕ) (P : Fin 8192 → Fin 128 → EReal) (acc : FVec Ideal S1024x128 .f32 × FVec Ideal S1024x128 .f32 × FVec Ideal S1024x1 .f32)
    (D : Vec Ideal S8192x128 .f32) : Prop where
  dk : ∀ r d, acc.1 (ix2 r d) = sumTo B fun q => dsc j x0 x1 x2 x3 x4 x5 x6 x7 x8 r q * x3 (ix2 q d)
  dv : ∀ r d, acc.2.1 (ix2 r d) = sumTo B fun q => prob j x0 x1 x3 x4 x6 x7 r q * x5 (ix2 q d)
  dc : ∀ r, acc.2.2 (ix2 r 0) = -sumTo B fun q => dsc j x0 x1 x2 x3 x4 x5 x6 x7 x8 r q
  dq : ∀ q d, D (ix2 q d) = if q.val < 512 * B then P q d + dqAdd j x0 x1 x2 x3 x4 x5 x6 x7 x8 q d else P q d

end Inv

theorem coe_sum {ι : Type} (s : Finset ι) (f : ι → ℝ) : ((∑ x ∈ s, f x : ℝ) : EReal) = ∑ x ∈ s, ((f x : ℝ) : EReal) := by
  classical
  induction s using Finset.induction_on with
  | empty => rw [Finset.sum_empty, Finset.sum_empty, EReal.coe_zero]
  | insert a t ha ih => rw [Finset.sum_insert ha, Finset.sum_insert ha, EReal.coe_add, ih]

theorem acc_step {B : ℕ} (hB : B < 16) {f : Fin 8192 → EReal} {g : Fin 512 → EReal} {a b : EReal} (ha : a = sumTo B f)
    (hg : ∀ c, g c = f (qix B hB c)) (hb : b = a + ∑ c, g c) : b = sumTo (B + 1) f := by
  rw [hb, ha, sumTo_succ B hB, Finset.sum_congr rfl fun c _ => hg c]

theorem neg_step {B : ℕ} (hB : B < 16) {f : Fin 8192 → EReal} {g : Fin 512 → EReal} {a b : EReal} (hf : ∀ q, ∃ w : ℝ, f q = w)
    (ha : a = -sumTo B f) (hg : ∀ c, g c = f (qix B hB c)) (hb : b = a - ∑ c, g c) : b = -sumTo (B + 1) f := by
  have e : ∀ q, f q = (((f q).toReal : ℝ) : EReal) := fun q => by
    obtain ⟨w, hw⟩ := hf q
    rw [hw, EReal.toReal_coe]
  have e1 : sumTo B f = (((sumTo B fun q => (f q).toReal) : ℝ) : EReal) := by
    unfold sumTo
    rw [coe_sum]
    refine Finset.sum_congr rfl fun q _ => ?_
    split
    · exact e q
    · exact EReal.coe_zero.symm
  have e2 : ∑ c, f (qix B hB c) = ((∑ c, (f (qix B hB c)).toReal : ℝ) : EReal) := by
    rw [coe_sum]
    exact Finset.sum_congr rfl fun c _ => e _
  rw [hb, ha, Finset.sum_congr rfl fun c _ => hg c, sumTo_succ B hB, e1, e2, ← EReal.coe_neg, ← EReal.coe_sub, ← EReal.coe_add, ← EReal.coe_neg]
  congr 1
  ring

theorem dq_step (a : Memref sig .tc .vmem S8192x128 .f32) (f : BufTy.Contents (Elt Ideal) a.view.ty) (L : List (View.Piece (Elt Ideal) S8192x128 .f32))
    {B : ℕ} (hB : B < 16) {off : Fin 2 → ℕ} (inb : ∀ i, off i + (![512, 128] : Fin 2 → ℕ) i ≤ S8192x128.2 i) (w : Vec Ideal S512x128 .f32) (P G : Fin 8192 → Fin 128 → EReal)
    (hoff : off = ![512 * B, 0])
    (hw : ∀ c d, w (ix2 c d) = P (qix B hB c) d + G (qix B hB c) d)
    (h : ∀ q d, a.view.read (Elt Ideal) (a.view.writes (Elt Ideal) f L) (ix2 q d) = if q.val < 512 * B then P q d + G q d else P q d) (q : Fin 8192) (d : Fin 128) :
    a.view.read (Elt Ideal) (a.view.writes (Elt Ideal) f (⟨Rect.unit off ![512, 128] inb, w⟩ :: L)) (ix2 q d)
      = if q.val < 512 * (B + 1) then P q d + G q d else P q d := by
  by_cases hq : 512 * B ≤ q.val ∧ q.val < 512 * (B + 1)
  · have e : q = qix B hB ⟨q.val - 512 * B, by omega⟩ := Fin.ext (by show q.val = 512 * B + (q.val - 512 * B); omega)
    rw [if_pos hq.2, View.read_writes_cons_rows_of_mem a.view f inb w L (ix2 q d) (ix2 (⟨q.val - 512 * B, by omega⟩ : Fin 512) d) hoff
      (by show q.val = 512 * B + (q.val - 512 * B); omega) rfl]
    exact (hw _ d).trans (by rw [← e])
  · rw [View.read_writes_cons_rows_of_not_mem a.view f inb w L (ix2 q d) hoff (W := 512) rfl (by show q.val < 512 * B ∨ 512 * B + 512 ≤ q.val; omega), h q d]
    by_cases h1 : q.val < 512 * B
    · rw [if_pos h1, if_pos (by omega)]
    · rw [if_neg h1, if_neg (by omega)]

theorem rd2 {e : EltTy} (a : Memref sig .tc .vmem S8192x128 e) (f : BufTy.Contents (Elt Ideal) a.view.ty) {off : Fin 2 → ℕ}
    (inb : ∀ i, off i + (![512, 128] : Fin 2 → ℕ) i ≤ S8192x128.2 i) {B : ℕ} (hB : B < 16) (h : off = ![512 * B, 0]) (c : Fin 512) (d : Fin 128) :
    (a.view.readAt (Elt Ideal) (Rect.unit (s := S8192x128) off ![512, 128] inb).toLoadRect f : Vec Ideal S512x128 e) (ix2 c d) = a.view.read (Elt Ideal) f (ix2 (qix B hB c) d) := by
  subst h
  show a.view.read (Elt Ideal) f ((Rect.unit _ _ inb).emb (ix2 c d)) = _
  congr 1
  funext i
  fin_cases i
  · exact Fin.ext (by show 512 * B + 1 * c.val = 512 * B + c.val; omega)
  · exact Fin.ext (by show 0 + 1 * d.val = d.val; omega)

theorem rd3 {e : EltTy} (a : Memref sig .tc .vmem S1x8192x128 e) (f : BufTy.Contents (Elt Ideal) a.view.ty) {off : Fin 3 → ℕ}
    (inb : ∀ i, off i + (![1, 512, 128] : Fin 3 → ℕ) i ≤ S1x8192x128.2 i) {B : ℕ} (hB : B < 16) (h : off = ![0, 512 * B, 0]) (c : Fin 512) (d : Fin 128) :
    (a.view.readAt (Elt Ideal) (Rect.unit (s := S1x8192x128) off ![1, 512, 128] inb).toLoadRect f : Vec Ideal S1x512x128 e) (ix3 0 c d) = a.view.read (Elt Ideal) f (ix3 0 (qix B hB c) d) := by
  subst h
  show a.view.read (Elt Ideal) f ((Rect.unit _ _ inb).emb (ix3 0 c d)) = _
  congr 1
  funext i
  fin_cases i
  · exact Fin.ext (by show 0 + 1 * 0 = 0; rfl)
  · exact Fin.ext (by show 512 * B + 1 * c.val = 512 * B + c.val; omega)
  · exact Fin.ext (by show 0 + 1 * d.val = d.val; omega)

theorem rd4 (a : Memref sig .tc .vmem S1x8x1x1024 .f32) (f : BufTy.Contents (Elt Ideal) a.view.ty) {off : Fin 4 → ℕ}
    (inb : ∀ i, off i + (![1, 1, 1, 1024] : Fin 4 → ℕ) i ≤ S1x8x1x1024.2 i) {b B : ℕ} (hB : B < 16) (h : off = ![0, b, 0, 0]) (c : Fin 512) (x : Fin 1024)
    (hx : 512 * B + c.val = 1024 * b + x.val) :
    (a.view.readAt (Elt Ideal) (Rect.unit (s := S1x8x1x1024) off ![1, 1, 1, 1024] inb).toLoadRect f : Vec Ideal S1x1x1x1024 .f32) (ix4 0 0 0 x) = rowAt (a.view.read (Elt Ideal) f) (qix B hB c) := by
  subst h
  show a.view.read (Elt Ideal) f ((Rect.unit _ _ inb).emb (ix4 0 0 0 x)) = _
  unfold rowAt
  congr 1
  funext i
  fin_cases i
  · exact Fin.ext (by show 0 + 1 * 0 = 0; rfl)
  · exact Fin.ext (by show b + 1 * 0 = (512 * B + c.val) / 1024; omega)
  · exact Fin.ext (by show 0 + 1 * 0 = 0; rfl)
  · exact Fin.ext (by show 0 + 1 * x.val = (512 * B + c.val) % 1024; omega)

theorem trips_eq : ∀ i : grid0.Coords, (k0_t1_loop i).trips = 7 - (i 1).val := by decide +kernel

section Trip

variable (c : Dev nD) (i : grid0.Coords) (arg2 : Memref sig .tc .vmem S1024x128 .bf16) (harg2 : arg2.IsWhole) (arg3 : Memref sig .tc .vmem S1x1024x128 .bf16) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S1x8192x128 .bf16) (harg6 : arg6.IsWhole) (arg7 : Memref sig .tc .vmem S8192x128 .bf16) (harg7 : arg7.IsWhole) (arg8 : Memref sig .tc .vmem S1x8x1x1024 .f32) (harg8 : arg8.IsWhole) (arg9 : Memref sig .tc .vmem S1x8x1x1024 .f32) (harg9 : arg9.IsWhole) (arg10 : Memref sig .tc .vmem S1x8x1x1024 .f32) (harg10 : arg10.IsWhole) (arg11 : Memref sig .tc .vmem S8192x128 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x1x1x1024 .f32) (harg14 : arg14.IsWhole) (arg1 : BitVec 32) (v3 : Vec Ideal S1024x128 .bf16) (v6 : FVec Ideal S1024x256 .bf16) (v7 : Vec Ideal S1024x128 .bf16) (v19 : FVec Ideal S1x1024 .f32) (v68 : FVec Ideal S1024x128 .f32) (v83 : FVec Ideal S1024x1 .f32) (v86 : BitVec 32) (v88 : Vec Ideal S512x128 .bf16) (v115 : FVec Ideal S1024x512 .f32) (v118 : FVec Ideal S1024x128 .f32) (v119 : FVec Ideal S1024x512 .f32) (v139 : BitVec 32)
  (X5 : BufTy.Contents (Elt Ideal) arg5.view.ty) (X6 : BufTy.Contents (Elt Ideal) arg6.view.ty) (X7 : BufTy.Contents (Elt Ideal) arg7.view.ty)
  (X8 : BufTy.Contents (Elt Ideal) arg8.view.ty) (X9 : BufTy.Contents (Elt Ideal) arg9.view.ty) (X10 : BufTy.Contents (Elt Ideal) arg10.view.ty)

set_option maxHeartbeats 4000000 in
theorem trip_inv (ka : Vec Ideal S1x1024x128 .bf16) (hv6 : v6 = k0_pay31 v3 ka) (k : Fin (k0_t1_loop i).trips) (hk : (i 1).val + k.val + 1 < 8)
    (acc : FVec Ideal S1024x128 .f32 × FVec Ideal S1024x128 .f32 × FVec Ideal S1024x1 .f32) (f : BufTy.Contents (Elt Ideal) arg11.view.ty) (P : Fin 8192 → Fin 128 → EReal)
    (hreal : ∀ r q, ∃ w : ℝ, dsc (i 1).val v3 ka v7 (arg5.view.read (Elt Ideal) X5) (arg6.view.read (Elt Ideal) X6) (arg7.view.read (Elt Ideal) X7) (arg8.view.read (Elt Ideal) X8) (arg9.view.read (Elt Ideal) X9) (arg10.view.read (Elt Ideal) X10) r q = w)
    (h : Inv (i 1).val v3 ka v7 (arg5.view.read (Elt Ideal) X5) (arg6.view.read (Elt Ideal) X6) (arg7.view.read (Elt Ideal) X7) (arg8.view.read (Elt Ideal) X8) (arg9.view.read (Elt Ideal) X9) (arg10.view.read (Elt Ideal) X10) (2 * ((i 1).val + 1 + k.val)) P acc (arg11.view.read (Elt Ideal) f)) :
    Inv (i 1).val v3 ka v7 (arg5.view.read (Elt Ideal) X5) (arg6.view.read (Elt Ideal) X6) (arg7.view.read (Elt Ideal) X7) (arg8.view.read (Elt Ideal) X8) (arg9.view.read (Elt Ideal) X9) (arg10.view.read (Elt Ideal) X10) (2 * ((i 1).val + 1 + (k.val + 1))) P (tripR_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v3 v6 v7 v19 v68 v83 v86 v88 v115 v118 v119 v139 X5 X6 X7 X8 X9 X10 k acc f)
      (arg11.view.read (Elt Ideal) (arg11.view.writes (Elt Ideal) f (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v3 v6 v7 v19 v68 v83 v86 v88 v115 v118 v119 v139 X5 X6 X7 X8 X9 X10 k acc f))) := by
  dsimp only [tripR_k0_t1, tripL_k0_t1]
  unfold trip_k0_t1
  dsimp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.v250]
  subst hv6
  have o0 : k0_off5 i k 0#32 = ![512 * (2 * ((i 1).val + 1 + k.val)), 0] := (k0_off5_eq i k ⟨0, by decide⟩).trans
    (congrArg (fun n : ℕ => (![n, 0] : Fin 2 → ℕ)) (by show 1024 * (i 1).val + 1024 * k.val + 512 * 0 + 1024 = _; omega))
  have o1 : k0_off5 i k 512#32 = ![512 * (2 * ((i 1).val + 1 + k.val) + 1), 0] := (k0_off5_eq i k ⟨1, by decide⟩).trans
    (congrArg (fun n : ℕ => (![n, 0] : Fin 2 → ℕ)) (by show 1024 * (i 1).val + 1024 * k.val + 512 * 1 + 1024 = _; omega))
  have a0 : k0_off6 i k 0#32 = ![0, 512 * (2 * ((i 1).val + 1 + k.val)), 0] := (k0_off6_eq i k ⟨0, by decide⟩).trans
    (congrArg (fun n : ℕ => (![0, n, 0] : Fin 3 → ℕ)) (by show 1024 * (i 1).val + 1024 * k.val + 512 * 0 + 1024 = _; omega))
  have a1 : k0_off6 i k 512#32 = ![0, 512 * (2 * ((i 1).val + 1 + k.val) + 1), 0] := (k0_off6_eq i k ⟨1, by decide⟩).trans
    (congrArg (fun n : ℕ => (![0, n, 0] : Fin 3 → ℕ)) (by show 1024 * (i 1).val + 1024 * k.val + 512 * 1 + 1024 = _; omega))
  have m : k0_off4 i k = ![0, (i 1).val + 1 + k.val, 0, 0] := (k0_off4_eq i k).trans
    (congrArg (fun n : ℕ => (![0, n, 0, 0] : Fin 4 → ℕ)) (by omega))
  have hj : 2 * ((i 1).val + 1) ≤ 2 * ((i 1).val + 1 + k.val) := by omega
  have e2 : 2 * ((i 1).val + 1 + (k.val + 1)) = 2 * ((i 1).val + 1 + k.val) + 1 + 1 := by omega
  have b0 : 2 * ((i 1).val + 1 + k.val) < 16 := by omega
  have b1 : 2 * ((i 1).val + 1 + k.val) + 1 < 16 := by omega
  rw [e2]
  have e0 : ∀ c : Fin 512, 512 * (2 * ((i 1).val + 1 + k.val)) + c.val = 1024 * ((i 1).val + 1 + k.val) + c.val := by intro c; omega
  have e1 : ∀ c : Fin 512, 512 * (2 * ((i 1).val + 1 + k.val) + 1) + c.val = 1024 * ((i 1).val + 1 + k.val) + (512 + c.val) := by intro c; omega
  generalize 2 * ((i 1).val + 1 + k.val) = B at *
  refine ⟨fun r d => ?_, fun r d => ?_, fun r => ?_, fun q d => ?_⟩
  · refine acc_step b1 (acc_step b0 (h.dk r d) (fun c => ?_) (pay9_at _ _ _ r d)) (fun c => ?_) (pay56_at _ _ _ _ _ r d)
    · exact congrArg₂ (· * ·) (pay7_at (i 1).val v3 ka v7 (arg5.view.read (Elt Ideal) X5) (arg6.view.read (Elt Ideal) X6) (arg7.view.read (Elt Ideal) X7) (arg8.view.read (Elt Ideal) X8) (arg9.view.read (Elt Ideal) X9) (arg10.view.read (Elt Ideal) X10) B b0 _ _ _ _ _ _ (fun c d => rd2 arg5 X5 _ b0 o0 c d) (fun c d => rd3 arg6 X6 _ b0 a0 c d) (fun c d => rd2 arg7 X7 _ b0 o0 c d) (fun c => rd4 arg8 X8 _ b0 m c _ (e0 c)) (fun c => rd4 arg9 X9 _ b0 m c _ (e0 c)) (fun c => rd4 arg10 X10 _ b0 m c _ (e0 c)) hj r c) (rd2 arg5 X5 _ b0 o0 c d)
    · exact congrArg₂ (· * ·) (pay54_at (i 1).val v3 ka v7 (arg5.view.read (Elt Ideal) X5) (arg6.view.read (Elt Ideal) X6) (arg7.view.read (Elt Ideal) X7) (arg8.view.read (Elt Ideal) X8) (arg9.view.read (Elt Ideal) X9) (arg10.view.read (Elt Ideal) X10) (B + 1) b1 _ _ _ _ _ _ (fun c d => rd2 arg5 X5 _ b1 o1 c d) (fun c d => rd3 arg6 X6 _ b1 a1 c d) (fun c d => rd2 arg7 X7 _ b1 o1 c d) (fun c => rd4 arg8 X8 _ b1 m c _ (e1 c)) (fun c => rd4 arg9 X9 _ b1 m c _ (e1 c)) (fun c => rd4 arg10 X10 _ b1 m c _ (e1 c)) (by omega) r c) (rd2 arg5 X5 _ b1 o1 c d)
  · refine acc_step b1 (acc_step b0 (h.dv r d) (fun c => ?_) (pay6_at _ _ _ _ _ _ _ r d)) (fun c => ?_) (pay13_at _ _ _ _ _ _ _ r d)
    · exact congrArg₂ (· * ·) (pay5_at (i 1).val v3 ka (arg5.view.read (Elt Ideal) X5) (arg6.view.read (Elt Ideal) X6) (arg8.view.read (Elt Ideal) X8) (arg9.view.read (Elt Ideal) X9) B b0 _ _ _ _ (fun c d => rd2 arg5 X5 _ b0 o0 c d) (fun c d => rd3 arg6 X6 _ b0 a0 c d) (fun c => rd4 arg8 X8 _ b0 m c _ (e0 c)) (fun c => rd4 arg9 X9 _ b0 m c _ (e0 c)) hj r c) (rd2 arg7 X7 _ b0 o0 c d)
    · exact congrArg₂ (· * ·) (pay12_at (i 1).val v3 ka (arg5.view.read (Elt Ideal) X5) (arg6.view.read (Elt Ideal) X6) (arg8.view.read (Elt Ideal) X8) (arg9.view.read (Elt Ideal) X9) (B + 1) b1 _ _ _ _ (fun c d => rd2 arg5 X5 _ b1 o1 c d) (fun c d => rd3 arg6 X6 _ b1 a1 c d) (fun c => rd4 arg8 X8 _ b1 m c _ (e1 c)) (fun c => rd4 arg9 X9 _ b1 m c _ (e1 c)) (by omega) r c) (rd2 arg7 X7 _ b1 o1 c d)
  · refine neg_step b1 (hreal r) (neg_step b0 (hreal r) (h.dc r) (fun c => ?_) (pay11_at _ _ r)) (fun c => ?_) (pay58_at _ _ _ _ r)
    · exact pay7_at (i 1).val v3 ka v7 (arg5.view.read (Elt Ideal) X5) (arg6.view.read (Elt Ideal) X6) (arg7.view.read (Elt Ideal) X7) (arg8.view.read (Elt Ideal) X8) (arg9.view.read (Elt Ideal) X9) (arg10.view.read (Elt Ideal) X10) B b0 _ _ _ _ _ _ (fun c d => rd2 arg5 X5 _ b0 o0 c d) (fun c d => rd3 arg6 X6 _ b0 a0 c d) (fun c d => rd2 arg7 X7 _ b0 o0 c d) (fun c => rd4 arg8 X8 _ b0 m c _ (e0 c)) (fun c => rd4 arg9 X9 _ b0 m c _ (e0 c)) (fun c => rd4 arg10 X10 _ b0 m c _ (e0 c)) hj r c
    · exact pay54_at (i 1).val v3 ka v7 (arg5.view.read (Elt Ideal) X5) (arg6.view.read (Elt Ideal) X6) (arg7.view.read (Elt Ideal) X7) (arg8.view.read (Elt Ideal) X8) (arg9.view.read (Elt Ideal) X9) (arg10.view.read (Elt Ideal) X10) (B + 1) b1 _ _ _ _ _ _ (fun c d => rd2 arg5 X5 _ b1 o1 c d) (fun c d => rd3 arg6 X6 _ b1 a1 c d) (fun c d => rd2 arg7 X7 _ b1 o1 c d) (fun c => rd4 arg8 X8 _ b1 m c _ (e1 c)) (fun c => rd4 arg9 X9 _ b1 m c _ (e1 c)) (fun c => rd4 arg10 X10 _ b1 m c _ (e1 c)) (by omega) r c
  · refine dq_step arg11 f [_] b1 _ _ P (dqAdd (i 1).val v3 ka v7 (arg5.view.read (Elt Ideal) X5) (arg6.view.read (Elt Ideal) X6) (arg7.view.read (Elt Ideal) X7) (arg8.view.read (Elt Ideal) X8) (arg9.view.read (Elt Ideal) X9) (arg10.view.read (Elt Ideal) X10)) o1 (fun c d => ?_)
      (fun q d => dq_step arg11 f [] b0 _ _ P (dqAdd (i 1).val v3 ka v7 (arg5.view.read (Elt Ideal) X5) (arg6.view.read (Elt Ideal) X6) (arg7.view.read (Elt Ideal) X7) (arg8.view.read (Elt Ideal) X8) (arg9.view.read (Elt Ideal) X9) (arg10.view.read (Elt Ideal) X10)) o0 (fun c d => ?_) h.dq q d) q d
    · have hn : ¬ (qix (B + 1) b1 c).val < 512 * B := by
        show ¬ 512 * (B + 1) + c.val < 512 * B
        omega
      refine (pay57_at _ _ _ _ _ c d).trans (congrArg₂ (· + ·) ((rd2 arg11 f _ b1 o1 c d).trans ((h.dq _ _).trans (if_neg hn))) ?_)
      · exact congrArg (· * s1) (Finset.sum_congr rfl fun r _ => congrArg (· * _) (pay54_at (i 1).val v3 ka v7 (arg5.view.read (Elt Ideal) X5) (arg6.view.read (Elt Ideal) X6) (arg7.view.read (Elt Ideal) X7) (arg8.view.read (Elt Ideal) X8) (arg9.view.read (Elt Ideal) X9) (arg10.view.read (Elt Ideal) X10) (B + 1) b1 _ _ _ _ _ _ (fun c d => rd2 arg5 X5 _ b1 o1 c d) (fun c d => rd3 arg6 X6 _ b1 a1 c d) (fun c d => rd2 arg7 X7 _ b1 o1 c d) (fun c => rd4 arg8 X8 _ b1 m c _ (e1 c)) (fun c => rd4 arg9 X9 _ b1 m c _ (e1 c)) (fun c => rd4 arg10 X10 _ b1 m c _ (e1 c)) (by omega) r c))
    · have hn : ¬ (qix B b0 c).val < 512 * B := by
        show ¬ 512 * B + c.val < 512 * B
        omega
      refine (pay10_at _ _ _ c d).trans (congrArg₂ (· + ·) ((rd2 arg11 f _ b0 o0 c d).trans ((h.dq _ _).trans (if_neg hn))) ?_)
      · exact congrArg (· * s1) (Finset.sum_congr rfl fun r _ => congrArg (· * _) (pay7_at (i 1).val v3 ka v7 (arg5.view.read (Elt Ideal) X5) (arg6.view.read (Elt Ideal) X6) (arg7.view.read (Elt Ideal) X7) (arg8.view.read (Elt Ideal) X8) (arg9.view.read (Elt Ideal) X9) (arg10.view.read (Elt Ideal) X10) B b0 _ _ _ _ _ _ (fun c d => rd2 arg5 X5 _ b0 o0 c d) (fun c d => rd3 arg6 X6 _ b0 a0 c d) (fun c d => rd2 arg7 X7 _ b0 o0 c d) (fun c => rd4 arg8 X8 _ b0 m c _ (e0 c)) (fun c => rd4 arg9 X9 _ b0 m c _ (e0 c)) (fun c => rd4 arg10 X10 _ b0 m c _ (e0 c)) hj r c))

/-- Every query tile after the diagonal one handled. -/
theorem loop_inv (ka : Vec Ideal S1x1024x128 .bf16) (hv6 : v6 = k0_pay31 v3 ka) (G : BufTy.Contents (Elt Ideal) arg11.view.ty)
    (init : FVec Ideal S1024x128 .f32 × FVec Ideal S1024x128 .f32 × FVec Ideal S1024x1 .f32) (P : Fin 8192 → Fin 128 → EReal)
    (hreal : ∀ r q, ∃ w : ℝ, dsc (i 1).val v3 ka v7 (arg5.view.read (Elt Ideal) X5) (arg6.view.read (Elt Ideal) X6) (arg7.view.read (Elt Ideal) X7) (arg8.view.read (Elt Ideal) X8) (arg9.view.read (Elt Ideal) X9) (arg10.view.read (Elt Ideal) X10) r q = w)
    (h : Inv (i 1).val v3 ka v7 (arg5.view.read (Elt Ideal) X5) (arg6.view.read (Elt Ideal) X6) (arg7.view.read (Elt Ideal) X7) (arg8.view.read (Elt Ideal) X8) (arg9.view.read (Elt Ideal) X9) (arg10.view.read (Elt Ideal) X10) (2 * ((i 1).val + 1)) P init (arg11.view.read (Elt Ideal) G)) (n : ℕ) (hn : n ≤ (k0_t1_loop i).trips) :
    Inv (i 1).val v3 ka v7 (arg5.view.read (Elt Ideal) X5) (arg6.view.read (Elt Ideal) X6) (arg7.view.read (Elt Ideal) X7) (arg8.view.read (Elt Ideal) X8) (arg9.view.read (Elt Ideal) X9) (arg10.view.read (Elt Ideal) X10) (2 * ((i 1).val + 1 + n)) P (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v3 v6 v7 v19 v68 v83 v86 v88 v115 v118 v119 v139 X5 X6 X7 X8 X9 X10 G init n).1
      (arg11.view.read (Elt Ideal) (arg11.view.writes (Elt Ideal) G (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v3 v6 v7 v19 v68 v83 v86 v88 v115 v118 v119 v139 X5 X6 X7 X8 X9 X10 G init n).2)) := by
  induction n with
  | zero => exact h
  | succ n ih =>
    have hj : (i 1).val + n + 1 < 8 := by
      have := trips_eq i
      omega
    have := trip_inv c i arg2 harg2 arg3 harg3 arg4 harg4 arg5 harg5 arg6 harg6 arg7 harg7 arg8 harg8 arg9 harg9 arg10 harg10 arg11 harg11 arg12 harg12 arg13 harg13 arg14 harg14 arg1 v3 v6 v7 v19 v68 v83 v86 v88 v115 v118 v119 v139 X5 X6 X7 X8 X9 X10 ka hv6 (⟨n, hn⟩ : Fin (k0_t1_loop i).trips) hj _ _ P hreal (ih (by omega))
    rw [st_k0_t1_succ Variants.none c none i arg2 harg2 arg3 harg3 arg4 harg4 arg5 harg5 arg6 harg6 arg7 harg7 arg8 harg8 arg9 harg9 arg10 harg10 arg11 harg11 arg12 harg12 arg13 harg13 arg14 harg14 arg1 v3 v6 v7 v19 v68 v83 v86 v88 v115 v118 v119 v139 X5 X6 X7 X8 X9 X10 G init (⟨n, hn⟩ : Fin (k0_t1_loop i).trips), View.writes_append]
    exact this

theorem loop_last (ka : Vec Ideal S1x1024x128 .bf16) (hv6 : v6 = k0_pay31 v3 ka) (G : BufTy.Contents (Elt Ideal) arg11.view.ty)
    (init : FVec Ideal S1024x128 .f32 × FVec Ideal S1024x128 .f32 × FVec Ideal S1024x1 .f32) (P : Fin 8192 → Fin 128 → EReal)
    (hreal : ∀ r q, ∃ w : ℝ, dsc (i 1).val v3 ka v7 (arg5.view.read (Elt Ideal) X5) (arg6.view.read (Elt Ideal) X6) (arg7.view.read (Elt Ideal) X7) (arg8.view.read (Elt Ideal) X8) (arg9.view.read (Elt Ideal) X9) (arg10.view.read (Elt Ideal) X10) r q = w)
    (h : Inv (i 1).val v3 ka v7 (arg5.view.read (Elt Ideal) X5) (arg6.view.read (Elt Ideal) X6) (arg7.view.read (Elt Ideal) X7) (arg8.view.read (Elt Ideal) X8) (arg9.view.read (Elt Ideal) X9) (arg10.view.read (Elt Ideal) X10) (2 * ((i 1).val + 1)) P init (arg11.view.read (Elt Ideal) G)) :
    Inv (i 1).val v3 ka v7 (arg5.view.read (Elt Ideal) X5) (arg6.view.read (Elt Ideal) X6) (arg7.view.read (Elt Ideal) X7) (arg8.view.read (Elt Ideal) X8) (arg9.view.read (Elt Ideal) X9) (arg10.view.read (Elt Ideal) X10) 16 P (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v3 v6 v7 v19 v68 v83 v86 v88 v115 v118 v119 v139 X5 X6 X7 X8 X9 X10 G init (k0_t1_loop i).trips).1
      (arg11.view.read (Elt Ideal) (arg11.view.writes (Elt Ideal) G (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v3 v6 v7 v19 v68 v83 v86 v88 v115 v118 v119 v139 X5 X6 X7 X8 X9 X10 G init (k0_t1_loop i).trips).2)) := by
  have := loop_inv c i arg2 harg2 arg3 harg3 arg4 harg4 arg5 harg5 arg6 harg6 arg7 harg7 arg8 harg8 arg9 harg9 arg10 harg10 arg11 harg11 arg12 harg12 arg13 harg13 arg14 harg14 arg1 v3 v6 v7 v19 v68 v83 v86 v88 v115 v118 v119 v139 X5 X6 X7 X8 X9 X10 ka hv6 G init P hreal h _ le_rfl
  rwa [show 2 * ((i 1).val + 1 + (k0_t1_loop i).trips) = 16 by have := trips_eq i; have := (i 1).isLt; have e : (i 1).val < 8 := (i 1).isLt; omega] at this

end Trip

end Cert.KernelIdeal.Fox
-- ==== Proof.FoxReal.lean ====
/- The forgetting attention's backward pass over the reals. -/
module

public import proofs.«01_k».proof.Proof.FoxPay

@[expose] public section

open Idealize Idealize.ShloMosaic

noncomputable section

namespace FoxReal

theorem col_lt {b : ℕ} (hb : b ≤ 2048) (h : Fin 8) (d : Fin 128) : b + (128 * h.val + d.val) < 3072 := by omega

/-- Column `d` of head `h` in a row of 1024. -/
theorem hcol_lt (h : Fin 8) (d : Fin 128) : 128 * h.val + d.val < 1024 := by omega

abbrev hcol (h : Fin 8) (d : Fin 128) : Fin 1024 := ⟨128 * h.val + d.val, hcol_lt h d⟩

theorem two_le : 0 ≤ 2048 ∧ 1024 ≤ 2048 ∧ 2048 ≤ 2048 := ⟨by omega, by omega, le_rfl⟩

abbrev qcol (h : Fin 8) (d : Fin 128) : Fin 3072 := ⟨0 + (128 * h.val + d.val), col_lt two_le.1 h d⟩
abbrev kcol (h : Fin 8) (d : Fin 128) : Fin 3072 := ⟨1024 + (128 * h.val + d.val), col_lt two_le.2.1 h d⟩
abbrev vcol (h : Fin 8) (d : Fin 128) : Fin 3072 := ⟨2048 + (128 * h.val + d.val), col_lt two_le.2.2 h d⟩

variable (A : Fin 8192 → Fin 3072 → ℝ) (C : Fin 8 → Fin 8192 → ℝ) (B : Fin 8192 → Fin 1024 → ℝ)
  (M : Fin 8 → Fin 8192 → ℝ)

/-- The score of query `q` against key `k`. -/
def Sc (h : Fin 8) (q k : Fin 8192) : ℝ :=
  (∑ d : Fin 128, A q (qcol h d) * A k (kcol h d)) * (Real.sqrt 128)⁻¹ + (C h q - C h k)

/-- Its exponential, less the row's shift. -/
def Ex (h : Fin 8) (q k : Fin 8192) : ℝ := if k.val ≤ q.val then Real.exp (Sc A C h q k - M h q) else 0

/-- The sum of a row. -/
def Ls (h : Fin 8) (q : Fin 8192) : ℝ := ∑ k, Ex A C M h q k

/-- The probability. -/
def Pr (h : Fin 8) (q k : Fin 8192) : ℝ := Ex A C M h q k * (Ls A C M h q)⁻¹

/-- The probability's cotangent. -/
def Dp (h : Fin 8) (q k : Fin 8192) : ℝ := ∑ d : Fin 128, A k (vcol h d) * B q (hcol h d)

/-- A row's mean cotangent. -/
def Dl (h : Fin 8) (q : Fin 8192) : ℝ := ∑ k, Pr A C M h q k * Dp A B h q k

/-- The score's cotangent. -/
def Ds (h : Fin 8) (q k : Fin 8192) : ℝ := Pr A C M h q k * (Dp A B h q k - Dl A C B M h q)

theorem Ex_nonneg (h : Fin 8) (q k : Fin 8192) : 0 ≤ Ex A C M h q k := by
  unfold Ex; split
  · exact (Real.exp_pos _).le
  · exact le_rfl

theorem Ls_pos (h : Fin 8) (q : Fin 8192) : 0 < Ls A C M h q := by
  refine Finset.sum_pos' (fun k _ => Ex_nonneg A C M h q k) ⟨q, Finset.mem_univ _, ?_⟩
  unfold Ex; rw [if_pos le_rfl]; exact Real.exp_pos _

theorem Ex_off {h : Fin 8} {q k : Fin 8192} (hk : ¬ k.val ≤ q.val) : Ex A C M h q k = 0 := if_neg hk
theorem Pr_off {h : Fin 8} {q k : Fin 8192} (hk : ¬ k.val ≤ q.val) : Pr A C M h q k = 0 := by
  unfold Pr; rw [Ex_off A C M hk, zero_mul]
theorem Ds_off {h : Fin 8} {q k : Fin 8192} (hk : ¬ k.val ≤ q.val) : Ds A C B M h q k = 0 := by
  unfold Ds; rw [Pr_off A C M hk, zero_mul]

theorem Pr_sum (h : Fin 8) (q : Fin 8192) : ∑ k, Pr A C M h q k = 1 := by
  unfold Pr; rw [← Finset.sum_mul]; exact mul_inv_cancel₀ (Ls_pos A C M h q).ne'

/-- The cotangents of a row's scores sum to nothing. -/
theorem Ds_row (h : Fin 8) (q : Fin 8192) : ∑ k, Ds A C B M h q k = 0 := by
  unfold Ds
  simp only [mul_sub, Finset.sum_sub_distrib, ← Finset.sum_mul]
  rw [Pr_sum, one_mul]; exact sub_self _

/-- The score's cotangent as the derivative of the quotient writes it. -/
theorem Ds_quot (h : Fin 8) (q k : Fin 8192) :
    (Dp A B h q k * (Ls A C M h q)⁻¹
        + -∑ k', Dp A B h q k' * (Ls A C M h q * Ls A C M h q)⁻¹ * Ex A C M h q k') * Ex A C M h q k
      = Ds A C B M h q k := by
  have e : ∑ k', Dp A B h q k' * (Ls A C M h q * Ls A C M h q)⁻¹ * Ex A C M h q k'
      = (Ls A C M h q)⁻¹ * Dl A C B M h q := by
    unfold Dl Pr; rw [Finset.mul_sum]; refine Finset.sum_congr rfl fun k' _ => ?_; rw [mul_inv]; ring
  rw [e]; unfold Ds Pr; ring

/-- The mean cotangent from the attention's output. -/
theorem Dl_out (h : Fin 8) (q : Fin 8192) :
    ∑ d : Fin 128, B q (hcol h d) * ∑ k, A k (vcol h d) * Pr A C M h q k = Dl A C B M h q := by
  unfold Dl Dp
  simp only [Finset.mul_sum]
  rw [Finset.sum_comm]
  refine Finset.sum_congr rfl fun k _ => Finset.sum_congr rfl fun d _ => ?_
  ring

/-- The arrays' entries are these numbers. -/
structure Nums (X0 : Vec Ideal ⟨2, ![8192, 3072]⟩ .bf16) (X1 : Vec Ideal ⟨2, ![8, 8192]⟩ .f32)
    (X2 : Vec Ideal ⟨2, ![8192, 1024]⟩ .bf16) : Prop where
  h0 : ∀ q d, X0 (ix2 q d) = ((A q d : ℝ) : EReal)
  h1 : ∀ h q, X1 (ix2 h q) = ((C h q : ℝ) : EReal)
  h2 : ∀ q d, X2 (ix2 q d) = ((B q d : ℝ) : EReal)

end FoxReal
-- ==== Proof.FoxGrid.lean ====
/- The blocks of the grid's points read off their arrays. -/
module

public import proofs.«01_k».proof.Proof.FoxRun
public import proofs.«01_k».proof.Proof.FoxReal
public import Idealize.ShloMosaic.Lib.Pipeline.ValueKit.Point

@[expose] public section

set_option maxRecDepth 16384
set_option maxHeartbeats 400000

noncomputable section

namespace Cert.KernelIdeal.Fox

open Cert.KernelIdeal.Gen
open Idealize Idealize.ShloMosaic Idealize.ShloMosaic.TcCoe FoxReal

variable (m : (ℓ : Loc nD τ sig) → Buf (Elt Ideal) ℓ) (c : Dev nD)

theorem hd_lt (t : Fin cfg0.N) : t.val / 8 < 8 := by have := t.isLt; have e : cfg0.N = 64 := rfl; omega
theorem tl_lt (t : Fin cfg0.N) : t.val % 8 < 8 := by omega
theorem row_lt (j : Fin 8) (r : Fin 1024) : 1024 * j.val + r.val < 8192 := by omega

/-- A point's head, its key tile and the tile's rows. -/
abbrev hd (t : Fin cfg0.N) : Fin 8 := ⟨t.val / 8, hd_lt t⟩
abbrev tl (t : Fin cfg0.N) : Fin 8 := ⟨t.val % 8, tl_lt t⟩
abbrev row (j : Fin 8) (r : Fin 1024) : Fin 8192 := ⟨1024 * j.val + r.val, row_lt j r⟩

theorem idx : ∀ t : Fin cfg0.N,
    win0_0.index t = ![t.val % 8, 8 + t.val / 8] ∧ win0_1.index t = ![t.val / 8, t.val % 8, 0]
      ∧ win0_2.index t = ![t.val % 8, 16 + t.val / 8] ∧ win0_3.index t = ![0, t.val / 8]
      ∧ win0_4.index t = ![t.val / 8, 0, 0] ∧ win0_5.index t = ![0, t.val / 8]
      ∧ win0_6.index t = ![t.val / 8, 0, 0, 0] ∧ win0_7.index t = ![t.val / 8, 0, 0, 0]
      ∧ win0_8.index t = ![t.val / 8, 0, 0, 0] ∧ win0_9.index t = ![0, t.val / 8]
      ∧ win0_10.index t = ![t.val % 8, t.val / 8] ∧ win0_11.index t = ![t.val % 8, t.val / 8]
      ∧ win0_12.index t = ![t.val / 8, t.val % 8, 0, 0] := by
  decide +kernel

theorem x0_at (t : Fin cfg0.N) (r : Fin 1024) (d : Fin 128) :
    iblk m c 0 t (ix2 r d) = V m c main_arg0 (ix2 (row (tl t) r) (kcol (hd t) d)) := by
  blk_ext [iblk, idx t]
theorem x1_at (t : Fin cfg0.N) (r : Fin 1024) (d : Fin 128) :
    iblk m c 1 t (ix3 0 r d) = V m c main_v42 (ix3 (hd t) (row (tl t) r) d) := by
  blk_ext [iblk, idx t]
theorem x2_at (t : Fin cfg0.N) (r : Fin 1024) (d : Fin 128) :
    iblk m c 2 t (ix2 r d) = V m c main_arg0 (ix2 (row (tl t) r) (vcol (hd t) d)) := by
  blk_ext [iblk, idx t]
theorem x3_at (t : Fin cfg0.N) (q : Fin 8192) (d : Fin 128) :
    iblk m c 3 t (ix2 q d) = V m c main_arg0 (ix2 q (qcol (hd t) d)) := by
  blk_ext [iblk, idx t]
theorem x4_at (t : Fin cfg0.N) (q : Fin 8192) (d : Fin 128) :
    iblk m c 4 t (ix3 0 q d) = V m c main_v34 (ix3 (hd t) q d) := by
  blk_ext [iblk, idx t]
theorem x5_at (t : Fin cfg0.N) (q : Fin 8192) (d : Fin 128) :
    iblk m c 5 t (ix2 q d) = V m c main_arg2 (ix2 q (hcol (hd t) d)) := by
  blk_ext [iblk, idx t]
theorem x6_at (t : Fin cfg0.N) (i : Fin 8) (r : Fin 1024) :
    iblk m c 6 t (ix4 0 i 0 r) = V m c main_v90 (ix4 (hd t) i 0 r) := by
  blk_ext [iblk, idx t]
theorem x7_at (t : Fin cfg0.N) (i : Fin 8) (r : Fin 1024) :
    iblk m c 7 t (ix4 0 i 0 r) = V m c main_v91 (ix4 (hd t) i 0 r) := by
  blk_ext [iblk, idx t]
theorem x8_at (t : Fin cfg0.N) (i : Fin 8) (r : Fin 1024) :
    iblk m c 8 t (ix4 0 i 0 r) = V m c main_v92 (ix4 (hd t) i 0 r) := by
  blk_ext [iblk, idx t]

end Cert.KernelIdeal.Fox
-- ==== Proof.FoxSum.lean ====
/- A block's probabilities and gradients are the real ones. -/
module

public import proofs.«01_k».proof.Proof.FoxTrip
public import proofs.«01_k».proof.Proof.FoxGrid
public import proofs.«01_k».proof.Proof.FoxReal

@[expose] public section

set_option maxRecDepth 16384
set_option maxHeartbeats 400000

noncomputable section

namespace Cert.KernelIdeal.Fox

open Cert.KernelIdeal.Gen
open Idealize Idealize.ShloMosaic Idealize.ShloMosaic.TcCoe FoxReal

/-- The blocks of head `h` and key tile `j` hold the real numbers of the launch. -/
structure Blk (A : Fin 8192 → Fin 3072 → ℝ) (C : Fin 8 → Fin 8192 → ℝ) (B : Fin 8192 → Fin 1024 → ℝ) (M : Fin 8 → Fin 8192 → ℝ)
    (h j : Fin 8) (x0 : Vec Ideal S1024x128 .bf16) (x1 : Vec Ideal S1x1024x128 .bf16) (x2 : Vec Ideal S1024x128 .bf16)
    (x3 : Vec Ideal S8192x128 .bf16) (x4 : Vec Ideal S1x8192x128 .bf16) (x5 : Vec Ideal S8192x128 .bf16)
    (x6 : Vec Ideal S1x8x1x1024 .f32) (x7 : Vec Ideal S1x8x1x1024 .f32) (x8 : Vec Ideal S1x8x1x1024 .f32) : Prop where
  b0 : ∀ (r : Fin 1024) (d : Fin 128), x0 (ix2 r d) = ((A (row j r) (kcol h d) : ℝ) : EReal)
  b2 : ∀ (r : Fin 1024) (d : Fin 128), x2 (ix2 r d) = ((A (row j r) (vcol h d) : ℝ) : EReal)
  b3 : ∀ (q : Fin 8192) (d : Fin 128), x3 (ix2 q d) = ((A q (qcol h d) : ℝ) : EReal)
  b5 : ∀ (q : Fin 8192) (d : Fin 128), x5 (ix2 q d) = ((B q (hcol h d) : ℝ) : EReal)
  bg : ∀ (r : Fin 1024) (q : Fin 8192), ∑ d : Fin 128, x1 (ix3 0 r d) * x4 (ix3 0 q d)
    = ((Real.sqrt 128 * (C h q - C h (row j r)) : ℝ) : EReal)
  b6 : ∀ q : Fin 8192, rowAt x6 q = ((M h q * (Real.log 2)⁻¹ : ℝ) : EReal)
  b7 : ∀ q : Fin 8192, rowAt x7 q = (((Ls A C M h q)⁻¹ : ℝ) : EReal)
  b8 : ∀ q : Fin 8192, rowAt x8 q = ((Dl A C B M h q : ℝ) : EReal)

variable {A : Fin 8192 → Fin 3072 → ℝ} {C : Fin 8 → Fin 8192 → ℝ} {B : Fin 8192 → Fin 1024 → ℝ} {M : Fin 8 → Fin 8192 → ℝ}
  {h j : Fin 8} {x0 : Vec Ideal S1024x128 .bf16} {x1 : Vec Ideal S1x1024x128 .bf16} {x2 : Vec Ideal S1024x128 .bf16}
  {x3 : Vec Ideal S8192x128 .bf16} {x4 : Vec Ideal S1x8192x128 .bf16} {x5 : Vec Ideal S8192x128 .bf16}
  {x6 : Vec Ideal S1x8x1x1024 .f32} {x7 : Vec Ideal S1x8x1x1024 .f32} {x8 : Vec Ideal S1x8x1x1024 .f32}

theorem exp2_shift (a g s : ℝ) : Real.rpow 2 ((a + Real.sqrt 128 * g) * ((Real.sqrt 128)⁻¹ * (Real.log 2)⁻¹) - s * (Real.log 2)⁻¹)
    = Real.exp (a * (Real.sqrt 128)⁻¹ + g - s) := by
  have l2 : Real.log 2 ≠ 0 := (Real.log_pos (by norm_num)).ne'
  have s0 : Real.sqrt 128 ≠ 0 := (Real.sqrt_pos.2 (by norm_num)).ne'
  show (2 : ℝ) ^ (_ : ℝ) = _
  rw [Real.rpow_def_of_pos (by norm_num)]
  congr 1
  generalize Real.log 2 = u at *
  generalize Real.sqrt 128 = v at *
  field_simp

theorem prob_real (b : Blk A C B M h j x0 x1 x2 x3 x4 x5 x6 x7 x8) (r : Fin 1024) (q : Fin 8192) :
    prob j.val x0 x1 x3 x4 x6 x7 r q = ((Pr A C M h q (row j r) : ℝ) : EReal) := by
  unfold prob
  by_cases hk : 1024 * j.val + r.val ≤ q.val
  · rw [if_pos hk, pE, b.bg r q, b.b6, b.b7, s2_eq]
    simp only [b.b0, b.b3, ← EReal.coe_mul, ← coe_sum, ← EReal.coe_add, ← EReal.coe_sub, Ideal.exp2_coe]
    refine congrArg _ ?_
    rw [exp2_shift, Pr, Ex, if_pos (show (row j r).val ≤ q.val from hk), Sc]
    refine congrArg (fun z : ℝ => Real.exp (z * (Real.sqrt 128)⁻¹ + (C h q - C h (row j r)) - M h q) * (Ls A C M h q)⁻¹) ?_
    exact Finset.sum_congr rfl fun d _ => mul_comm _ _
  · rw [if_neg hk, Pr, Ex, if_neg (show ¬ (row j r).val ≤ q.val from hk), zero_mul, EReal.coe_zero]

theorem dsc_real (b : Blk A C B M h j x0 x1 x2 x3 x4 x5 x6 x7 x8) (r : Fin 1024) (q : Fin 8192) :
    dsc j.val x0 x1 x2 x3 x4 x5 x6 x7 x8 r q = ((Ds A C B M h q (row j r) : ℝ) : EReal) := by
  unfold dsc
  rw [prob_real b, b.b8]
  simp only [b.b2, b.b5, ← EReal.coe_mul, ← coe_sum, ← EReal.coe_sub]
  rfl

/-- Key tile `j`'s part of the query gradient. -/
def part (A : Fin 8192 → Fin 3072 → ℝ) (C : Fin 8 → Fin 8192 → ℝ) (B : Fin 8192 → Fin 1024 → ℝ) (M : Fin 8 → Fin 8192 → ℝ)
    (h j : Fin 8) (q : Fin 8192) (d : Fin 128) : ℝ :=
  ∑ r : Fin 1024, Ds A C B M h q (row j r) * (Real.sqrt 128)⁻¹ * A (row j r) (kcol h d)

theorem dqAdd_real (b : Blk A C B M h j x0 x1 x2 x3 x4 x5 x6 x7 x8) (q : Fin 8192) (d : Fin 128) :
    dqAdd j.val x0 x1 x2 x3 x4 x5 x6 x7 x8 q d = ((part A C B M h j q d : ℝ) : EReal) := by
  unfold dqAdd
  simp only [dsc_real b, b.b0, s1_eq, ← EReal.coe_mul, ← coe_sum]
  rw [part, Finset.sum_mul]
  exact congrArg _ (Finset.sum_congr rfl fun r _ => by ring)

/-- A sum over the tiles and their rows is a sum over the keys. -/
theorem sum_rows (f : Fin 8192 → ℝ) : ∑ j : Fin 8, ∑ r : Fin 1024, f (row j r) = ∑ k, f k := by
  rw [← Fintype.sum_prod_type' (fun j r => f (row j r))]
  exact Fintype.sum_equiv (finProdFinEquiv (m := 8) (n := 1024)) (fun p => f (row p.1 p.2)) f
    (fun p => congrArg f (Fin.ext (by show 1024 * p.1.val + p.2.val = p.2.val + 1024 * p.1.val; omega)))

/-- The tiles below `n`. -/
def upto (f : Fin 8 → ℝ) (n : ℕ) : ℝ := ∑ i ∈ Finset.range n, if hi : i < 8 then f ⟨i, hi⟩ else 0

theorem upto_succ (f : Fin 8 → ℝ) (n : ℕ) (hn : n < 8) : upto f (n + 1) = upto f n + f ⟨n, hn⟩ := by
  rw [upto, Finset.sum_range_succ, dif_pos hn]
  rfl
theorem upto_all (f : Fin 8 → ℝ) : upto f 8 = ∑ j, f j := by
  rw [upto, Finset.sum_range]
  exact Finset.sum_congr rfl fun i _ => dif_pos i.isLt

end Cert.KernelIdeal.Fox
-- ==== Proof.FoxRef.lean ====
/- The reference's arrays, and each read at an index. -/
module

public import proofs.«01_k».proof.Proof.FoxReal
public import proofs.«01_k».proof.Proof.Gen.ReferenceIdeal.Run
public import Idealize.ShloMosaic.Lib.Pointwise
public import Idealize.ShloMosaic.Lib.WordCmp

@[expose] public section

set_option maxRecDepth 16384

noncomputable section

namespace Cert.ReferenceIdeal.FoxRef

open Cert.ReferenceIdeal Cert.ReferenceIdeal.Gen Cert.ReferenceIdeal.Value Idealize Idealize.ShloMosaic FoxReal

variable (X0 : FVec Ideal S8192x3072 .bf16) (X1 : FVec Ideal S8x8192 .f32) (X2 : FVec Ideal S8192x1024 .bf16)

/-! ## The arrays -/

def qA : FVec Ideal S8192x8x128 .f32 := shapeCast _ (extf .f32 (extractStridedSlice S8192x1024 ![0, 0] X0 slices_S8192x3072_S8192x1024_0_0) bitsLt_bf16_f32) shapeCasts_S8192x1024_S8192x8x128
def kA : FVec Ideal S8192x8x128 .f32 := shapeCast _ (extf .f32 (extractStridedSlice S8192x1024 ![0, 1024] X0 slices_S8192x3072_S8192x1024_0_1024) bitsLt_bf16_f32) shapeCasts_S8192x1024_S8192x8x128
def vA : FVec Ideal S8192x8x128 .f32 := shapeCast _ (extf .f32 (extractStridedSlice S8192x1024 ![0, 2048] X0 slices_S8192x3072_S8192x1024_0_2048) bitsLt_bf16_f32) shapeCasts_S8192x1024_S8192x8x128
/-- Key at most query. -/
def mA : Vec Ideal S8x8192x8192 .i1 := broadcastInDim S8x8192x8192 ![1, 2] bcast_S8192x8192_S8x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))
def rA : FVec Ideal S8x8192x8192 .f32 := broadcastInDim S8x8192x8192 ![] bcast_S_S8x8192x8192 (Host.sqrt (constant S_ .f32 0x43000000#32))

section Ops

variable (q k v : FVec Ideal S8192x8x128 .f32) (o : FVec Ideal S8x128x8192 .f32) (mk : IVec S8x8192x8192 1)
  (r s e dp g : FVec Ideal S8x8192x8192 .f32) (x l u w : FVec Ideal S8x8192 .f32)

def byKey : FVec Ideal S8x8192x8192 .f32 := broadcastInDim S8x8192x8192 ![0, 1, 2] bcast_S8x8192x1_S8x8192x8192_0_1_2 (broadcastInDim S8x8192x1 ![0, 1] bcast_S8x8192_S8x8192x1_0_1 x)
def scoreOf : FVec Ideal S8x8192x8192 .f32 := select mk (addf (Host.divf (Host.dotGeneral dot_S8192x8x128_S8192x8x128_S8x8192x8192_2_2_0_0_1_1 none q k) r) (subf (broadcastInDim S8x8192x8192 ![0, 1, 2] bcast_S8x8192x1_S8x8192x8192_0_1_2 (broadcastInDim S8x8192x1 ![0, 1] bcast_S8x8192_S8x8192x1_0_1 x)) (broadcastInDim S8x8192x8192 ![0, 1, 2] bcast_S8x1x8192_S8x8192x8192_0_1_2 (broadcastInDim S8x1x8192 ![0, 2] bcast_S8x8192_S8x1x8192_0_2 x)))) (broadcastInDim S8x8192x8192 ![] bcast_S_S8x8192x8192 (id (constant S_ .f32 0xFF800000#32)))
def maxOf : FVec Ideal S8x8192 .f32 := Host.reduce FloatOps.maximumf s (constant S_ .f32 0xFF800000#32) reducesTo_S8x8192x8192_S8x8192_d2 h_S_
def topOf : FVec Ideal S8x8192 .f32 := maximumf (broadcastInDim S8x8192 ![] bcast_S_S8x8192 (constant S_ .f32 0xFF800000#32)) x
def expOf : FVec Ideal S8x8192x8192 .f32 := Host.exp (subf s (byKey x))
def sumOf : FVec Ideal S8x8192 .f32 := Host.reduceAdd e (constant S_ .f32 0x00000000#32) reducesTo_S8x8192x8192_S8x8192_d2 h_S_
def colOf : FVec Ideal S8x8192x1 .f32 := broadcastInDim S8x8192x1 ![0, 1] bcast_S8x8192_S8x8192x1_0_1 l
def dpOf : FVec Ideal S8x8192x8192 .f32 := Host.dotGeneral dot_S8x128x8192_S8192x8x128_S8x8192x8192_1_2_2_0_0_1 none o v
def quotOf : FVec Ideal S8x8192 .f32 := sumOf (mulf (mulf dp (broadcastInDim S8x8192x8192 ![0, 1, 2] bcast_S8x8192x1_S8x8192x8192_0_1_2 (Host.divf (broadcastInDim S8x8192x1 ![] bcast_S_S8x8192x1 (constant S_ .f32 0x3F800000#32)) (mulf (colOf l) (colOf l))))) e)
def negOf : FVec Ideal S8x8192 .f32 := Host.reduceAdd (Host.negf (shapeCast S8x8192x1 u shapeCasts_S8x8192_S8x8192x1)) (constant S_ .f32 0x00000000#32) reducesTo_S8x8192x1_S8x8192_d2 h_S_
def gradOf : FVec Ideal S8x8192x8192 .f32 := select mk (mulf (addf (Host.divf dp (byKey l)) (broadcastInDim S8x8192x8192 ![0, 1] bcast_S8x8192_S8x8192x8192_0_1 w)) e) (broadcastInDim S8x8192x8192 ![] bcast_S_S8x8192x8192 (constant S_ .f32 0x00000000#32))
def dqOf : FVec Ideal S8192x1024 .f32 := shapeCast _ (transpose S8192x8x128 [1, 0, 2] (Host.dotGeneral dot_S8x8192x8192_S8192x8x128_S8x8192x128_2_0_1_2_0_1 none (Host.divf g r) k) transposes_S8x8192x128_S8192x8x128_1_0_2) shapeCasts_S8192x8x128_S8192x1024
def dkOf : FVec Ideal S8192x1024 .bf16 := truncf .bf16 (shapeCast S8192x1024 (transpose S8192x8x128 [1, 0, 2] (Host.dotGeneral dot_S8x8192x8192_S8192x8x128_S8x8192x128_1_0_2_2_0_1 none (Host.divf g r) q) transposes_S8x8192x128_S8192x8x128_1_0_2) shapeCasts_S8192x8x128_S8192x1024) bitsLt_bf16_f32
def dvOf : FVec Ideal S8192x1024 .bf16 := truncf .bf16 (shapeCast S8192x1024 (transpose S8192x8x128 [2, 0, 1] (Host.dotGeneral dot_S8x128x8192_S8x8192x8192_S8x128x8192_2_1_1_2_0_0 none o (Host.divf e (byKey l))) transposes_S8x128x8192_S8192x8x128_2_0_1) shapeCasts_S8192x8x128_S8192x1024) bitsLt_bf16_f32
/-- The part of the gates as keys and the part as queries. -/
def ckOf : FVec Ideal S8x8192 .f32 := Host.reduceAdd (shapeCast S8x1x8192 (Host.reduceAdd (Host.negf g) (constant S_ .f32 0x00000000#32) reducesTo_S8x8192x8192_S8x8192_d1 h_S_) shapeCasts_S8x8192_S8x1x8192) (constant S_ .f32 0x00000000#32) reducesTo_S8x1x8192_S8x8192_d1 h_S_
def cqOf : FVec Ideal S8x8192 .f32 := Host.reduceAdd (shapeCast S8x8192x1 (sumOf g) shapeCasts_S8x8192_S8x8192x1) (constant S_ .f32 0x00000000#32) reducesTo_S8x8192x1_S8x8192_d2 h_S_
def dcOf : FVec Ideal S8x8x1x1024 .f32 := shapeCast _ (addf (ckOf g) (cqOf g)) shapeCasts_S8x8192_S8x8x1x1024

end Ops

/-- The output's cotangent by head. -/
def oA : FVec Ideal S8x128x8192 .f32 := transpose S8x128x8192 [1, 2, 0] (shapeCast S8192x8x128 (extf .f32 X2 bitsLt_bf16_f32) shapeCasts_S8192x1024_S8192x8x128) transposes_S8192x8x128_S8x128x8192_1_2_0
/-- The masked scores. -/
def sA : FVec Ideal S8x8192x8192 .f32 := scoreOf (qA X0) (kA X0) mA rA X1
/-- The rows' greatest scores. -/
def xA : FVec Ideal S8x8192 .f32 := maxOf (sA X0 X1)
/-- The exponentials and their rows' sums. -/
def eA : FVec Ideal S8x8192x8192 .f32 := expOf (sA X0 X1) (topOf (xA X0 X1))
def lA : FVec Ideal S8x8192 .f32 := sumOf (eA X0 X1)
/-- The probabilities' cotangent. -/
def dpA : FVec Ideal S8x8192x8192 .f32 := dpOf (vA X0) (oA X2)
/-- The scores' cotangent. -/
def gA : FVec Ideal S8x8192x8192 .f32 := gradOf mA (eA X0 X1) (dpA X0 X2) (lA X0 X1) (negOf (quotOf (eA X0 X1) (dpA X0 X2) (lA X0 X1)))
def dqA : FVec Ideal S8192x1024 .f32 := dqOf (kA X0) rA (gA X0 X1 X2)
def dkA : FVec Ideal S8192x1024 .bf16 := dkOf (qA X0) rA (gA X0 X1 X2)
def dvA : FVec Ideal S8192x1024 .bf16 := dvOf (oA X2) (eA X0 X1) (lA X0 X1)
def dcA : FVec Ideal S8x8x1x1024 .f32 := dcOf (gA X0 X1 X2)

/-! ## The results are these arrays -/

variable (m : (ℓ : Loc nD τ sig) → Buf (Elt Ideal) ℓ) (c : Dev nD)

theorem dq_eq : res_main_v89 m c = dqA (m ((c.tc : Thread nD τ).loc main_arg0)) (m ((c.tc : Thread nD τ).loc main_arg1)) (m ((c.tc : Thread nD τ).loc main_arg2)) := by
  unfold res_main_v89; rfl

theorem dk_eq : res_main_v91 m c = dkA (m ((c.tc : Thread nD τ).loc main_arg0)) (m ((c.tc : Thread nD τ).loc main_arg1)) (m ((c.tc : Thread nD τ).loc main_arg2)) := by
  unfold res_main_v91; rfl

theorem dv_eq : res_main_v93 m c = dvA (m ((c.tc : Thread nD τ).loc main_arg0)) (m ((c.tc : Thread nD τ).loc main_arg1)) (m ((c.tc : Thread nD τ).loc main_arg2)) := by
  unfold res_main_v93; rfl

theorem dc_eq : res_main_v94 m c = dcA (m ((c.tc : Thread nD τ).loc main_arg0)) (m ((c.tc : Thread nD τ).loc main_arg1)) (m ((c.tc : Thread nD τ).loc main_arg2)) := by
  unfold res_main_v94; rfl

end Cert.ReferenceIdeal.FoxRef
-- ==== Proof.FoxHost.lean ====
/- The launch's operands that the host computes, as arrays. -/
module

public import proofs.«01_k».proof.Proof.FoxGrid
public import proofs.«01_k».proof.Proof.FoxRef
public import Idealize.ShloMosaic.Lib.StableHlo.RunRead

@[expose] public section

set_option maxRecDepth 16384
set_option maxHeartbeats 1000000

noncomputable section

namespace Cert.KernelIdeal.Fox

open Cert.KernelIdeal Cert.KernelIdeal.Gen
open Idealize Idealize.ShloMosaic Idealize.ShloMosaic.TcCoe FoxReal
open Cert.ReferenceIdeal.FoxRef (sA xA vA byKey expOf sumOf)

variable (X0 : FVec Ideal S8192x3072 .bf16) (X1 : FVec Ideal S8x8192 .f32) (X2 : FVec Ideal S8192x1024 .bf16)

/-! ## The gates' pieces -/

section Ops

variable (p : FVec Ideal S8x8192x128 .f32) (x y l hi mi lo : FVec Ideal S8x8192 .f32) (s e : FVec Ideal S8x8192x8192 .f32)
  (v o : FVec Ideal S8192x8x128 .f32)

def scaleOf : FVec Ideal S8x8192 .f32 := mulf x (broadcastInDim S8x8192 ![] bcast_S_S8x8192 (Host.sqrt (constant S_ .f32 0x43000000#32)))
def roundOf : FVec Ideal S8x8192 .f32 := extf .f32 (truncf .bf16 x bitsLt_bf16_f32) bitsLt_bf16_f32
def lanes : FVec Ideal S8x8192x128 .f32 := broadcastInDim S8x8192x128 ![0, 1, 2] bcast_S8x8192x1_S8x8192x128_0_1_2 (broadcastInDim S8x8192x1 ![0, 1] bcast_S8x8192_S8x8192x1_0_1 x)
def laneIs (w : BitVec 32) : IVec S8x8192x128 1 := cmpi .eq (iotaInDim S8x8192x128 32 2) (broadcastInDim S8x8192x128 ![] bcast_S_S8x8192x128 (constantI S_ 32 w))
def laneLt (w : BitVec 32) : IVec S8x8192x128 1 := cmpi .slt (iotaInDim S8x8192x128 32 2) (broadcastInDim S8x8192x128 ![] bcast_S_S8x8192x128 (constantI S_ 32 w))
def constA (w : BitVec 32) : FVec Ideal S8x8192x128 .f32 := broadcastInDim S8x8192x128 ![] bcast_S_S8x8192x128 (constant S_ .f32 w)
def pieceOf : FVec Ideal S8x8192x128 .f32 := select (ori (laneIs 0#32) (laneIs 3#32)) (lanes hi) (select (ori (laneIs 1#32) (laneIs 4#32)) (lanes mi) (lanes lo))
def qaOf : FVec Ideal S8x8192x128 .bf16 := truncf .bf16 (select (laneLt 3#32) p (select (laneLt 6#32) (constA 0x3F800000#32) (constA 0x00000000#32))) bitsLt_bf16_f32
def kaOf : FVec Ideal S8x8192x128 .bf16 := truncf .bf16 (select (laneLt 3#32) (constA 0x3F800000#32) (select (laneLt 6#32) (Host.negf p) (constA 0x00000000#32))) bitsLt_bf16_f32

/-! ## The rows -/

def invOf : FVec Ideal S8x8192 .f32 := Host.divf (broadcastInDim S8x8192 ![] bcast_S_S8x8192 (constant S_ .f32 0x3F800000#32)) l
def probOf : FVec Ideal S8x8192x8192 .f32 := mulf e (byKey l)
def outOf : FVec Ideal S8192x8x128 .f32 := transpose S8192x8x128 [2, 0, 1] (Host.dotGeneral dot_S8192x8x128_S8x8192x8192_S8x128x8192_0_2_2_1_1_0 none v e) transposes_S8x128x8192_S8192x8x128_2_0_1
def doOf (X2 : FVec Ideal S8192x1024 .bf16) : FVec Ideal S8192x8x128 .f32 := shapeCast S8192x8x128 (extf .f32 X2 bitsLt_bf16_f32) shapeCasts_S8192x1024_S8192x8x128
def meanOf : FVec Ideal S8x8192 .f32 := transpose S8x8192 [1, 0] (Host.reduceAdd (mulf v o) (constant S_ .f32 0x00000000#32) reducesTo_S8192x8x128_S8192x8_d2 h_S_) transposes_S8192x8_S8x8192_1_0
def log2Of : FVec Ideal S8x8192 .f32 := Host.divf x (broadcastInDim S8x8192 ![] bcast_S_S8x8192 (Host.log (constant S_ .f32 0x40000000#32)))
def rowK : FVec Ideal S8x8x1x1024 .f32 := shapeCast S8x8x1x1024 x shapeCasts_S8x8192_S8x8x1x1024

end Ops

def csA : FVec Ideal S8x8192 .f32 := scaleOf X1
def r1A : FVec Ideal S8x8192 .f32 := subf (csA X1) (roundOf (csA X1))
def r2A : FVec Ideal S8x8192 .f32 := subf (r1A X1) (roundOf (r1A X1))
def piA : FVec Ideal S8x8192x128 .f32 := pieceOf (roundOf (csA X1)) (roundOf (r1A X1)) (r2A X1)
def qaA : FVec Ideal S8x8192x128 .bf16 := qaOf (piA X1)
def kaA : FVec Ideal S8x8192x128 .bf16 := kaOf (piA X1)
def exK : FVec Ideal S8x8192x8192 .f32 := expOf (sA X0 X1) (xA X0 X1)
def liK : FVec Ideal S8x8192 .f32 := invOf (sumOf (exK X0 X1))
def prK : FVec Ideal S8x8192x8192 .f32 := probOf (liK X0 X1) (exK X0 X1)
def dlK : FVec Ideal S8x8192 .f32 := meanOf (doOf X2) (outOf (prK X0 X1) (vA X0))
def m2K : FVec Ideal S8x8192 .f32 := log2Of (xA X0 X1)

/-! ## The launch's operands are these -/

variable (m : (ℓ : Loc nD τ sig) → Buf (Elt Ideal) ℓ) (c : Dev nD)

theorem v34_eq : V m c main_v34 = qaA (m ((c.tc : Thread nD τ).loc main_arg1)) := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_simp
  rfl

theorem v42_eq : V m c main_v42 = kaA (m ((c.tc : Thread nD τ).loc main_arg1)) := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_simp
  rfl

theorem v90_eq : V m c main_v90 = rowK (m2K (m ((c.tc : Thread nD τ).loc main_arg0)) (m ((c.tc : Thread nD τ).loc main_arg1))) := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_simp
  rfl

theorem v91_eq : V m c main_v91 = rowK (liK (m ((c.tc : Thread nD τ).loc main_arg0)) (m ((c.tc : Thread nD τ).loc main_arg1))) := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_simp
  rfl

theorem v92_eq : V m c main_v92 = rowK (dlK (m ((c.tc : Thread nD τ).loc main_arg0)) (m ((c.tc : Thread nD τ).loc main_arg1)) (m ((c.tc : Thread nD τ).loc main_arg2))) := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_simp
  rfl

end Cert.KernelIdeal.Fox
-- ==== Proof.FoxOps.lean ====
/- The reference's operations read at an index. -/
module

public import proofs.«01_k».proof.Proof.FoxRef
public import proofs.«01_k».proof.Proof.FoxTrip
public import Idealize.ShloMosaic.Lib.Pointwise
public import Idealize.ShloMosaic.Lib.WordCmp

@[expose] public section

set_option maxRecDepth 16384
set_option maxHeartbeats 400000

noncomputable section

namespace Cert.ReferenceIdeal.FoxRef

open Cert.ReferenceIdeal Cert.ReferenceIdeal.Gen Cert.ReferenceIdeal.Value Idealize Idealize.ShloMosaic FoxReal

/-! ## Words, quotients and greatest scores -/

theorem w128 : Ideal.ofBits .f32 0x43000000#32 = ((128 : ℝ) : EReal) := by
  simp [Ideal.ofBits, Ideal.ieee, -EReal.coe_mul]; norm_num
theorem r128 : Ideal.sqrt (Ideal.ofBits .f32 0x43000000#32) = ((Real.sqrt 128 : ℝ) : EReal) := by
  rw [w128, Ideal.sqrt_coe]
  exact if_neg (by norm_num)
theorem bot_word : Ideal.ofBits .f32 0xFF800000#32 = ⊥ := by
  simp [Ideal.ofBits, Ideal.ieee, -EReal.coe_mul]
theorem zero_word : Ideal.ofBits .f32 0x00000000#32 = 0 := by
  simp [Ideal.ofBits, Ideal.ieee, -EReal.coe_mul]
theorem one_word : Ideal.ofBits .f32 0x3F800000#32 = ((1 : ℝ) : EReal) := by
  simp [Ideal.ofBits, Ideal.ieee, -EReal.coe_mul]; norm_num

theorem s128 : Real.sqrt 128 ≠ 0 := (Real.sqrt_pos.2 (by norm_num)).ne'

theorem div_real (a b : ℝ) (hb : b ≠ 0) : Ideal.div (a : EReal) (b : EReal) = ((a * b⁻¹ : ℝ) : EReal) := by
  rw [Ideal.div_coe hb, one_div, EReal.coe_mul]

theorem fold_real (f : Fin 8192 → EReal) (hf : ∀ k, f k = ⊥ ∨ ∃ r : ℝ, f k = r) (q : Fin 8192) (r : ℝ) (hq : f q = r) :
    ∃ w : ℝ, Finset.fold max ⊥ f Finset.univ = w := by
  classical
  have h : ∀ s : Finset (Fin 8192), Finset.fold max ⊥ f s = ⊥ ∨ ∃ w : ℝ, Finset.fold max ⊥ f s = w := by
    intro s
    induction s using Finset.induction_on with
    | empty => exact Or.inl (Finset.fold_empty ..)
    | insert a t ha ih =>
      rw [Finset.fold_insert ha]
      rcases max_choice (f a) (Finset.fold max ⊥ f t) with e | e <;> rw [e]
      · exact hf a
      · exact ih
  rcases h Finset.univ with e | e
  · have le : f q ≤ Finset.fold max ⊥ f Finset.univ := (Finset.le_fold_max _).2 (Or.inr ⟨q, Finset.mem_univ _, le_rfl⟩)
    rw [e, hq] at le
    exact absurd (le_bot_iff.1 le) (EReal.coe_ne_bot r)
  · exact e

variable (q k v : FVec Ideal S8192x8x128 .f32) (o : FVec Ideal S8x128x8192 .f32) (mk : IVec S8x8192x8192 1)
  (r s e dp g : FVec Ideal S8x8192x8192 .f32) (x l u w : FVec Ideal S8x8192 .f32)

/-! ## Each operation at an index -/

theorem byKey_at (h : Fin 8) (a b : Fin 8192) : byKey x (ix3 h a b) = x (ix2 h a) := by
  pointwise [byKey] <;> rfl
theorem scoreOf_at (h : Fin 8) (a b : Fin 8192) : scoreOf q k mk r x (ix3 h a b)
    = Scalar.select (mk (ix3 h a b)) (Ideal.div (∑ d : Fin 128, q (ix3 a h d) * k (ix3 b h d)) (r (ix3 h a b)) + (x (ix2 h a) - x (ix2 h b))) ⊥ := by
  rw [← bot_word]
  pointwise [scoreOf] <;> rfl
theorem maxOf_at (h : Fin 8) (a : Fin 8192) : maxOf s (ix2 h a) = Finset.fold max ⊥ (fun b => s (ix3 h a b)) Finset.univ := by
  rw [← bot_word]
  pointwise [maxOf] <;> rfl
theorem topOf_at (h : Fin 8) (a : Fin 8192) : topOf x (ix2 h a) = x (ix2 h a) := by
  have e : max ⊥ (x (ix2 h a)) = x (ix2 h a) := max_eq_right bot_le
  rw [← bot_word] at e
  refine Eq.trans ?_ e
  pointwise [topOf] <;> rfl
theorem expOf_at (h : Fin 8) (a b : Fin 8192) : expOf s x (ix3 h a b) = Ideal.exp (s (ix3 h a b) - x (ix2 h a)) := by
  pointwise [expOf, byKey] <;> rfl
theorem sumOf_at (h : Fin 8) (a : Fin 8192) : sumOf e (ix2 h a) = ∑ b, e (ix3 h a b) := by
  pointwise [sumOf]
  try rw [zero_word]
  try rw [zero_add]
theorem dpOf_at (h : Fin 8) (a b : Fin 8192) : dpOf v o (ix3 h a b) = ∑ d : Fin 128, o (ix3 h d a) * v (ix3 b h d) := by
  pointwise [dpOf] <;> rfl
theorem quotOf_at (h : Fin 8) (a : Fin 8192) : quotOf e dp l (ix2 h a)
    = ∑ b, dp (ix3 h a b) * Ideal.div ((1 : ℝ) : EReal) (l (ix2 h a) * l (ix2 h a)) * e (ix3 h a b) := by
  unfold quotOf
  rw [sumOf_at]
  refine Finset.sum_congr rfl fun b _ => ?_
  rw [← one_word]
  pointwise [colOf] <;> rfl
theorem negOf_at (h : Fin 8) (a : Fin 8192) : negOf u (ix2 h a) = -u (ix2 h a) := by
  pointwise [negOf]
  try rw [zero_word]
  try simp only [Fin.sum_univ_one, zero_add]
theorem gradOf_at (h : Fin 8) (a b : Fin 8192) : gradOf mk e dp l w (ix3 h a b)
    = Scalar.select (mk (ix3 h a b)) ((Ideal.div (dp (ix3 h a b)) (l (ix2 h a)) + w (ix2 h a)) * e (ix3 h a b)) 0 := by
  rw [← zero_word]
  pointwise [gradOf, byKey] <;> rfl

theorem col_div (h : Fin 8) (d : Fin 128) (p) : (⟨(128 * h.val + d.val) / 128, p⟩ : Fin 8) = h :=
  Fin.ext (by show (128 * h.val + d.val) / 128 = h.val; omega)
theorem col_mod (h : Fin 8) (d : Fin 128) (p) : (⟨(128 * h.val + d.val) % 128, p⟩ : Fin 128) = d :=
  Fin.ext (by show (128 * h.val + d.val) % 128 = d.val; omega)

theorem dqOf_at (h : Fin 8) (a : Fin 8192) (d : Fin 128) : dqOf k r g (ix2 a (hcol h d))
    = ∑ b, Ideal.div (g (ix3 h a b)) (r (ix3 h a b)) * k (ix3 b h d) := by
  pointwise [dqOf]
  try simp only [col_div, col_mod]
theorem dkOf_at (h : Fin 8) (b : Fin 8192) (d : Fin 128) : dkOf q r g (ix2 b (hcol h d))
    = ∑ a, Ideal.div (g (ix3 h a b)) (r (ix3 h a b)) * q (ix3 a h d) := by
  pointwise [dkOf]
  try simp only [col_div, col_mod]
theorem dvOf_at (h : Fin 8) (b : Fin 8192) (d : Fin 128) : dvOf o e l (ix2 b (hcol h d))
    = ∑ a, o (ix3 h d a) * Ideal.div (e (ix3 h a b)) (l (ix2 h a)) := by
  pointwise [dvOf, byKey]
  try simp only [col_div, col_mod]
theorem ckOf_at (h : Fin 8) (b : Fin 8192) : ckOf g (ix2 h b) = ∑ a, -g (ix3 h a b) := by
  pointwise [ckOf]
  try simp only [Fin.sum_univ_one, zero_word, zero_add]
theorem cqOf_at (h : Fin 8) (a : Fin 8192) : cqOf g (ix2 h a) = ∑ b, g (ix3 h a b) := by
  have e : ∀ y : FVec Ideal S8x8192 .f32, Host.reduceAdd (shapeCast S8x8192x1 y shapeCasts_S8x8192_S8x8192x1) (constant S_ .f32 0x00000000#32) reducesTo_S8x8192x1_S8x8192_d2 h_S_ (ix2 h a) = y (ix2 h a) := by
    intro y
    pointwise []
    try simp only [Fin.sum_univ_one, zero_word, zero_add]
  unfold cqOf
  rw [e, sumOf_at]
theorem dcOf_at (h j : Fin 8) (i : Fin 1024) (b : Fin 8192) (hb : b.val = 1024 * j.val + i.val) : dcOf g (ix4 h j 0 i)
    = ckOf g (ix2 h b) + cqOf g (ix2 h b) := by
  have e : ∀ p, (⟨j.val * 1024 + i.val, p⟩ : Fin 8192) = b := fun p => Fin.ext (by
    show j.val * 1024 + i.val = b.val; omega)
  unfold dcOf
  generalize ckOf g = y
  generalize cqOf g = z
  pointwise []
  try simp only [e]

end Cert.ReferenceIdeal.FoxRef
-- ==== Proof.FoxRefAt.lean ====
/- The reference's arrays read at an index. -/
module

public import proofs.«01_k».proof.Proof.FoxOps
public import proofs.«01_k».proof.Proof.FoxTrip
public import Idealize.ShloMosaic.Lib.Pointwise
public import Idealize.ShloMosaic.Lib.WordCmp

@[expose] public section

set_option maxRecDepth 16384
set_option maxHeartbeats 400000

noncomputable section

namespace Cert.ReferenceIdeal.FoxRef

open Cert.ReferenceIdeal Cert.ReferenceIdeal.Gen Cert.ReferenceIdeal.Value Idealize Idealize.ShloMosaic FoxReal

variable {A : Fin 8192 → Fin 3072 → ℝ} {C : Fin 8 → Fin 8192 → ℝ} {B : Fin 8192 → Fin 1024 → ℝ}
  {X0 : FVec Ideal S8192x3072 .bf16} {X1 : FVec Ideal S8x8192 .f32} {X2 : FVec Ideal S8192x1024 .bf16}
  (n : Nums A C B X0 X1 X2)

/-! ## The operands -/

include n
theorem qA_at (h : Fin 8) (q : Fin 8192) (d : Fin 128) : qA X0 (ix3 q h d) = ((A q (qcol h d) : ℝ) : EReal) := by
  rw [← n.h0]
  pointwise [qA]
  exact congrArg (fun t => X0 (ix2 q t)) (Fin.ext (by
    show (h.val * 128 + d.val) = 0 + (128 * h.val + d.val); omega))
theorem kA_at (h : Fin 8) (q : Fin 8192) (d : Fin 128) : kA X0 (ix3 q h d) = ((A q (kcol h d) : ℝ) : EReal) := by
  rw [← n.h0]
  pointwise [kA]
  exact congrArg (fun t => X0 (ix2 q t)) (Fin.ext (by
    show 1024 + (h.val * 128 + d.val) = 1024 + (128 * h.val + d.val); omega))
theorem vA_at (h : Fin 8) (q : Fin 8192) (d : Fin 128) : vA X0 (ix3 q h d) = ((A q (vcol h d) : ℝ) : EReal) := by
  rw [← n.h0]
  pointwise [vA]
  exact congrArg (fun t => X0 (ix2 q t)) (Fin.ext (by
    show 2048 + (h.val * 128 + d.val) = 2048 + (128 * h.val + d.val); omega))
theorem oA_at (h : Fin 8) (q : Fin 8192) (d : Fin 128) : oA X2 (ix3 h d q) = ((B q (hcol h d) : ℝ) : EReal) := by
  rw [← n.h2]
  pointwise [oA]
  exact congrArg (fun t => X2 (ix2 q t)) (Fin.ext (by
    show h.val * 128 + d.val = 128 * h.val + d.val; omega))
omit n
theorem mA_at (h : Fin 8) (q k : Fin 8192) : mA (ix3 h q k) = BitVec.ofBool (decide (k.val ≤ q.val)) := by
  pointwise [mA]
  exact WordCmp.cmpi_sle_ofNat (by have := k.isLt; omega) (by have := q.isLt; omega)
theorem rA_at (i) : rA i = ((Real.sqrt 128 : ℝ) : EReal) := by
  rw [← r128]
  pointwise [rA]

/-! ## The scores and the probabilities -/

include n
theorem dpA_at (h : Fin 8) (q k : Fin 8192) : dpA X0 X2 (ix3 h q k) = ((Dp A B h q k : ℝ) : EReal) := by
  rw [dpA, dpOf_at]
  simp only [oA_at n, vA_at n, ← EReal.coe_mul, ← Cert.KernelIdeal.Fox.coe_sum]
  exact congrArg _ (Finset.sum_congr rfl fun d _ => mul_comm _ _)
theorem sA_at (h : Fin 8) (q k : Fin 8192) :
    sA X0 X1 (ix3 h q k) = if k.val ≤ q.val then ((Sc A C h q k : ℝ) : EReal) else ⊥ := by
  rw [sA, scoreOf_at, rA_at, mA_at]
  simp only [qA_at n, kA_at n, n.h1, ← EReal.coe_mul, ← EReal.coe_sub, ← Cert.KernelIdeal.Fox.coe_sum,
    div_real _ _ s128, ← EReal.coe_add]
  by_cases hk : k.val ≤ q.val
  · rw [if_pos hk, decide_eq_true hk]; rfl
  · rw [if_neg hk, decide_eq_false hk]; rfl
theorem xA_at (h : Fin 8) (q : Fin 8192) : ∃ w : ℝ, xA X0 X1 (ix2 h q) = w := by
  rw [xA, maxOf_at]
  simp only [sA_at n]
  refine fold_real _ (fun k => ?_) q (Sc A C h q q) (if_pos le_rfl)
  by_cases hk : k.val ≤ q.val
  · exact Or.inr ⟨_, if_pos hk⟩
  · exact Or.inl (if_neg hk)

variable {M : Fin 8 → Fin 8192 → ℝ} (hM : ∀ h q, xA X0 X1 (ix2 h q) = ((M h q : ℝ) : EReal))
include hM

theorem exp_at (h : Fin 8) (q k : Fin 8192) : expOf (sA X0 X1) (xA X0 X1) (ix3 h q k) = ((Ex A C M h q k : ℝ) : EReal) := by
  rw [expOf_at, hM, sA_at n]
  by_cases hk : k.val ≤ q.val
  · rw [if_pos hk, Ex, if_pos hk, ← EReal.coe_sub]; exact Ideal.exp_coe _
  · rw [if_neg hk, Ex, if_neg hk, sub_eq_add_neg, EReal.bot_add, EReal.coe_zero]; exact Ideal.exp_bot
theorem eA_at (h : Fin 8) (q k : Fin 8192) : eA X0 X1 (ix3 h q k) = ((Ex A C M h q k : ℝ) : EReal) := by
  rw [← exp_at n hM, eA, expOf_at, expOf_at, topOf_at]
theorem sum_at (e : FVec Ideal S8x8192x8192 .f32) (he : ∀ h q k, e (ix3 h q k) = ((Ex A C M h q k : ℝ) : EReal)) (h : Fin 8) (q : Fin 8192) :
    sumOf e (ix2 h q) = ((Ls A C M h q : ℝ) : EReal) := by
  rw [sumOf_at]
  simp only [he, ← Cert.KernelIdeal.Fox.coe_sum]
  rw [Ls]
theorem lA_at (h : Fin 8) (q : Fin 8192) : lA X0 X1 (ix2 h q) = ((Ls A C M h q : ℝ) : EReal) := by
  rw [lA]
  exact sum_at n hM _ (eA_at n hM) h q
theorem uA_at (h : Fin 8) (q : Fin 8192) : quotOf (eA X0 X1) (dpA X0 X2) (lA X0 X1) (ix2 h q)
    = ((∑ k, Dp A B h q k * (Ls A C M h q * Ls A C M h q)⁻¹ * Ex A C M h q k : ℝ) : EReal) := by
  have l0 : Ls A C M h q * Ls A C M h q ≠ 0 := mul_ne_zero (Ls_pos A C M h q).ne' (Ls_pos A C M h q).ne'
  rw [quotOf_at, lA_at n hM, ← EReal.coe_mul, div_real _ _ l0, one_mul]
  simp only [eA_at n hM, dpA_at n, ← EReal.coe_mul, ← Cert.KernelIdeal.Fox.coe_sum]
theorem gA_at (h : Fin 8) (q k : Fin 8192) : gA X0 X1 X2 (ix3 h q k) = ((Ds A C B M h q k : ℝ) : EReal) := by
  have l0 : Ls A C M h q ≠ 0 := (Ls_pos A C M h q).ne'
  rw [gA, gradOf_at, negOf_at, uA_at n hM, eA_at n hM, lA_at n hM, dpA_at n, mA_at, div_real _ _ l0,
    ← EReal.coe_neg, ← EReal.coe_add, ← EReal.coe_mul, Ds_quot]
  by_cases hk : k.val ≤ q.val
  · rw [decide_eq_true hk]; rfl
  · rw [decide_eq_false hk, Ds_off A C B M hk, EReal.coe_zero]; rfl
theorem dqA_at (h : Fin 8) (q : Fin 8192) (d : Fin 128) : dqA X0 X1 X2 (ix2 q (hcol h d))
    = ((∑ k, Ds A C B M h q k * (Real.sqrt 128)⁻¹ * A k (kcol h d) : ℝ) : EReal) := by
  rw [dqA, dqOf_at]
  simp only [gA_at n hM, rA_at, div_real _ _ s128, kA_at n, ← EReal.coe_mul, ← Cert.KernelIdeal.Fox.coe_sum]
theorem dkA_at (h : Fin 8) (k : Fin 8192) (d : Fin 128) : dkA X0 X1 X2 (ix2 k (hcol h d))
    = ((∑ q, Ds A C B M h q k * (Real.sqrt 128)⁻¹ * A q (qcol h d) : ℝ) : EReal) := by
  rw [dkA, dkOf_at]
  simp only [gA_at n hM, rA_at, div_real _ _ s128, qA_at n, ← EReal.coe_mul, ← Cert.KernelIdeal.Fox.coe_sum]
theorem dvA_at (h : Fin 8) (k : Fin 8192) (d : Fin 128) : dvA X0 X1 X2 (ix2 k (hcol h d))
    = ((∑ q, Pr A C M h q k * B q (hcol h d) : ℝ) : EReal) := by
  have l0 : ∀ q, Ls A C M h q ≠ 0 := fun q => (Ls_pos A C M h q).ne'
  rw [dvA, dvOf_at]
  simp only [oA_at n, eA_at n hM, lA_at n hM, div_real _ _ (l0 _), ← EReal.coe_mul, ← Cert.KernelIdeal.Fox.coe_sum]
  exact congrArg _ (Finset.sum_congr rfl fun q _ => mul_comm _ _)
theorem dcA_at (h j : Fin 8) (r : Fin 1024) (k : Fin 8192) (hk : k.val = 1024 * j.val + r.val) : dcA X0 X1 X2 (ix4 h j 0 r)
    = ((-∑ q, Ds A C B M h q k : ℝ) : EReal) := by
  rw [dcA, dcOf_at _ h j r k hk, ckOf_at, cqOf_at]
  simp only [gA_at n hM, ← EReal.coe_neg, ← Cert.KernelIdeal.Fox.coe_sum, ← EReal.coe_add, Ds_row, add_zero, Finset.sum_neg_distrib]

end Cert.ReferenceIdeal.FoxRef
-- ==== Proof.FoxHostAt.lean ====
/- The launch's host operands read at an index. -/
module

public import proofs.«01_k».proof.Proof.FoxHost
public import proofs.«01_k».proof.Proof.FoxRefAt

@[expose] public section

set_option maxRecDepth 16384
set_option maxHeartbeats 400000

noncomputable section

namespace Cert.KernelIdeal.Fox

open Cert.KernelIdeal Cert.KernelIdeal.Gen
open Idealize Idealize.ShloMosaic Idealize.ShloMosaic.TcCoe FoxReal
open Cert.ReferenceIdeal.FoxRef (sA xA vA byKey expOf sumOf byKey_at sumOf_at exp_at sum_at vA_at one_word zero_word r128 div_real s128)

/-! ## Each operation at an index -/

section Ops

variable (p : FVec Ideal S8x8192x128 .f32) (x y l hi mi lo : FVec Ideal S8x8192 .f32) (s e : FVec Ideal S8x8192x8192 .f32)
  (v o : FVec Ideal S8192x8x128 .f32) (h : Fin 8) (a b : Fin 8192) (d : Fin 128)

theorem scaleOf_at : scaleOf x (ix2 h a) = x (ix2 h a) * ((Real.sqrt 128 : ℝ) : EReal) := by
  rw [← r128]
  pointwise [scaleOf] <;> rfl
theorem roundOf_at : roundOf x (ix2 h a) = x (ix2 h a) := by
  pointwise [roundOf] <;> rfl
theorem lanes_at : lanes x (ix3 h a d) = x (ix2 h a) := by
  pointwise [lanes] <;> rfl
theorem laneIs_at (w : ℕ) (hw : w < 128) : laneIs (BitVec.ofNat 32 w) (ix3 h a d) = BitVec.ofBool (decide (d.val = w)) := by
  have hd := d.isLt
  have e : laneIs (BitVec.ofNat 32 w) (ix3 h a d) = IntOp.cmpi .eq (BitVec.ofNat 32 d.val) (BitVec.ofNat 32 w) := by
    pointwise [laneIs] <;> rfl
  rw [e]
  exact WordCmp.cmpi_eq_ofNat (by omega) (by omega)
theorem laneLt_at (w : ℕ) (hw : w < 128) : laneLt (BitVec.ofNat 32 w) (ix3 h a d) = BitVec.ofBool (decide (d.val < w)) := by
  have hd := d.isLt
  have e : laneLt (BitVec.ofNat 32 w) (ix3 h a d) = IntOp.cmpi .slt (BitVec.ofNat 32 d.val) (BitVec.ofNat 32 w) := by
    pointwise [laneLt] <;> rfl
  rw [e]
  exact WordCmp.cmpi_slt_ofNat (by omega) (by omega)
theorem constA_at (w : BitVec 32) : constA w (ix3 h a d) = Ideal.ofBits .f32 w := by
  pointwise [constA] <;> rfl
theorem pieceOf_at : pieceOf hi mi lo (ix3 h a d)
    = if d.val = 0 ∨ d.val = 3 then hi (ix2 h a) else if d.val = 1 ∨ d.val = 4 then mi (ix2 h a) else lo (ix2 h a) := by
  have e : pieceOf hi mi lo (ix3 h a d) = Scalar.select (IntOp.ori (laneIs 0#32 (ix3 h a d)) (laneIs 3#32 (ix3 h a d))) (lanes hi (ix3 h a d))
      (Scalar.select (IntOp.ori (laneIs 1#32 (ix3 h a d)) (laneIs 4#32 (ix3 h a d))) (lanes mi (ix3 h a d)) (lanes lo (ix3 h a d))) := rfl
  rw [e, laneIs_at h a d 0 (by omega), laneIs_at h a d 1 (by omega), laneIs_at h a d 3 (by omega), laneIs_at h a d 4 (by omega),
    WordCmp.ori_ofBool, WordCmp.ori_ofBool, WordCmp.select_ofBool, WordCmp.select_ofBool, lanes_at, lanes_at, lanes_at]
  simp only [Bool.or_eq_true, decide_eq_true_eq]
theorem qaOf_at : qaOf p (ix3 h a d) = if d.val < 3 then p (ix3 h a d) else if d.val < 6 then ((1 : ℝ) : EReal) else 0 := by
  have e : qaOf p (ix3 h a d) = Scalar.select (laneLt 3#32 (ix3 h a d)) (p (ix3 h a d))
      (Scalar.select (laneLt 6#32 (ix3 h a d)) (constA 0x3F800000#32 (ix3 h a d)) (constA 0x00000000#32 (ix3 h a d))) := rfl
  rw [e, laneLt_at h a d 3 (by omega), laneLt_at h a d 6 (by omega), WordCmp.select_ofBool, WordCmp.select_ofBool, constA_at, constA_at,
    one_word, zero_word]
  simp only [decide_eq_true_eq]
theorem kaOf_at : kaOf p (ix3 h a d) = if d.val < 3 then ((1 : ℝ) : EReal) else if d.val < 6 then -p (ix3 h a d) else 0 := by
  have e : kaOf p (ix3 h a d) = Scalar.select (laneLt 3#32 (ix3 h a d)) (constA 0x3F800000#32 (ix3 h a d))
      (Scalar.select (laneLt 6#32 (ix3 h a d)) (-p (ix3 h a d)) (constA 0x00000000#32 (ix3 h a d))) := rfl
  rw [e, laneLt_at h a d 3 (by omega), laneLt_at h a d 6 (by omega), WordCmp.select_ofBool, WordCmp.select_ofBool, constA_at, constA_at,
    one_word, zero_word]
  simp only [decide_eq_true_eq]
theorem invOf_at : invOf l (ix2 h a) = Ideal.div ((1 : ℝ) : EReal) (l (ix2 h a)) := by
  rw [← one_word]
  pointwise [invOf] <;> rfl
theorem probOf_at : probOf l e (ix3 h a b) = e (ix3 h a b) * l (ix2 h a) := by
  pointwise [probOf, byKey] <;> rfl
theorem outOf_at : outOf e v (ix3 a h d) = ∑ b : Fin 8192, v (ix3 b h d) * e (ix3 h a b) := by
  pointwise [outOf] <;> rfl
theorem doOf_at (X2 : FVec Ideal S8192x1024 .bf16) : doOf X2 (ix3 a h d) = X2 (ix2 a (hcol h d)) := by
  pointwise [doOf]
  exact congrArg (fun t => X2 (ix2 a t)) (Fin.ext (by
    show h.val * 128 + d.val = 128 * h.val + d.val; omega))
theorem meanOf_at : meanOf v o (ix2 h a) = ∑ d : Fin 128, v (ix3 a h d) * o (ix3 a h d) := by
  pointwise [meanOf]
  try rw [zero_word]
  try rw [zero_add]
theorem two_word : Ideal.log (Ideal.ofBits .f32 0x40000000#32) = ((Real.log 2 : ℝ) : EReal) := by
  have e : Ideal.ofBits .f32 0x40000000#32 = ((2 : ℝ) : EReal) := by
    simp [Ideal.ofBits, Ideal.ieee, -EReal.coe_mul]; norm_num
  rw [e, Ideal.log_coe]
  exact if_neg (by norm_num)
theorem log2Of_at : log2Of x (ix2 h a) = Ideal.div (x (ix2 h a)) ((Real.log 2 : ℝ) : EReal) := by
  rw [← two_word]
  pointwise [log2Of] <;> rfl
theorem rowK_at (i : Fin 8) (r : Fin 1024) (ha : a.val = 1024 * i.val + r.val) : rowK x (ix4 h i 0 r) = x (ix2 h a) := by
  pointwise [rowK]
  exact congrArg (fun t => x (ix2 h t)) (Fin.ext (by show i.val * 1024 + r.val = a.val; omega))

end Ops

/-! ## The operands -/

variable {A : Fin 8192 → Fin 3072 → ℝ} {C : Fin 8 → Fin 8192 → ℝ} {B : Fin 8192 → Fin 1024 → ℝ}
  {X0 : FVec Ideal S8192x3072 .bf16} {X1 : FVec Ideal S8x8192 .f32} {X2 : FVec Ideal S8192x1024 .bf16}
  (n : Nums A C B X0 X1 X2)
include n

theorem csA_at (h : Fin 8) (a : Fin 8192) : csA X1 (ix2 h a) = ((C h a * Real.sqrt 128 : ℝ) : EReal) := by
  rw [csA, scaleOf_at, n.h1, EReal.coe_mul]
theorem r1A_at (h : Fin 8) (a : Fin 8192) : r1A X1 (ix2 h a) = ((0 : ℝ) : EReal) := by
  have e : r1A X1 (ix2 h a) = csA X1 (ix2 h a) - roundOf (csA X1) (ix2 h a) := rfl
  rw [e, roundOf_at, csA_at n, ← EReal.coe_sub, sub_self]
theorem r2A_at (h : Fin 8) (a : Fin 8192) : r2A X1 (ix2 h a) = ((0 : ℝ) : EReal) := by
  have e : r2A X1 (ix2 h a) = r1A X1 (ix2 h a) - roundOf (r1A X1) (ix2 h a) := rfl
  rw [e, roundOf_at, r1A_at n, ← EReal.coe_sub, sub_self]
theorem piA_at (h : Fin 8) (a : Fin 8192) (d : Fin 128) :
    piA X1 (ix3 h a d) = ((if d.val = 0 ∨ d.val = 3 then C h a * Real.sqrt 128 else 0 : ℝ) : EReal) := by
  rw [piA, pieceOf_at, roundOf_at, roundOf_at, csA_at n, r1A_at n, r2A_at n]
  split
  · rfl
  · split <;> rfl
theorem qaA_at (h : Fin 8) (a : Fin 8192) (d : Fin 128) : qaA X1 (ix3 h a d)
    = ((if d.val < 3 then (if d.val = 0 ∨ d.val = 3 then C h a * Real.sqrt 128 else 0) else if d.val < 6 then 1 else 0 : ℝ) : EReal) := by
  rw [qaA, qaOf_at, piA_at n]
  split
  · rfl
  · split <;> rfl
theorem kaA_at (h : Fin 8) (a : Fin 8192) (d : Fin 128) : kaA X1 (ix3 h a d)
    = ((if d.val < 3 then 1 else if d.val < 6 then -(if d.val = 0 ∨ d.val = 3 then C h a * Real.sqrt 128 else 0) else 0 : ℝ) : EReal) := by
  rw [kaA, kaOf_at, piA_at n]
  split
  · rfl
  · split
    · rw [EReal.coe_neg]
    · rfl
theorem gate_at (h : Fin 8) (k q : Fin 8192) : ∑ d : Fin 128, kaA X1 (ix3 h k d) * qaA X1 (ix3 h q d)
    = ((Real.sqrt 128 * (C h q - C h k) : ℝ) : EReal) := by
  simp only [kaA_at n, qaA_at n, ← EReal.coe_mul, ← coe_sum]
  refine congrArg _ ?_
  have e : ∀ d : Fin 128, ((if d.val < 3 then (1 : ℝ) else if d.val < 6 then -(if d.val = 0 ∨ d.val = 3 then C h k * Real.sqrt 128 else 0) else 0)
      * (if d.val < 3 then (if d.val = 0 ∨ d.val = 3 then C h q * Real.sqrt 128 else 0) else if d.val < 6 then 1 else 0))
      = (if d = (0 : Fin 128) then C h q * Real.sqrt 128 else 0) + (if d = (3 : Fin 128) then -(C h k * Real.sqrt 128) else 0) := by
    intro d
    have e0 : d = (0 : Fin 128) ↔ d.val = 0 := Fin.ext_iff
    have e3 : d = (3 : Fin 128) ↔ d.val = 3 := Fin.ext_iff
    simp only [e0, e3]
    by_cases h0 : d.val = 0
    · simp [h0]
    · by_cases h3 : d.val = 3
      · simp [h3]
      · simp [h0, h3]
        intro a _
        exact a
  rw [Finset.sum_congr rfl fun d _ => e d, Finset.sum_add_distrib, Finset.sum_ite_eq' , Finset.sum_ite_eq']
  simp only [Finset.mem_univ, if_true]
  ring

variable {M : Fin 8 → Fin 8192 → ℝ} (hM : ∀ h q, xA X0 X1 (ix2 h q) = ((M h q : ℝ) : EReal))
include hM

theorem exK_at (h : Fin 8) (q k : Fin 8192) : exK X0 X1 (ix3 h q k) = ((Ex A C M h q k : ℝ) : EReal) := by
  rw [exK]
  exact exp_at n hM h q k
theorem liK_at (h : Fin 8) (q : Fin 8192) : liK X0 X1 (ix2 h q) = (((Ls A C M h q)⁻¹ : ℝ) : EReal) := by
  rw [liK, invOf_at, sum_at n hM _ (exK_at n hM), div_real _ _ (Ls_pos A C M h q).ne', one_mul]
theorem prK_at (h : Fin 8) (q k : Fin 8192) : prK X0 X1 (ix3 h q k) = ((Pr A C M h q k : ℝ) : EReal) := by
  rw [prK, probOf_at, exK_at n hM, liK_at n hM, ← EReal.coe_mul, Pr]
theorem dlK_at (h : Fin 8) (q : Fin 8192) : dlK X0 X1 X2 (ix2 h q) = ((Dl A C B M h q : ℝ) : EReal) := by
  rw [dlK, meanOf_at]
  simp only [doOf_at, outOf_at, n.h2, vA_at n, prK_at n hM, ← EReal.coe_mul, ← coe_sum]
  rw [Dl_out]
theorem m2K_at (h : Fin 8) (q : Fin 8192) : m2K X0 X1 (ix2 h q) = ((M h q * (Real.log 2)⁻¹ : ℝ) : EReal) := by
  rw [m2K, log2Of_at, hM, div_real _ _ (Real.log_pos (by norm_num)).ne']

end Cert.KernelIdeal.Fox
-- ==== Proof.FoxDiag.lean ====
/- The diagonal tile of queries, half by half. -/
module

public import proofs.«01_k».proof.Proof.FoxTrip

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI

theorem sum_lo (f : Fin 1024 → EReal) (h : ∀ r : Fin 1024, 512 ≤ r.val → f r = 0) : ∑ r, f r = ∑ r : Fin 512, f (⟨r.val, lo_lt r⟩ : Fin 1024) := by
  have e : ∑ r : Fin (512 + 512), f r = ∑ r : Fin 512, f (Fin.castAdd 512 r) + ∑ r : Fin 512, f (Fin.natAdd 512 r) := Fin.sum_univ_add (a := 512) (b := 512) f
  rw [Finset.sum_eq_zero (f := fun r : Fin 512 => f (Fin.natAdd 512 r)) fun r _ => h _ (by show 512 ≤ 512 + r.val; omega), add_zero] at e
  exact e

set_option maxHeartbeats 4000000 in
theorem diag_inv (a : Memref sig .tc .vmem S8192x128 .f32) (f : BufTy.Contents (Elt Ideal) a.view.ty) (L0 : List (View.Piece (Elt Ideal) S8192x128 .f32))
    (j : ℕ) (b0 : 2 * j < 16) (b1 : 2 * j + 1 < 16) (x0 : Vec Ideal S1024x128 .bf16) (x1 : Vec Ideal S1x1024x128 .bf16) (x2 : Vec Ideal S1024x128 .bf16) (x3 : Vec Ideal S8192x128 .bf16) (x4 : Vec Ideal S1x8192x128 .bf16) (x5 : Vec Ideal S8192x128 .bf16) (x6 : Vec Ideal S1x8x1x1024 .f32) (x7 : Vec Ideal S1x8x1x1024 .f32) (x8 : Vec Ideal S1x8x1x1024 .f32) (kk : FVec Ideal S1024x256 .bf16) (hkk : kk = k0_pay31 x0 x1)
    (P : Fin 8192 → Fin 128 → EReal) (hreal : ∀ r q, ∃ w : ℝ, dsc j x0 x1 x2 x3 x4 x5 x6 x7 x8 r q = w)
    (M L D : Vec Ideal S1x1x1x1024 .f32) (q0 : Vec Ideal S512x128 .bf16) (qa0 : Vec Ideal S1x512x128 .bf16) (o0 : Vec Ideal S512x128 .bf16)
    (q1 : Vec Ideal S512x128 .bf16) (qa1 : Vec Ideal S1x512x128 .bf16) (o1 : Vec Ideal S512x128 .bf16) (p0 p1 : Vec Ideal S512x128 .f32)
    (hq0 : ∀ c d, q0 (ix2 c d) = x3 (ix2 (qix (2 * j) b0 c) d)) (hqa0 : ∀ c d, qa0 (ix3 0 c d) = x4 (ix3 0 (qix (2 * j) b0 c) d))
    (ho0 : ∀ c d, o0 (ix2 c d) = x5 (ix2 (qix (2 * j) b0 c) d))
    (hM0 : ∀ c : Fin 512, M (ix4 0 0 0 (⟨c.val, lo_lt c⟩ : Fin 1024)) = rowAt x6 (qix (2 * j) b0 c))
    (hL0 : ∀ c : Fin 512, L (ix4 0 0 0 (⟨c.val, lo_lt c⟩ : Fin 1024)) = rowAt x7 (qix (2 * j) b0 c))
    (hD0 : ∀ c : Fin 512, D (ix4 0 0 0 (⟨c.val, lo_lt c⟩ : Fin 1024)) = rowAt x8 (qix (2 * j) b0 c))
    (hq1 : ∀ c d, q1 (ix2 c d) = x3 (ix2 (qix (2 * j + 1) b1 c) d)) (hqa1 : ∀ c d, qa1 (ix3 0 c d) = x4 (ix3 0 (qix (2 * j + 1) b1 c) d))
    (ho1 : ∀ c d, o1 (ix2 c d) = x5 (ix2 (qix (2 * j + 1) b1 c) d))
    (hM1 : ∀ c : Fin 512, M (ix4 0 0 0 (⟨512 + c.val, hi_lt c⟩ : Fin 1024)) = rowAt x6 (qix (2 * j + 1) b1 c))
    (hL1 : ∀ c : Fin 512, L (ix4 0 0 0 (⟨512 + c.val, hi_lt c⟩ : Fin 1024)) = rowAt x7 (qix (2 * j + 1) b1 c))
    (hD1 : ∀ c : Fin 512, D (ix4 0 0 0 (⟨512 + c.val, hi_lt c⟩ : Fin 1024)) = rowAt x8 (qix (2 * j + 1) b1 c))
    {off0 off1 : Fin 2 → ℕ} (inb0 : ∀ i, off0 i + (![512, 128] : Fin 2 → ℕ) i ≤ S8192x128.2 i) (inb1 : ∀ i, off1 i + (![512, 128] : Fin 2 → ℕ) i ≤ S8192x128.2 i)
    (h0 : off0 = ![512 * (2 * j), 0]) (h1 : off1 = ![512 * (2 * j + 1), 0])
    (hp0 : ∀ c d, p0 (ix2 c d) = P (qix (2 * j) b0 c) d) (hp1 : ∀ c d, p1 (ix2 c d) = P (qix (2 * j + 1) b1 c) d)
    (hbase : ∀ q d, a.view.read (Elt Ideal) (a.view.writes (Elt Ideal) f L0) (ix2 q d) = P q d) :
    Inv j x0 x1 x2 x3 x4 x5 x6 x7 x8 (2 * (j + 1)) P
      (k0_pay51 (k0_pay37 D) (k0_pay43 kk x2 k0_pay32 (k0_pay35 M) (k0_pay36 L) (k0_pay37 D) q0 (k0_pay38 q0 qa0) o0) q1 (k0_pay46 kk (k0_pay35 M) (k0_pay36 L) q1 qa1) (k0_pay48 x2 o1),
        k0_pay47 kk (k0_pay35 M) (k0_pay36 L) (k0_pay40 kk k0_pay33 (k0_pay35 M) (k0_pay36 L) (k0_pay38 q0 qa0) o0) q1 qa1 o1,
        k0_pay53 (k0_pay37 D) (k0_pay45 k0_pay34 (k0_pay41 kk x2 (k0_pay35 M) (k0_pay36 L) (k0_pay37 D) (k0_pay38 q0 qa0) o0)) (k0_pay46 kk (k0_pay35 M) (k0_pay36 L) q1 qa1) (k0_pay48 x2 o1))
      (a.view.read (Elt Ideal) (a.view.writes (Elt Ideal) f
        (⟨Rect.unit off1 ![512, 128] inb1, k0_pay52 x0 (k0_pay37 D) (k0_pay46 kk (k0_pay35 M) (k0_pay36 L) q1 qa1) (k0_pay48 x2 o1) p1⟩
          :: ⟨Rect.unit off0 ![512, 128] inb0, k0_pay44 x0 kk x2 (k0_pay35 M) (k0_pay36 L) (k0_pay37 D) (k0_pay38 q0 qa0) o0 p0⟩ :: L0))) := by
  subst hkk
  have e2 : 2 * (j + 1) = 2 * j + 1 + 1 := by omega
  rw [e2]
  have z : ∀ (r : Fin 1024) (q : Fin 8192), q.val < 1024 * j + r.val → dsc j x0 x1 x2 x3 x4 x5 x6 x7 x8 r q = 0 := fun r q h => dsc_before _ _ _ _ _ _ _ _ _ _ _ _ (by omega)
  have zp : ∀ (r : Fin 1024) (q : Fin 8192), q.val < 1024 * j + r.val → prob j x0 x1 x3 x4 x6 x7 r q = 0 := fun r q h => if_neg (by omega)
  have hi : ∀ (r : Fin 1024) (c : Fin 512), ¬ r.val < 512 → (qix (2 * j) b0 c).val < 1024 * j + r.val := fun r c h => by
    show 512 * (2 * j) + c.val < _
    omega
  refine ⟨fun r d => ?_, fun r d => ?_, fun r => ?_, fun q d => ?_⟩
  · refine acc_step (f := fun q => dsc j x0 x1 x2 x3 x4 x5 x6 x7 x8 r q * x3 (ix2 q d)) b1 (acc_step (f := fun q => dsc j x0 x1 x2 x3 x4 x5 x6 x7 x8 r q * x3 (ix2 q d)) b0
      (g := fun c => dsc j x0 x1 x2 x3 x4 x5 x6 x7 x8 r (qix (2 * j) b0 c) * x3 (ix2 (qix (2 * j) b0 c) d))
      ((pay32_at r d).trans (sumTo_zero _ _ fun q hq => ?_).symm) (fun c => rfl) ((pay43_at _ _ _ _ _ _ _ _ _ r d).trans (congrArg (_ + ·) ?_)))
      (fun c => ?_) (pay51_at _ _ _ _ _ r d)
    · show dsc j x0 x1 x2 x3 x4 x5 x6 x7 x8 r q * x3 (ix2 q d) = 0
      rw [z r q (by omega), zero_mul]
    · by_cases hr : r.val < 512
      · rw [dif_pos hr]
        exact Finset.sum_congr rfl fun c _ => congrArg₂ (· * ·) (pay41_at j x0 x1 x2 x3 x4 x5 x6 x7 x8 (2 * j) b0 q0 qa0 o0 M L D hq0 hqa0 ho0 hM0 hL0 hD0 rfl ⟨r.val, hr⟩ c) (hq0 c d)
      · rw [dif_neg hr]
        exact (Finset.sum_eq_zero fun c _ => by rw [z r _ (hi r c hr), zero_mul]).symm
    · exact congrArg₂ (· * ·) (pay49_at j x0 x1 x2 x3 x4 x5 x6 x7 x8 (2 * j + 1) b1 q1 qa1 o1 M L D hq1 hqa1 ho1 hM1 hL1 hD1 rfl r c) (hq1 c d)
  · refine acc_step (f := fun q => prob j x0 x1 x3 x4 x6 x7 r q * x5 (ix2 q d)) b1 (acc_step (f := fun q => prob j x0 x1 x3 x4 x6 x7 r q * x5 (ix2 q d)) b0
      (g := fun c => prob j x0 x1 x3 x4 x6 x7 r (qix (2 * j) b0 c) * x5 (ix2 (qix (2 * j) b0 c) d))
      ((pay33_at r d).trans (sumTo_zero _ _ fun q hq => ?_).symm) (fun c => rfl) ((pay40_at _ _ _ _ _ _ r d).trans (congrArg (_ + ·) ?_)))
      (fun c => ?_) (pay47_at _ _ _ _ _ _ _ r d)
    · show prob j x0 x1 x3 x4 x6 x7 r q * x5 (ix2 q d) = 0
      rw [zp r q (by omega), zero_mul]
    · by_cases hr : r.val < 512
      · rw [dif_pos hr]
        exact Finset.sum_congr rfl fun c _ => congrArg₂ (· * ·) (pay39_at j x0 x1 x3 x4 x6 x7 (2 * j) b0 q0 qa0 M L hq0 hqa0 hM0 hL0 rfl ⟨r.val, hr⟩ c) (ho0 c d)
      · rw [dif_neg hr]
        exact (Finset.sum_eq_zero fun c _ => by rw [zp r _ (hi r c hr), zero_mul]).symm
    · exact congrArg₂ (· * ·) (pay46_at j x0 x1 x3 x4 x6 x7 (2 * j + 1) b1 q1 qa1 M L hq1 hqa1 hM1 hL1 rfl r c) (ho1 c d)
  · refine neg_step (f := fun q => dsc j x0 x1 x2 x3 x4 x5 x6 x7 x8 r q) b1 (hreal r) (neg_step (f := fun q => dsc j x0 x1 x2 x3 x4 x5 x6 x7 x8 r q) b0 (hreal r)
      (g := fun c => dsc j x0 x1 x2 x3 x4 x5 x6 x7 x8 r (qix (2 * j) b0 c))
      ((pay34_at r).trans ?_) (fun c => rfl) ((pay45_at _ _ r).trans (congrArg (_ - ·) ?_)))
      (fun c => ?_) (pay53_at _ _ _ _ r)
    · rw [sumTo_zero _ _ fun q hq => z r q (by omega), neg_zero]
    · by_cases hr : r.val < 512
      · rw [dif_pos hr]
        exact Finset.sum_congr rfl fun c _ => pay41_at j x0 x1 x2 x3 x4 x5 x6 x7 x8 (2 * j) b0 q0 qa0 o0 M L D hq0 hqa0 ho0 hM0 hL0 hD0 rfl ⟨r.val, hr⟩ c
      · rw [dif_neg hr]
        exact (Finset.sum_eq_zero fun c _ => z r _ (hi r c hr)).symm
    · exact pay49_at j x0 x1 x2 x3 x4 x5 x6 x7 x8 (2 * j + 1) b1 q1 qa1 o1 M L D hq1 hqa1 ho1 hM1 hL1 hD1 rfl r c
  · refine dq_step a f (_ :: L0) b1 _ _ P (dqAdd j x0 x1 x2 x3 x4 x5 x6 x7 x8) h1 (fun c d => ?_)
      (fun q d => dq_step a f L0 b0 _ _ P (dqAdd j x0 x1 x2 x3 x4 x5 x6 x7 x8) h0 (fun c d => ?_) (fun q d => ?_) q d) q d
    · refine (pay52_at _ _ _ _ _ c d).trans (congrArg₂ (· + ·) (hp1 c d) ?_)
      exact congrArg (· * s1) (Finset.sum_congr rfl fun r _ => congrArg (· * _) (pay49_at j x0 x1 x2 x3 x4 x5 x6 x7 x8 (2 * j + 1) b1 q1 qa1 o1 M L D hq1 hqa1 ho1 hM1 hL1 hD1 rfl r c))
    · refine (pay44_at _ _ _ _ _ _ _ _ _ c d).trans (congrArg₂ (· + ·) (hp0 c d) (congrArg (· * s1) ?_))
      rw [sum_lo _ fun r hr => by rw [z r _ (hi r c (by omega)), zero_mul]]
      exact Finset.sum_congr rfl fun r _ => congrArg (· * _) (pay41_at j x0 x1 x2 x3 x4 x5 x6 x7 x8 (2 * j) b0 q0 qa0 o0 M L D hq0 hqa0 ho0 hM0 hL0 hD0 rfl r c)
    · rw [hbase]
      by_cases hq : q.val < 512 * (2 * j)
      · rw [if_pos hq, dqAdd_before _ _ _ _ _ _ _ _ _ _ _ _ (by omega), add_zero]
      · rw [if_neg hq]

end Cert.KernelIdeal.Fox
-- ==== Proof.FoxBody.lean ====
/- What the body leaves in its outputs, as sums over all the queries. -/
module

public import proofs.«01_k».proof.Proof.FoxDiag
public import proofs.«01_k».proof.Proof.BodyRun
public import proofs.«01_k».proof.Proof.BodyRunFirst

@[expose] public section

set_option maxRecDepth 16384

noncomputable section

namespace Cert.KernelIdeal.Fox

open Cert.KernelIdeal.Gen
open Idealize.ShloMosaic Idealize.ShloMosaic.TcCoe Idealize.ShloMosaic.Tactic
open Idealize.SL Idealize.SL.RA Idealize.SL.BI

/-- What the outputs hold after the body at key tile `j`, `P` being the query gradient before it. -/
structure Vals (j : ℕ) (x0 : Vec Ideal S1024x128 .bf16) (x1 : Vec Ideal S1x1024x128 .bf16) (x2 : Vec Ideal S1024x128 .bf16) (x3 : Vec Ideal S8192x128 .bf16) (x4 : Vec Ideal S1x8192x128 .bf16) (x5 : Vec Ideal S8192x128 .bf16) (x6 : Vec Ideal S1x8x1x1024 .f32) (x7 : Vec Ideal S1x8x1x1024 .f32) (x8 : Vec Ideal S1x8x1x1024 .f32) (P : Fin 8192 → Fin 128 → EReal)
    (o9 : Vec Ideal S8192x128 .f32) (o10 o11 : Vec Ideal S1024x128 .bf16) (o12 : Vec Ideal S1x1x1x1024 .f32) : Prop where
  dq : ∀ q d, o9 (ix2 q d) = P q d + dqAdd j x0 x1 x2 x3 x4 x5 x6 x7 x8 q d
  dk : ∀ r d, o10 (ix2 r d) = (∑ q, dsc j x0 x1 x2 x3 x4 x5 x6 x7 x8 r q * x3 (ix2 q d)) * s1
  dv : ∀ r d, o11 (ix2 r d) = ∑ q, prob j x0 x1 x3 x4 x6 x7 r q * x5 (ix2 q d)
  dc : ∀ r, o12 (ix4 0 0 0 r) = -∑ q, dsc j x0 x1 x2 x3 x4 x5 x6 x7 x8 r q

section Fin

variable {c : Dev nD} {i : grid0.Coords} {arg2 : Memref sig .tc .vmem S1024x128 .bf16} {harg2 : arg2.IsWhole} {arg3 : Memref sig .tc .vmem S1x1024x128 .bf16} {harg3 : arg3.IsWhole} {arg4 : Memref sig .tc .vmem S1024x128 .bf16} {harg4 : arg4.IsWhole} {arg5 : Memref sig .tc .vmem S8192x128 .bf16} {harg5 : arg5.IsWhole} {arg6 : Memref sig .tc .vmem S1x8192x128 .bf16} {harg6 : arg6.IsWhole} {arg7 : Memref sig .tc .vmem S8192x128 .bf16} {harg7 : arg7.IsWhole} {arg8 : Memref sig .tc .vmem S1x8x1x1024 .f32} {harg8 : arg8.IsWhole} {arg9 : Memref sig .tc .vmem S1x8x1x1024 .f32} {harg9 : arg9.IsWhole} {arg10 : Memref sig .tc .vmem S1x8x1x1024 .f32} {harg10 : arg10.IsWhole} {arg11 : Memref sig .tc .vmem S8192x128 .f32} {harg11 : arg11.IsWhole} {arg12 : Memref sig .tc .vmem S1024x128 .bf16} {harg12 : arg12.IsWhole} {arg13 : Memref sig .tc .vmem S1024x128 .bf16} {harg13 : arg13.IsWhole} {arg14 : Memref sig .tc .vmem S1x1x1x1024 .f32} {harg14 : arg14.IsWhole} {arg1 : BitVec 32} {v3 : Vec Ideal S1024x128 .bf16} {v6 : FVec Ideal S1024x256 .bf16} {v7 : Vec Ideal S1024x128 .bf16} {v19 : FVec Ideal S1x1024 .f32} {v68 : FVec Ideal S1024x128 .f32} {v83 : FVec Ideal S1024x1 .f32} {v86 : BitVec 32} {v88 : Vec Ideal S512x128 .bf16} {v115 : FVec Ideal S1024x512 .f32} {v118 : FVec Ideal S1024x128 .f32} {v119 : FVec Ideal S1024x512 .f32} {v139 : BitVec 32}
  {X5 : BufTy.Contents (Elt Ideal) arg5.view.ty} {X6 : BufTy.Contents (Elt Ideal) arg6.view.ty} {X7 : BufTy.Contents (Elt Ideal) arg7.view.ty} {X8 : BufTy.Contents (Elt Ideal) arg8.view.ty} {X9 : BufTy.Contents (Elt Ideal) arg9.view.ty} {X10 : BufTy.Contents (Elt Ideal) arg10.view.ty}
  {x0 : Vec Ideal S1024x128 .bf16} {x1 : Vec Ideal S1x1024x128 .bf16} {x2 : Vec Ideal S1024x128 .bf16} {x3 : Vec Ideal S8192x128 .bf16} {x4 : Vec Ideal S1x8192x128 .bf16} {x5 : Vec Ideal S8192x128 .bf16} {x6 : Vec Ideal S1x8x1x1024 .f32} {x7 : Vec Ideal S1x8x1x1024 .f32} {x8 : Vec Ideal S1x8x1x1024 .f32}

theorem fin_value (hv3 : v3 = x0) (hv6 : v6 = k0_pay31 x0 x1) (hv7 : v7 = x2)
    (h5 : arg5.view.read (Elt Ideal) X5 = x3) (h6 : arg6.view.read (Elt Ideal) X6 = x4) (h7 : arg7.view.read (Elt Ideal) X7 = x5)
    (h8 : arg8.view.read (Elt Ideal) X8 = x6) (h9 : arg9.view.read (Elt Ideal) X9 = x7) (h10 : arg10.view.read (Elt Ideal) X10 = x8)
    {G : BufTy.Contents (Elt Ideal) arg11.view.ty} {init : FVec Ideal S1024x128 .f32 × FVec Ideal S1024x128 .f32 × FVec Ideal S1024x1 .f32}
    {P : Fin 8192 → Fin 128 → EReal} (hreal : ∀ r q, ∃ w : ℝ, dsc (i 1).val x0 x1 x2 x3 x4 x5 x6 x7 x8 r q = w)
    (h : Inv (i 1).val x0 x1 x2 x3 x4 x5 x6 x7 x8 (2 * ((i 1).val + 1)) P init (arg11.view.read (Elt Ideal) G)) {n : ℕ} (hn : n = (k0_t1_loop i).trips) :
    Vals (i 1).val x0 x1 x2 x3 x4 x5 x6 x7 x8 P (arg11.view.read (Elt Ideal) (arg11.view.writes (Elt Ideal) G (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v3 v6 v7 v19 v68 v83 v86 v88 v115 v118 v119 v139 X5 X6 X7 X8 X9 X10 G init n).2))
      (k0_pay64 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v3 v6 v7 v19 v68 v83 v86 v88 v115 v118 v119 v139 X5 X6 X7 X8 X9 X10 G init n).1.1) (k0_pay65 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v3 v6 v7 v19 v68 v83 v86 v88 v115 v118 v119 v139 X5 X6 X7 X8 X9 X10 G init n).1.2.1)
      (k0_pay1 (k0_pay66 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg1 v3 v6 v7 v19 v68 v83 v86 v88 v115 v118 v119 v139 X5 X6 X7 X8 X9 X10 G init n).1.2.2)) := by
  subst hn hv3 hv7 h5 h6 h7 h8 h9 h10
  have := loop_last c i arg2 harg2 arg3 harg3 arg4 harg4 arg5 harg5 arg6 harg6 arg7 harg7 arg8 harg8 arg9 harg9 arg10 harg10 arg11 harg11 arg12 harg12 arg13 harg13 arg14 harg14 arg1 v3 v6 v7 v19 v68 v83 v86 v88 v115 v118 v119 v139 X5 X6 X7 X8 X9 X10 x1 hv6 G init P hreal h
  refine ⟨fun q d => ?_, fun r d => ?_, fun r d => ?_, fun r => ?_⟩
  · rw [this.dq, if_pos (by omega)]
  · rw [pay64_at, this.dk, sumTo_all]
  · rw [pay65_at, this.dv, sumTo_all]
  · rw [pay66_at, this.dc, sumTo_all]

end Fin

variable (c : Dev nD) (i : grid0.Coords) (arg2 : Memref sig .tc .vmem S1024x128 .bf16) (harg2 : arg2.IsWhole) (arg3 : Memref sig .tc .vmem S1x1024x128 .bf16) (harg3 : arg3.IsWhole) (arg4 : Memref sig .tc .vmem S1024x128 .bf16) (harg4 : arg4.IsWhole) (arg5 : Memref sig .tc .vmem S8192x128 .bf16) (harg5 : arg5.IsWhole) (arg6 : Memref sig .tc .vmem S1x8192x128 .bf16) (harg6 : arg6.IsWhole) (arg7 : Memref sig .tc .vmem S8192x128 .bf16) (harg7 : arg7.IsWhole) (arg8 : Memref sig .tc .vmem S1x8x1x1024 .f32) (harg8 : arg8.IsWhole) (arg9 : Memref sig .tc .vmem S1x8x1x1024 .f32) (harg9 : arg9.IsWhole) (arg10 : Memref sig .tc .vmem S1x8x1x1024 .f32) (harg10 : arg10.IsWhole) (arg11 : Memref sig .tc .vmem S8192x128 .f32) (harg11 : arg11.IsWhole) (arg12 : Memref sig .tc .vmem S1024x128 .bf16) (harg12 : arg12.IsWhole) (arg13 : Memref sig .tc .vmem S1024x128 .bf16) (harg13 : arg13.IsWhole) (arg14 : Memref sig .tc .vmem S1x1x1x1024 .f32) (harg14 : arg14.IsWhole) (x0 : Vec Ideal S1024x128 .bf16) (x1 : Vec Ideal S1x1024x128 .bf16) (x2 : Vec Ideal S1024x128 .bf16) (x3 : Vec Ideal S8192x128 .bf16) (x4 : Vec Ideal S1x8192x128 .bf16) (x5 : Vec Ideal S8192x128 .bf16) (x6 : Vec Ideal S1x8x1x1024 .f32) (x7 : Vec Ideal S1x8x1x1024 .f32) (x8 : Vec Ideal S1x8x1x1024 .f32)

set_option maxHeartbeats 1000000 in
/-- The body at a later tile of its head. -/
theorem later_value (hc : ¬ firstTile i) (d9 : Vec Ideal S8192x128 .f32) (hreal : ∀ r q, ∃ w : ℝ, dsc (i 1).val x0 x1 x2 x3 x4 x5 x6 x7 x8 r q = w) :
    Vals (i 1).val x0 x1 x2 x3 x4 x5 x6 x7 x8 (fun q d => d9 (ix2 q d)) (runLater (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 d9).1
      (runLater (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 d9).2.1 (runLater (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 d9).2.2.1
      (runLater (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8 d9).2.2.2.1 := by
  unfold runLater
  dsimp only [runLater.sl.r, runLater.sl.r_1, runLater.sl.r_2, runLater.sl.r_3, runLater.sl.r_4, runLater.sl.r_5, runLater.sl.r_6, runLater.sl.r_7, runLater.sl.r_8, runLater.sl.r_9, runLater.sl.r_10, runLater.sl.r_11, runLater.sl.r_12, runLater.sl.r_13, runLater.sl.r_14, runLater.sl.r_15, runLater.sl.r_16, runLater.sl.r_17, runLater.sl.v128]
  rw [View.writes_append]
  have o0 : k0_off2 i 0#32 = ![512 * (2 * (i 1).val), 0] := (k0_off2_eq i ⟨0, by decide⟩).trans
    (congrArg (fun n : ℕ => (![n, 0] : Fin 2 → ℕ)) (by show 1024 * (i 1).val + 512 * 0 = _; omega))
  have o1 : k0_off2 i 512#32 = ![512 * (2 * (i 1).val + 1), 0] := (k0_off2_eq i ⟨1, by decide⟩).trans
    (congrArg (fun n : ℕ => (![n, 0] : Fin 2 → ℕ)) (by show 1024 * (i 1).val + 512 * 1 = _; omega))
  have a0 : k0_off3 i 0#32 = ![0, 512 * (2 * (i 1).val), 0] := (k0_off3_eq i ⟨0, by decide⟩).trans
    (congrArg (fun n : ℕ => (![0, n, 0] : Fin 3 → ℕ)) (by show 1024 * (i 1).val + 512 * 0 = _; omega))
  have a1 : k0_off3 i 512#32 = ![0, 512 * (2 * (i 1).val + 1), 0] := (k0_off3_eq i ⟨1, by decide⟩).trans
    (congrArg (fun n : ℕ => (![0, n, 0] : Fin 3 → ℕ)) (by show 1024 * (i 1).val + 512 * 1 = _; omega))
  have m : k0_off1 i = ![0, (i 1).val, 0, 0] := k0_off1_eq i
  have hj : (i 1).val < 8 := (i 1).isLt
  have b0 : 2 * (i 1).val < 16 := by omega
  have b1 : 2 * (i 1).val + 1 < 16 := by omega
  have e0 : ∀ c : Fin 512, 512 * (2 * (i 1).val) + c.val = 1024 * (i 1).val + c.val := by intro c; omega
  have e1 : ∀ c : Fin 512, 512 * (2 * (i 1).val + 1) + c.val = 1024 * (i 1).val + (512 + c.val) := by intro c; omega
  have r0 : View.readAt (Elt Ideal) arg2.view (Rect.unit (s := S1024x128) ![0, 0] S1024x128.size inb_S1024x128_S1024x128_0_0).toLoadRect (harg2.unread x0) = x0 :=
    (View.readAt_full _ _ _).trans (harg2.read_unread x0)
  have r1 : View.readAt (Elt Ideal) arg3.view (Rect.unit (s := S1x1024x128) ![0, 0, 0] S1x1024x128.size inb_S1x1024x128_S1x1024x128_0_0_0).toLoadRect (harg3.unread x1) = x1 :=
    (View.readAt_full _ _ _).trans (harg3.read_unread x1)
  have r2 : View.readAt (Elt Ideal) arg4.view (Rect.unit (s := S1024x128) ![0, 0] S1024x128.size inb_S1024x128_S1024x128_0_0).toLoadRect (harg4.unread x2) = x2 :=
    (View.readAt_full _ _ _).trans (harg4.read_unread x2)
  simp only [r0, r1, r2]
  refine fin_value (i := i) (x0 := x0) (x1 := x1) (x2 := x2) (x3 := x3) (x4 := x4) (x5 := x5) (x6 := x6) (x7 := x7) (x8 := x8) rfl rfl rfl
    (harg5.read_unread x3) (harg6.read_unread x4) (harg7.read_unread x5) (harg8.read_unread x6) (harg9.read_unread x7) (harg10.read_unread x8) hreal ?_ rfl
  exact diag_inv arg11 _ [] (i 1).val b0 b1 x0 x1 x2 x3 x4 x5 x6 x7 x8 _ rfl _ hreal _ _ _ _ _ _ _ _ _ _ _
    (fun c d => (rd2 arg5 _ _ b0 o0 c d).trans (congrFun (harg5.read_unread x3) _))
    (fun c d => (rd3 arg6 _ _ b0 a0 c d).trans (congrFun (harg6.read_unread x4) _))
    (fun c d => (rd2 arg7 _ _ b0 o0 c d).trans (congrFun (harg7.read_unread x5) _))
    (fun c => (rd4 arg8 _ _ b0 m c _ (e0 c)).trans (congrArg (fun x => rowAt x _) (harg8.read_unread x6)))
    (fun c => (rd4 arg9 _ _ b0 m c _ (e0 c)).trans (congrArg (fun x => rowAt x _) (harg9.read_unread x7)))
    (fun c => (rd4 arg10 _ _ b0 m c _ (e0 c)).trans (congrArg (fun x => rowAt x _) (harg10.read_unread x8)))
    (fun c d => (rd2 arg5 _ _ b1 o1 c d).trans (congrFun (harg5.read_unread x3) _))
    (fun c d => (rd3 arg6 _ _ b1 a1 c d).trans (congrFun (harg6.read_unread x4) _))
    (fun c d => (rd2 arg7 _ _ b1 o1 c d).trans (congrFun (harg7.read_unread x5) _))
    (fun c => (rd4 arg8 _ _ b1 m c _ (e1 c)).trans (congrArg (fun x => rowAt x _) (harg8.read_unread x6)))
    (fun c => (rd4 arg9 _ _ b1 m c _ (e1 c)).trans (congrArg (fun x => rowAt x _) (harg9.read_unread x7)))
    (fun c => (rd4 arg10 _ _ b1 m c _ (e1 c)).trans (congrArg (fun x => rowAt x _) (harg10.read_unread x8)))
    _ _ o0 o1
    (fun c d => (rd2 arg11 _ _ b0 o0 c d).trans (congrFun (harg11.read_unread d9) _))
    (fun c d => (rd2 arg11 _ _ b1 o1 c d).trans (congrFun (harg11.read_unread d9) _))
    (fun q d => congrFun (harg11.read_unread d9) _)

set_option maxHeartbeats 1000000 in
/-- The body at the first tile of a head. -/
theorem first_value (hc : firstTile i) (hreal : ∀ r q, ∃ w : ℝ, dsc (i 1).val x0 x1 x2 x3 x4 x5 x6 x7 x8 r q = w) :
    Vals (i 1).val x0 x1 x2 x3 x4 x5 x6 x7 x8 (fun q d => 0) (runFirst (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).1
      (runFirst (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).2.1 (runFirst (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).2.2.1
      (runFirst (F := Ideal) c i arg2 harg2 arg3 harg3 arg4 harg4 arg5 harg5 arg6 harg6 arg7 harg7 arg8 harg8 arg9 harg9 arg10 harg10 arg11 harg11 arg12 harg12 arg13 harg13 arg14 harg14 hc x0 x1 x2 x3 x4 x5 x6 x7 x8).2.2.2.1 := by
  unfold runFirst
  dsimp only [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.v128, runFirst.sl.v70, runFirst.sl.H9_1, runFirst.sl.H9_2]
  rw [View.writes_append]
  have o0 : k0_off2 i 0#32 = ![512 * (2 * (i 1).val), 0] := (k0_off2_eq i ⟨0, by decide⟩).trans
    (congrArg (fun n : ℕ => (![n, 0] : Fin 2 → ℕ)) (by show 1024 * (i 1).val + 512 * 0 = _; omega))
  have o1 : k0_off2 i 512#32 = ![512 * (2 * (i 1).val + 1), 0] := (k0_off2_eq i ⟨1, by decide⟩).trans
    (congrArg (fun n : ℕ => (![n, 0] : Fin 2 → ℕ)) (by show 1024 * (i 1).val + 512 * 1 = _; omega))
  have a0 : k0_off3 i 0#32 = ![0, 512 * (2 * (i 1).val), 0] := (k0_off3_eq i ⟨0, by decide⟩).trans
    (congrArg (fun n : ℕ => (![0, n, 0] : Fin 3 → ℕ)) (by show 1024 * (i 1).val + 512 * 0 = _; omega))
  have a1 : k0_off3 i 512#32 = ![0, 512 * (2 * (i 1).val + 1), 0] := (k0_off3_eq i ⟨1, by decide⟩).trans
    (congrArg (fun n : ℕ => (![0, n, 0] : Fin 3 → ℕ)) (by show 1024 * (i 1).val + 512 * 1 = _; omega))
  have m : k0_off1 i = ![0, (i 1).val, 0, 0] := k0_off1_eq i
  have hj : (i 1).val < 8 := (i 1).isLt
  have b0 : 2 * (i 1).val < 16 := by omega
  have b1 : 2 * (i 1).val + 1 < 16 := by omega
  have e0 : ∀ c : Fin 512, 512 * (2 * (i 1).val) + c.val = 1024 * (i 1).val + c.val := by intro c; omega
  have e1 : ∀ c : Fin 512, 512 * (2 * (i 1).val + 1) + c.val = 1024 * (i 1).val + (512 + c.val) := by intro c; omega
  have r0 : View.readAt (Elt Ideal) arg2.view (Rect.unit (s := S1024x128) ![0, 0] S1024x128.size inb_S1024x128_S1024x128_0_0).toLoadRect (harg2.unread x0) = x0 :=
    (View.readAt_full _ _ _).trans (harg2.read_unread x0)
  have r1 : View.readAt (Elt Ideal) arg3.view (Rect.unit (s := S1x1024x128) ![0, 0, 0] S1x1024x128.size inb_S1x1024x128_S1x1024x128_0_0_0).toLoadRect (harg3.unread x1) = x1 :=
    (View.readAt_full _ _ _).trans (harg3.read_unread x1)
  have r2 : View.readAt (Elt Ideal) arg4.view (Rect.unit (s := S1024x128) ![0, 0] S1024x128.size inb_S1024x128_S1024x128_0_0).toLoadRect (harg4.unread x2) = x2 :=
    (View.readAt_full _ _ _).trans (harg4.read_unread x2)
  simp only [r0, r1, r2]
  refine fin_value (i := i) (x0 := x0) (x1 := x1) (x2 := x2) (x3 := x3) (x4 := x4) (x5 := x5) (x6 := x6) (x7 := x7) (x8 := x8) rfl rfl rfl
    (harg5.read_unread x3) (harg6.read_unread x4) (harg7.read_unread x5) (harg8.read_unread x6) (harg9.read_unread x7) (harg10.read_unread x8) hreal ?_ rfl
  exact diag_inv arg11 _ [_] (i 1).val b0 b1 x0 x1 x2 x3 x4 x5 x6 x7 x8 _ rfl _ hreal _ _ _ _ _ _ _ _ _ _ _
    (fun c d => (rd2 arg5 _ _ b0 o0 c d).trans (congrFun (harg5.read_unread x3) _))
    (fun c d => (rd3 arg6 _ _ b0 a0 c d).trans (congrFun (harg6.read_unread x4) _))
    (fun c d => (rd2 arg7 _ _ b0 o0 c d).trans (congrFun (harg7.read_unread x5) _))
    (fun c => (rd4 arg8 _ _ b0 m c _ (e0 c)).trans (congrArg (fun x => rowAt x _) (harg8.read_unread x6)))
    (fun c => (rd4 arg9 _ _ b0 m c _ (e0 c)).trans (congrArg (fun x => rowAt x _) (harg9.read_unread x7)))
    (fun c => (rd4 arg10 _ _ b0 m c _ (e0 c)).trans (congrArg (fun x => rowAt x _) (harg10.read_unread x8)))
    (fun c d => (rd2 arg5 _ _ b1 o1 c d).trans (congrFun (harg5.read_unread x3) _))
    (fun c d => (rd3 arg6 _ _ b1 a1 c d).trans (congrFun (harg6.read_unread x4) _))
    (fun c d => (rd2 arg7 _ _ b1 o1 c d).trans (congrFun (harg7.read_unread x5) _))
    (fun c => (rd4 arg8 _ _ b1 m c _ (e1 c)).trans (congrArg (fun x => rowAt x _) (harg8.read_unread x6)))
    (fun c => (rd4 arg9 _ _ b1 m c _ (e1 c)).trans (congrArg (fun x => rowAt x _) (harg9.read_unread x7)))
    (fun c => (rd4 arg10 _ _ b1 m c _ (e1 c)).trans (congrArg (fun x => rowAt x _) (harg10.read_unread x8)))
    _ _ o0 o1
    (fun c d => (rd2 arg11 _ _ b0 o0 c d).trans ((congrFun (View.read_writes_full _ _ _ _ _) _).trans (pay30_at _ d)))
    (fun c d => (rd2 arg11 _ _ b1 o1 c d).trans ((View.read_writes_cons_rows_of_not_mem arg11.view _ _ _ _ _ o0 (W := 512) rfl
      (Or.inr (by show 512 * (2 * (i 1).val) + 512 ≤ 512 * (2 * (i 1).val + 1) + c.val; omega))).trans ((congrFun (View.read_writes_full _ _ _ _ _) _).trans (pay30_at _ d))))
    (fun q d => (congrFun (View.read_writes_full _ _ _ _ _) _).trans (pay30_at q d))

end Cert.KernelIdeal.Fox
-- ==== Proof.FoxVals.lean ====
/- What every point of the grid leaves. -/
module

public import proofs.«01_k».proof.Proof.FoxBody
public import proofs.«01_k».proof.Proof.FoxRun

@[expose] public section

set_option maxRecDepth 16384
set_option maxHeartbeats 400000

noncomputable section

namespace Cert.KernelIdeal.Fox

open Cert.KernelIdeal.Gen
open Idealize Idealize.ShloMosaic Idealize.ShloMosaic.TcCoe

variable (m : (ℓ : Loc nD τ sig) → Buf (Elt Ideal) ℓ) (c : Dev nD) (t : Fin cfg0.N)

theorem coords_tile : ∀ t : Fin cfg0.N, (grid0.coords t 1).val = t.val % 8 := by
  decide +kernel

theorem vals_first (h : t.val % 8 = 0)
    (hreal : ∀ r q, ∃ w : ℝ, dsc (grid0.coords t 1).val (iblk m c 0 t) (iblk m c 1 t) (iblk m c 2 t) (iblk m c 3 t) (iblk m c 4 t) (iblk m c 5 t) (iblk m c 6 t) (iblk m c 7 t) (iblk m c 8 t) r q = w) :
    Vals (grid0.coords t 1).val (iblk m c 0 t) (iblk m c 1 t) (iblk m c 2 t) (iblk m c 3 t) (iblk m c 4 t) (iblk m c 5 t) (iblk m c 6 t) (iblk m c 7 t) (iblk m c 8 t) (fun _ _ => 0)
      (outsAt m c t.val t.isLt).1 (outsAt m c t.val t.isLt).2.1 (outsAt m c t.val t.isLt).2.2.1 (outsAt m c t.val t.isLt).2.2.2 := by
  have v := first_value c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (iblk m c 0 t) (iblk m c 1 t) (iblk m c 2 t) (iblk m c 3 t) (iblk m c 4 t) (iblk m c 5 t) (iblk m c 6 t) (iblk m c 7 t) (iblk m c 8 t) ((firstTile_iff t).mpr h) hreal
  rw [outsAt_first m c t h]
  unfold firstAt
  dsimp only
  exact v

theorem vals_later (h : ¬ t.val % 8 = 0)
    (hreal : ∀ r q, ∃ w : ℝ, dsc (grid0.coords t 1).val (iblk m c 0 t) (iblk m c 1 t) (iblk m c 2 t) (iblk m c 3 t) (iblk m c 4 t) (iblk m c 5 t) (iblk m c 6 t) (iblk m c 7 t) (iblk m c 8 t) r q = w) :
    Vals (grid0.coords t 1).val (iblk m c 0 t) (iblk m c 1 t) (iblk m c 2 t) (iblk m c 3 t) (iblk m c 4 t) (iblk m c 5 t) (iblk m c 6 t) (iblk m c 7 t) (iblk m c 8 t) (fun q d => (outsAt m c (t.val - 1) (Nat.lt_of_le_of_lt (Nat.sub_le _ _) t.isLt)).1 (ix2 q d))
      (outsAt m c t.val t.isLt).1 (outsAt m c t.val t.isLt).2.1 (outsAt m c t.val t.isLt).2.2.1 (outsAt m c t.val t.isLt).2.2.2 := by
  have v := later_value c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (iblk m c 0 t) (iblk m c 1 t) (iblk m c 2 t) (iblk m c 3 t) (iblk m c 4 t) (iblk m c 5 t) (iblk m c 6 t) (iblk m c 7 t) (iblk m c 8 t) (fun hh => h ((firstTile_iff t).mp hh)) (outsAt m c (t.val - 1) (Nat.lt_of_le_of_lt (Nat.sub_le _ _) t.isLt)).1 hreal
  rw [outsAt_later m c t h]
  unfold laterAt
  dsimp only
  exact v

end Cert.KernelIdeal.Fox
-- ==== Proof.FoxPoint.lean ====
/- What every point of the grid leaves, in real numbers. -/
module

public import proofs.«01_k».proof.Proof.FoxSum
public import proofs.«01_k».proof.Proof.FoxHostAt
public import proofs.«01_k».proof.Proof.FoxVals

@[expose] public section

set_option maxRecDepth 16384
set_option maxHeartbeats 400000

noncomputable section

namespace Cert.KernelIdeal.Fox

open Cert.KernelIdeal.Gen
open Idealize Idealize.ShloMosaic Idealize.ShloMosaic.TcCoe FoxReal
open Cert.ReferenceIdeal.FoxRef (xA)

variable {A : Fin 8192 → Fin 3072 → ℝ} {C : Fin 8 → Fin 8192 → ℝ} {B : Fin 8192 → Fin 1024 → ℝ} {M : Fin 8 → Fin 8192 → ℝ}
  (m : (ℓ : Loc nD τ sig) → Buf (Elt Ideal) ℓ) (c : Dev nD)

/-- The launch's arguments are the real numbers `A`, `C`, `B`, and `M` is the rows' greatest scores. -/
structure Real3 (A : Fin 8192 → Fin 3072 → ℝ) (C : Fin 8 → Fin 8192 → ℝ) (B : Fin 8192 → Fin 1024 → ℝ) (M : Fin 8 → Fin 8192 → ℝ) : Prop where
  n : Nums A C B (m ((c.tc : Thread nD τ).loc main_arg0)) (m ((c.tc : Thread nD τ).loc main_arg1)) (m ((c.tc : Thread nD τ).loc main_arg2))
  hM : ∀ h q, xA (m ((c.tc : Thread nD τ).loc main_arg0)) (m ((c.tc : Thread nD τ).loc main_arg1)) (ix2 h q) = ((M h q : ℝ) : EReal)

variable {m c} (R : Real3 m c A C B M)
include R

theorem rowAt_row (h : Fin 8) (q : Fin 8192) (x : Vec Ideal S1x8x1x1024 .f32) (y : FVec Ideal S8x8192 .f32)
    (e : ∀ (i : Fin 8) (r : Fin 1024), x (ix4 0 i 0 r) = rowK y (ix4 h i 0 r)) : rowAt x q = y (ix2 h q) := by
  unfold rowAt
  rw [e]
  exact rowK_at y h q _ _ (by show q.val = 1024 * (q.val / 1024) + q.val % 1024; omega)

theorem blk_at (t : Fin cfg0.N) : Blk A C B M (hd t) (tl t) (iblk m c 0 t) (iblk m c 1 t) (iblk m c 2 t) (iblk m c 3 t) (iblk m c 4 t)
    (iblk m c 5 t) (iblk m c 6 t) (iblk m c 7 t) (iblk m c 8 t) where
  b0 r d := by rw [x0_at, V_main_arg0]; exact R.n.h0 _ _
  b2 r d := by rw [x2_at, V_main_arg0]; exact R.n.h0 _ _
  b3 q d := by rw [x3_at, V_main_arg0]; exact R.n.h0 _ _
  b5 q d := by rw [x5_at, V_main_arg2]; exact R.n.h2 _ _
  bg r q := by
    refine Eq.trans (Finset.sum_congr rfl fun d _ => ?_) (gate_at R.n (hd t) (row (tl t) r) q)
    rw [x1_at, x4_at, v34_eq, v42_eq]
  b6 q := (rowAt_row R (hd t) q _ _ (fun i r => by rw [x6_at, v90_eq])).trans (m2K_at R.n R.hM _ _)
  b7 q := (rowAt_row R (hd t) q _ _ (fun i r => by rw [x7_at, v91_eq])).trans (liK_at R.n R.hM _ _)
  b8 q := (rowAt_row R (hd t) q _ _ (fun i r => by rw [x8_at, v92_eq])).trans (dlK_at R.n R.hM _ _)

theorem coords_tl (t : Fin cfg0.N) : (grid0.coords t 1).val = (tl t).val :=
  coords_tile t

/-- Between the point's values and the real numbers. -/
theorem vals_real (t : Fin cfg0.N) {P : Fin 8192 → Fin 128 → EReal} {o9 : Vec Ideal S8192x128 .f32} {o10 : Vec Ideal S1024x128 .bf16}
    {o11 : Vec Ideal S1024x128 .bf16} {o12 : Vec Ideal S1x1x1x1024 .f32}
    (v : Vals (tl t).val (iblk m c 0 t) (iblk m c 1 t) (iblk m c 2 t) (iblk m c 3 t) (iblk m c 4 t) (iblk m c 5 t) (iblk m c 6 t)
      (iblk m c 7 t) (iblk m c 8 t) P o9 o10 o11 o12) :
    (∀ q d, o9 (ix2 q d) = P q d + ((part A C B M (hd t) (tl t) q d : ℝ) : EReal))
    ∧ (∀ r d, o10 (ix2 r d) = ((∑ q, Ds A C B M (hd t) q (row (tl t) r) * (Real.sqrt 128)⁻¹ * A q (qcol (hd t) d) : ℝ) : EReal))
    ∧ (∀ r d, o11 (ix2 r d) = ((∑ q, Pr A C M (hd t) q (row (tl t) r) * B q (hcol (hd t) d) : ℝ) : EReal))
    ∧ (∀ r, o12 (ix4 0 0 0 r) = ((-∑ q, Ds A C B M (hd t) q (row (tl t) r) : ℝ) : EReal)) := by
  have b := blk_at R t
  refine ⟨fun q d => ?_, fun r d => ?_, fun r d => ?_, fun r => ?_⟩
  · rw [v.dq, dqAdd_real b]
  · rw [v.dk]
    simp only [dsc_real b, b.b3, s1_eq, ← EReal.coe_mul, ← coe_sum]
    rw [Finset.sum_mul]
    exact congrArg _ (Finset.sum_congr rfl fun q _ => by ring)
  · rw [v.dv]
    simp only [prob_real b, b.b5, ← EReal.coe_mul, ← coe_sum]
  · rw [v.dc]
    simp only [dsc_real b, ← EReal.coe_neg, ← coe_sum]

theorem real_dsc (t : Fin cfg0.N) (r : Fin 1024) (q : Fin 8192) : ∃ w : ℝ,
    dsc (grid0.coords t 1).val (iblk m c 0 t) (iblk m c 1 t) (iblk m c 2 t) (iblk m c 3 t) (iblk m c 4 t) (iblk m c 5 t) (iblk m c 6 t)
      (iblk m c 7 t) (iblk m c 8 t) r q = w := by
  rw [coords_tl R t]
  exact ⟨_, dsc_real (blk_at R t) r q⟩

theorem point_first (t : Fin cfg0.N) (h : t.val % 8 = 0) :
    Vals (tl t).val (iblk m c 0 t) (iblk m c 1 t) (iblk m c 2 t) (iblk m c 3 t) (iblk m c 4 t) (iblk m c 5 t) (iblk m c 6 t) (iblk m c 7 t) (iblk m c 8 t) (fun _ _ => 0)
      (outsAt m c t.val t.isLt).1 (outsAt m c t.val t.isLt).2.1 (outsAt m c t.val t.isLt).2.2.1 (outsAt m c t.val t.isLt).2.2.2 := by
  have v := vals_first m c t h (real_dsc R t)
  rw [coords_tl R t] at v
  exact v

theorem point_later (t : Fin cfg0.N) (h : ¬ t.val % 8 = 0) :
    Vals (tl t).val (iblk m c 0 t) (iblk m c 1 t) (iblk m c 2 t) (iblk m c 3 t) (iblk m c 4 t) (iblk m c 5 t) (iblk m c 6 t) (iblk m c 7 t) (iblk m c 8 t) (fun q d => (outsAt m c (t.val - 1) (Nat.lt_of_le_of_lt (Nat.sub_le _ _) t.isLt)).1 (ix2 q d))
      (outsAt m c t.val t.isLt).1 (outsAt m c t.val t.isLt).2.1 (outsAt m c t.val t.isLt).2.2.1 (outsAt m c t.val t.isLt).2.2.2 := by
  have v := vals_later m c t h (real_dsc R t)
  rw [coords_tl R t] at v
  exact v

/-- What a point leaves in the three outputs written at every point. -/
theorem outs_key (t : Fin cfg0.N) :
    (∀ r d, (outsAt m c t.val t.isLt).2.1 (ix2 r d) = ((∑ q, Ds A C B M (hd t) q (row (tl t) r) * (Real.sqrt 128)⁻¹ * A q (qcol (hd t) d) : ℝ) : EReal))
    ∧ (∀ r d, (outsAt m c t.val t.isLt).2.2.1 (ix2 r d) = ((∑ q, Pr A C M (hd t) q (row (tl t) r) * B q (hcol (hd t) d) : ℝ) : EReal))
    ∧ (∀ r, (outsAt m c t.val t.isLt).2.2.2 (ix4 0 0 0 r) = ((-∑ q, Ds A C B M (hd t) q (row (tl t) r) : ℝ) : EReal)) := by
  by_cases h : t.val % 8 = 0
  · exact (vals_real R t (point_first R t h)).2
  · exact (vals_real R t (point_later R t h)).2

/-- And in the query gradient: the tiles so far. -/
theorem outs_query (n : ℕ) : ∀ hn : n < cfg0.N, ∀ q d, (outsAt m c n hn).1 (ix2 q d)
    = ((upto (fun j => part A C B M (hd ⟨n, hn⟩) j q d) (n % 8 + 1) : ℝ) : EReal) := by
  induction n with
  | zero =>
    intro hn q d
    rw [upto_succ _ _ (by omega), (vals_real R ⟨0, hn⟩ (point_first R ⟨0, hn⟩ rfl)).1, EReal.coe_add]
    rfl
  | succ n ih =>
    intro hn q d
    have h8 : (n + 1) % 8 < 8 := by omega
    rw [upto_succ _ _ h8, EReal.coe_add]
    by_cases h : (n + 1) % 8 = 0
    · rw [(vals_real R ⟨n + 1, hn⟩ (point_first R ⟨n + 1, hn⟩ h)).1]
      refine congrArg (· + _) ?_
      rw [h]
      rfl
    · rw [(vals_real R ⟨n + 1, hn⟩ (point_later R ⟨n + 1, hn⟩ h)).1]
      refine congrArg (· + _) ?_
      have e : (n + 1) % 8 = n % 8 + 1 := by omega
      have eh : hd ⟨n + 1, hn⟩ = hd ⟨n, Nat.lt_of_succ_lt hn⟩ := Fin.ext (by show (n + 1) / 8 = n / 8; omega)
      rw [e, eh]
      exact ih _ q d

theorem outs_query_end (t : Fin cfg0.N) (h : t.val % 8 = 7) (q : Fin 8192) (d : Fin 128) : (outsAt m c t.val t.isLt).1 (ix2 q d)
    = ((∑ k, Ds A C B M (hd t) q k * (Real.sqrt 128)⁻¹ * A k (kcol (hd t) d) : ℝ) : EReal) := by
  rw [outs_query R t.val t.isLt, h, upto_all]
  exact congrArg _ (sum_rows fun k => Ds A C B M (hd t) q k * (Real.sqrt 128)⁻¹ * A k (kcol (hd t) d))

end Cert.KernelIdeal.Fox
-- ==== Proof.FoxOut.lean ====
/- The launch's output arrays are the reference's. -/
module

public import proofs.«01_k».proof.Proof.FoxPoint

@[expose] public section

set_option maxRecDepth 16384
set_option maxHeartbeats 400000

noncomputable section

namespace Cert.KernelIdeal.Fox

open Cert.KernelIdeal.Gen
open Idealize Idealize.ShloMosaic Idealize.ShloMosaic.TcCoe FoxReal
open Cert.ReferenceIdeal.FoxRef (dqA dkA dvA dcA dqA_at dkA_at dvA_at dcA_at)

variable {A : Fin 8192 → Fin 3072 → ℝ} {C : Fin 8 → Fin 8192 → ℝ} {B : Fin 8192 → Fin 1024 → ℝ} {M : Fin 8 → Fin 8192 → ℝ}
  {m : (ℓ : Loc nD τ sig) → Buf (Elt Ideal) ℓ} {c : Dev nD}

theorem emb9 (t : Fin cfg0.N) (q : Fin 8192) (d : Fin 128) :
    ((cfg0.win 9).blk t).view.emb (ix2 q d) = (ix2 q (hcol (hd t) d) : S8192x1024.Idx) := by
  blk_ext [idx t]
theorem emb10 (t : Fin cfg0.N) (r : Fin 1024) (d : Fin 128) :
    ((cfg0.win 10).blk t).view.emb (ix2 r d) = (ix2 (row (tl t) r) (hcol (hd t) d) : S8192x1024.Idx) := by
  blk_ext [idx t]
theorem emb11 (t : Fin cfg0.N) (r : Fin 1024) (d : Fin 128) :
    ((cfg0.win 11).blk t).view.emb (ix2 r d) = (ix2 (row (tl t) r) (hcol (hd t) d) : S8192x1024.Idx) := by
  blk_ext [idx t]
theorem emb12 (t : Fin cfg0.N) (r : Fin 1024) :
    ((cfg0.win 12).blk t).view.emb (ix4 0 0 0 r) = (ix4 (hd t) (tl t) 0 r : S8x8x1x1024.Idx) := by
  blk_ext [idx t]

variable (R : Real3 m c A C B M)
include R

theorem dq_out : (dats m 0 c).arrAt 9 cfg0.N
    = dqA (m ((c.tc : Thread nD τ).loc main_arg0)) (m ((c.tc : Thread nD τ).loc main_arg1)) (m ((c.tc : Thread nD τ).loc main_arg2)) := by
  refine (dats m 0 c).arrAt_eq_of_covers 9 _ (by decide +kernel) fun t hf y => ?_
  blk_simp
  rw [after_9]
  have key : ∀ y : S8192x128.Idx, (outsAt m c t.val t.isLt).1 y = dqA (m ((c.tc : Thread nD τ).loc main_arg0)) (m ((c.tc : Thread nD τ).loc main_arg1))
      (m ((c.tc : Thread nD τ).loc main_arg2)) (((cfg0.win 9).blk t).view.emb y) := by
    intro y
    obtain ⟨q, d, rfl⟩ : ∃ (q : Fin 8192) (d : Fin 128), y = ix2 q d := ⟨y 0, y 1, eq_ix2 y⟩
    refine Eq.trans ?_ (congrArg _ (emb9 t q d).symm)
    exact (outs_query_end R t ((flush0_9 t).mp hf) q d).trans (dqA_at R.n R.hM (hd t) q d).symm
  exact key y

theorem dk_out : (dats m 0 c).arrAt 10 cfg0.N
    = dkA (m ((c.tc : Thread nD τ).loc main_arg0)) (m ((c.tc : Thread nD τ).loc main_arg1)) (m ((c.tc : Thread nD τ).loc main_arg2)) := by
  refine (dats m 0 c).arrAt_eq_of_covers 10 _ (by decide +kernel) fun t hf y => ?_
  blk_simp
  rw [after_10]
  have key : ∀ y : S1024x128.Idx, (outsAt m c t.val t.isLt).2.1 y = dkA (m ((c.tc : Thread nD τ).loc main_arg0)) (m ((c.tc : Thread nD τ).loc main_arg1))
      (m ((c.tc : Thread nD τ).loc main_arg2)) (((cfg0.win 10).blk t).view.emb y) := by
    intro y
    obtain ⟨q, d, rfl⟩ : ∃ (q : Fin 1024) (d : Fin 128), y = ix2 q d := ⟨y 0, y 1, eq_ix2 y⟩
    refine Eq.trans ?_ (congrArg _ (emb10 t q d).symm)
    exact ((outs_key R t).1 q d).trans (dkA_at R.n R.hM (hd t) (row (tl t) q) d).symm
  exact key y

theorem dv_out : (dats m 0 c).arrAt 11 cfg0.N
    = dvA (m ((c.tc : Thread nD τ).loc main_arg0)) (m ((c.tc : Thread nD τ).loc main_arg1)) (m ((c.tc : Thread nD τ).loc main_arg2)) := by
  refine (dats m 0 c).arrAt_eq_of_covers 11 _ (by decide +kernel) fun t hf y => ?_
  blk_simp
  rw [after_11]
  have key : ∀ y : S1024x128.Idx, (outsAt m c t.val t.isLt).2.2.1 y = dvA (m ((c.tc : Thread nD τ).loc main_arg0)) (m ((c.tc : Thread nD τ).loc main_arg1))
      (m ((c.tc : Thread nD τ).loc main_arg2)) (((cfg0.win 11).blk t).view.emb y) := by
    intro y
    obtain ⟨q, d, rfl⟩ : ∃ (q : Fin 1024) (d : Fin 128), y = ix2 q d := ⟨y 0, y 1, eq_ix2 y⟩
    refine Eq.trans ?_ (congrArg _ (emb11 t q d).symm)
    exact ((outs_key R t).2.1 q d).trans (dvA_at R.n R.hM (hd t) (row (tl t) q) d).symm
  exact key y

theorem dc_out : (dats m 0 c).arrAt 12 cfg0.N
    = dcA (m ((c.tc : Thread nD τ).loc main_arg0)) (m ((c.tc : Thread nD τ).loc main_arg1)) (m ((c.tc : Thread nD τ).loc main_arg2)) := by
  refine (dats m 0 c).arrAt_eq_of_covers 12 _ (by decide +kernel) fun t hf y => ?_
  blk_simp
  rw [after_12]
  have key : ∀ y : S1x1x1x1024.Idx, (outsAt m c t.val t.isLt).2.2.2 y = dcA (m ((c.tc : Thread nD τ).loc main_arg0)) (m ((c.tc : Thread nD τ).loc main_arg1))
      (m ((c.tc : Thread nD τ).loc main_arg2)) (((cfg0.win 12).blk t).view.emb y) := by
    intro y
    obtain ⟨r, rfl⟩ : ∃ r : Fin 1024, y = ix4 0 0 0 r := ⟨y 3, by
      refine (eq_ix4 y).trans ?_
      congr 1 <;> exact Subsingleton.elim (α := Fin 1) _ _⟩
    refine Eq.trans ?_ (congrArg _ (emb12 t r).symm)
    exact ((outs_key R t).2.2 r).trans (dcA_at R.n R.hM (hd t) (tl t) r (row (tl t) r) rfl).symm
  exact key y

end Cert.KernelIdeal.Fox
-- ==== Proof.FoxFinite.lean ====
/- What the precondition says: every entry of the arguments is a real number. -/
module

public import proofs.«01_k».proof.Pre_finite
public import Idealize.ShloMosaic.Lib.ReduceAll
public import Idealize.ShloMosaic.PureOps.Ideal

@[expose] public section

noncomputable section

namespace Cert.Pre_finite.Real

open Cert.Pre_finite Idealize Idealize.ShloMosaic

theorem top32 : Ideal.ofBits .f32 0x7F800000#32 = ⊤ := by
  simp [Ideal.ofBits, Ideal.ieee, -EReal.coe_mul]
theorem top16 : Ideal.ofBits .bf16 0x7F80#16 = ⊤ := by
  simp [Ideal.ofBits, Ideal.ieee, -EReal.coe_mul]

/-- An absolute value below `⊤` is a real number's. -/
theorem real_of_lt (x : EReal) (h : Ideal.cmp .olt (max x (-x)) ⊤ = 1#1) : ∃ r : ℝ, x = r := by
  have lt : max x (-x) < ⊤ := by
    by_contra hn
    have e : Ideal.cmp .olt (max x (-x)) ⊤ = BitVec.ofBool (decide (max x (-x) < ⊤)) := rfl
    rw [e, decide_eq_false hn] at h
    exact absurd h (by decide)
  have h1 : x ≠ ⊤ := fun e => by rw [e] at lt; exact absurd (le_max_left _ _) (not_le.2 lt)
  have h2 : x ≠ ⊥ := fun e => by
    rw [e, EReal.neg_bot] at lt
    exact absurd (le_max_right _ _) (not_le.2 lt)
  exact ⟨x.toReal, (EReal.coe_toReal h1 h2).symm⟩

variable [Facts]

theorem real_args (x0 : FVec Ideal S8192x3072 .bf16) (x1 : FVec Ideal S8x8192 .f32) (x2 : FVec Ideal S8192x1024 .bf16)
    (h : fn (F := Ideal) x0 x1 x2 = fun _ => 1#1) :
    (∀ i, ∃ r : ℝ, x0 i = r) ∧ (∀ i, ∃ r : ℝ, x1 i = r) ∧ (∀ i, ∃ r : ℝ, x2 i = r) := by
  haveI : Subsingleton S_.Idx := ⟨fun a b => funext fun d => d.elim0⟩
  have e := congrFun h (fun d => d.elim0)
  unfold fn at e
  obtain ⟨e01, e2⟩ := IntOp.andi_eq_one.1 e
  obtain ⟨e0, e1⟩ := IntOp.andi_eq_one.1 e01
  refine ⟨fun i => real_of_lt _ ?_, fun i => real_of_lt _ ?_, fun i => real_of_lt _ ?_⟩
  · have := Host.reduce_andi_all _ _ _ _ _ e0 i
    rw [← top16]
    exact this
  · have := Host.reduce_andi_all _ _ _ _ _ e1 i
    rw [← top32]
    exact this
  · have := Host.reduce_andi_all _ _ _ _ _ e2 i
    rw [← top16]
    exact this

end Cert.Pre_finite.Real
-- ==== Proof.FoxAlgebraic.lean ====
/- The kernel and the reference end with the same arrays. -/
module

public import proofs.«01_k».proof.Defs
public import proofs.«01_k».proof.Proof.FoxOut
public import proofs.«01_k».proof.Proof.FoxFinite
public import proofs.«01_k».proof.Proof.FoxClaims
public import proofs.«01_k».proof.Proof.Gen.ReferenceIdeal.Run
public import Idealize.ShloMosaic.Adequacy

@[expose] public section

set_option maxRecDepth 16384
set_option maxHeartbeats 400000

noncomputable section

namespace Cert.FoxClaims

open Idealize Idealize.ShloMosaic Idealize.SL.Sem FoxReal
open Cert.ReferenceIdeal.FoxRef (xA xA_at dqA dkA dvA dcA dq_eq dk_eq dv_eq dc_eq)

section Kernel

open Cert.KernelIdeal Cert.KernelIdeal.Gen Cert.KernelIdeal.Fox

/-- Finite arguments are real numbers, and so are their rows' greatest scores. -/
theorem exists_real [Cert.Pre_finite.Facts] (m : (ℓ : Loc nD τ sig) → Buf (Elt Ideal) ℓ) (h : Cert.Pre_KernelIdeal_finite m) (c : Dev nD) :
    ∃ A C B M, Real3 m c A C B M := by
  obtain ⟨h0, h1, h2⟩ := Cert.Pre_finite.Real.real_args (m ((c.tc : Thread nD τ).loc main_arg0)) (m ((c.tc : Thread nD τ).loc main_arg1)) (m ((c.tc : Thread nD τ).loc main_arg2)) (h c)
  choose a ha using h0
  choose b hb using h1
  choose d hd using h2
  have n : Nums (fun q i => a (ix2 q i)) (fun h q => b (ix2 h q)) (fun q i => d (ix2 q i)) (m ((c.tc : Thread nD τ).loc main_arg0))
      (m ((c.tc : Thread nD τ).loc main_arg1)) (m ((c.tc : Thread nD τ).loc main_arg2)) :=
    ⟨fun q i => ha (ix2 q i), fun h q => hb (ix2 h q), fun q i => hd (ix2 q i)⟩
  choose M hM using fun h q => xA_at n h q
  exact ⟨_, _, _, M, n, hM⟩

/-- The launch's outputs of finite arguments. -/
theorem outs_real [Cert.Pre_finite.Facts] (m : (ℓ : Loc nD τ sig) → Buf (Elt Ideal) ℓ) (h : Cert.Pre_KernelIdeal_finite m) (c : Dev nD) :
    (dats m 0 c).arrAt 9 cfg0.N = dqA (m ((c.tc : Thread nD τ).loc main_arg0)) (m ((c.tc : Thread nD τ).loc main_arg1)) (m ((c.tc : Thread nD τ).loc main_arg2))
    ∧ (dats m 0 c).arrAt 10 cfg0.N = dkA (m ((c.tc : Thread nD τ).loc main_arg0)) (m ((c.tc : Thread nD τ).loc main_arg1)) (m ((c.tc : Thread nD τ).loc main_arg2))
    ∧ (dats m 0 c).arrAt 11 cfg0.N = dvA (m ((c.tc : Thread nD τ).loc main_arg0)) (m ((c.tc : Thread nD τ).loc main_arg1)) (m ((c.tc : Thread nD τ).loc main_arg2))
    ∧ (dats m 0 c).arrAt 12 cfg0.N = dcA (m ((c.tc : Thread nD τ).loc main_arg0)) (m ((c.tc : Thread nD τ).loc main_arg1)) (m ((c.tc : Thread nD τ).loc main_arg2)) := by
  obtain ⟨A, C, B, M, R⟩ := exists_real m h c
  exact ⟨dq_out R, dk_out R, dv_out R, dc_out R⟩

/-- Its run, to those outputs. -/
theorem run_outs [Cert.Pre_finite.Facts] (m : (ℓ : Loc nD τ sig) → Buf (Elt Ideal) ℓ) (ρ : Dev nD → PrngReg) (h : Cert.Pre_KernelIdeal_finite m) :
    θ_run (defs (F := Ideal)) (onTc (τ := τ) (main (F := Ideal))) ⟨m, fun _ => 0, ρ⟩ (fun r => ∀ c : Dev nD,
      r.2.mem ((c.tc : Thread nD τ).loc main_v93_0) = dqA (m ((c.tc : Thread nD τ).loc main_arg0)) (m ((c.tc : Thread nD τ).loc main_arg1)) (m ((c.tc : Thread nD τ).loc main_arg2))
      ∧ r.2.mem ((c.tc : Thread nD τ).loc main_v93_1) = dkA (m ((c.tc : Thread nD τ).loc main_arg0)) (m ((c.tc : Thread nD τ).loc main_arg1)) (m ((c.tc : Thread nD τ).loc main_arg2))
      ∧ r.2.mem ((c.tc : Thread nD τ).loc main_v93_2) = dvA (m ((c.tc : Thread nD τ).loc main_arg0)) (m ((c.tc : Thread nD τ).loc main_arg1)) (m ((c.tc : Thread nD τ).loc main_arg2))
      ∧ r.2.mem ((c.tc : Thread nD τ).loc main_v93_3) = dcA (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r k c => ⟨((k.1 c).1 9).trans (outs_real m h c).1, ((k.1 c).1 10).trans (outs_real m h c).2.1,
      ((k.1 c).1 11).trans (outs_real m h c).2.2.1, ((k.1 c).1 12).trans (outs_real m h c).2.2.2, k.2 c⟩)
    (θ_run_and (run_main m ρ) (frame_of m ρ (dats m) (A_eq m) (run_main m ρ)))

end Kernel

/-- Of finite arguments the kernel and the reference leave the same four gradients, and their arguments. -/
theorem algebraic [Cert.Pre_finite.Facts] : Cert.algebraic_KernelIdeal_ReferenceIdeal_pre_finite := by
  intro m g m' g' hpre hargs
  refine ⟨fun c => dqA (m ((c.tc : Thread _ _).loc Cert.KernelIdeal.main_arg0)) (m ((c.tc : Thread _ _).loc Cert.KernelIdeal.main_arg1)) (m ((c.tc : Thread _ _).loc Cert.KernelIdeal.main_arg2)),
    fun c => dkA (m ((c.tc : Thread _ _).loc Cert.KernelIdeal.main_arg0)) (m ((c.tc : Thread _ _).loc Cert.KernelIdeal.main_arg1)) (m ((c.tc : Thread _ _).loc Cert.KernelIdeal.main_arg2)),
    fun c => dvA (m ((c.tc : Thread _ _).loc Cert.KernelIdeal.main_arg0)) (m ((c.tc : Thread _ _).loc Cert.KernelIdeal.main_arg1)) (m ((c.tc : Thread _ _).loc Cert.KernelIdeal.main_arg2)),
    fun c => dcA (m ((c.tc : Thread _ _).loc Cert.KernelIdeal.main_arg0)) (m ((c.tc : Thread _ _).loc Cert.KernelIdeal.main_arg1)) (m ((c.tc : Thread _ _).loc Cert.KernelIdeal.main_arg2)), ?_, ?_⟩
  · exact run_outs m g hpre
  · refine (θ_run Cert.ReferenceIdeal.defs _ _).mono (fun r h c => ?_) (Cert.ReferenceIdeal.Value.run (F := Ideal) m' g')
    obtain ⟨e0, e1, e2⟩ := hargs c
    obtain ⟨r0, r1, r2, r3, k⟩ := h c
    refine ⟨r0.trans ?_, r1.trans ?_, r2.trans ?_, r3.trans ?_, k⟩
    · exact (dq_eq m' c).trans (by rw [e0, e1, e2])
    · exact (dk_eq m' c).trans (by rw [e0, e1, e2])
    · exact (dv_eq m' c).trans (by rw [e0, e1, e2])
    · exact (dc_eq m' c).trans (by rw [e0, e1, e2])

end Cert.FoxClaims
-- ==== Proof.FoxPrep.lean ====
/- The call before the backward pass of the attention: the gradients of the attention's result and of its gate, and a sum for each row. -/
module

public import proofs.«01_k».proof.Defs
public import proofs.«01_k».proof.Proof.FoxFinite
public import proofs.«01_k».proof.Proof.FoxOps
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Pre_finite8
public import Idealize.ShloMosaic.Lib.Pointwise
public import Idealize.ShloMosaic.Lib.Pipeline.ValueKit.Point
public import Idealize.ShloMosaic.Lib.Tactic
public import Idealize.ShloMosaic.Adequacy

@[expose] public section

set_option maxRecDepth 16384
set_option maxHeartbeats 400000

noncomputable section

namespace Cert.Kernel8Ideal.FoxPrep

open Cert.Kernel8Ideal.Gen
open Idealize Idealize.ShloMosaic Idealize.ShloMosaic.TcCoe Idealize.SL.Sem
open Cert.ReferenceIdeal.FoxRef (one_word zero_word div_real)

/-! ## Numbers -/

/-- The gradient of the attention's result, from the gradient of the gated result and the gate. -/
def doE (d g : EReal) : EReal := d * g * Ideal.logistic g

/-- The gradient of the gate, in the kernel's order. -/
def dgE (d o g : EReal) : EReal :=
  d * o * (Ideal.logistic g * (((1 : ℝ) : EReal) + g * (((1 : ℝ) : EReal) - Ideal.logistic g)))

/-- The logistic function in the reference's words. -/
theorem logistic_eq (g : EReal) :
    Ideal.div ((1 : ℝ) : EReal) (((1 : ℝ) : EReal) + Ideal.exp (-g)) = Ideal.logistic g := rfl

/-- A real number's logistic is a real number. -/
theorem logistic_real (g : ℝ) : ∃ s : ℝ, Ideal.logistic (g : EReal) = s := by
  refine ⟨1 * (1 + Real.exp (-g))⁻¹, ?_⟩
  rw [← logistic_eq, ← div_real _ _ (by positivity), EReal.coe_add]
  rfl

/-- The logistic of the infinities. -/
theorem logistic_bot : Ideal.logistic ⊥ = ((0 : ℝ) : EReal) := by
  have e : Ideal.exp ⊤ = ⊤ := rfl
  rw [← logistic_eq, EReal.neg_bot, e, EReal.coe_add_top]
  simp [Ideal.div]
theorem logistic_top : Ideal.logistic ⊤ = ((1 : ℝ) : EReal) := by
  rw [← logistic_eq, EReal.neg_top]
  have e : Ideal.exp ⊥ = ((0 : ℝ) : EReal) := rfl
  rw [e, ← EReal.coe_add, div_real _ _ (by norm_num)]
  norm_num

/-- The kernel's gradient of the gate is the reference's, where the other two factors are real numbers. -/
theorem dgE_eq (d o g : EReal) (hd : ∃ r : ℝ, d = r) (ho : ∃ r : ℝ, o = r) :
    o * d * Ideal.logistic g + g * (o * d) * (Ideal.logistic g * (((1 : ℝ) : EReal) - Ideal.logistic g)) = dgE d o g := by
  obtain ⟨d, rfl⟩ := hd
  obtain ⟨o, rfl⟩ := ho
  rw [dgE]
  induction g using EReal.rec with
  | bot =>
    rw [logistic_bot]
    simp only [EReal.coe_zero, zero_mul, mul_zero, add_zero]
  | top =>
    rw [logistic_top, ← EReal.coe_sub, sub_self]
    simp only [EReal.coe_zero, EReal.coe_one, mul_zero, add_zero, mul_one]
    exact mul_comm _ _
  | coe g =>
    obtain ⟨s, hs⟩ := logistic_real g
    rw [hs]
    simp only [← EReal.coe_mul, ← EReal.coe_sub, ← EReal.coe_add]
    exact congrArg _ (by ring)

/-! ## The three arrays -/

theorem col_lt (k : Fin 1024) : 512 + k.val < 2048 := by omega
theorem gate_lt (k : Fin 1024) : k.val < 2048 := by omega
theorem tile_lt (j : Fin 8) (r : Fin 1024) : 1024 * j.val + r.val < 8192 := by omega
theorem head_lt (h : Fin 8) (d : Fin 128) : 128 * h.val + d.val < 1024 := by omega

variable (D : FVec Ideal S8192x2048 .f32) (O : FVec Ideal S8192x1024 .f32) (G : FVec Ideal S8192x2048 .f32)

/-- The gradient of the attention's result. -/
def doA : FVec Ideal S8192x1024 .bf16 := fun i => doE (D (ix2 (i 0) ⟨512 + (i 1).val, col_lt (i 1)⟩)) (G (ix2 (i 0) ⟨(i 1).val, gate_lt (i 1)⟩))

/-- The gradient of the gate. -/
def dgA : FVec Ideal S8192x1024 .bf16 := fun i =>
  dgE (D (ix2 (i 0) ⟨512 + (i 1).val, col_lt (i 1)⟩)) (O (ix2 (i 0) (i 1))) (G (ix2 (i 0) ⟨(i 1).val, gate_lt (i 1)⟩))

/-- The sum over a head of the gradient of the attention's result times the result. -/
def sumA : FVec Ideal S8x8x1x1024 .f32 := fun i =>
  ∑ d : Fin 128, (doA D G (ix2 ⟨1024 * (i 1).val + (i 3).val, tile_lt (i 1) (i 3)⟩ ⟨128 * (i 0).val + d.val, head_lt (i 0) d⟩)
    * O (ix2 ⟨1024 * (i 1).val + (i 3).val, tile_lt (i 1) (i 3)⟩ ⟨128 * (i 0).val + d.val, head_lt (i 0) d⟩) : EReal)

/-! ## A point's values -/

section Points

variable {F : FTy → Type} [FloatOps F] (x0 x1 x2 : Vec F S1024x128 .f32)

theorem hz : (![0, 0] : Fin 2 → Nat) = fun _ => 0 := funext fun a => by fin_cases a <;> rfl
theorem hz4 : (![0, 0, 0, 0] : Fin 4 → Nat) = fun _ => 0 := funext fun a => by fin_cases a <;> rfl

theorem out3_eq : out0_3 x0 x1 x2 = k0_pay2 x2 x0 := by
  unfold out0_3
  rw [View.canon_unit_zero hz]
  simp only [View.ld_unit_zero (S := S1024x128) hz]
theorem out4_eq : out0_4 x0 x1 x2 = k0_pay3 x2 x0 x1 := by
  unfold out0_4
  rw [View.canon_unit_zero hz]
  simp only [View.ld_unit_zero (S := S1024x128) hz]
theorem out5_eq : out0_5 x0 x1 x2 = k0_pay4 x2 x0 x1 := by
  unfold out0_5
  rw [View.canon_unit_zero hz4]
  simp only [View.ld_unit_zero (S := S1024x128) hz]

end Points

section Values

variable (x y z : FVec Ideal S1024x128 .f32)

theorem pay2_at (r : Fin 1024) (d : Fin 128) : k0_pay2 (F := Ideal) z x (ix2 r d) = doE (x (ix2 r d)) (z (ix2 r d)) := by
  pointwise [k0_pay2, k0_pay1] <;> rfl
theorem pay3_at (r : Fin 1024) (d : Fin 128) : k0_pay3 (F := Ideal) z x y (ix2 r d) = dgE (x (ix2 r d)) (y (ix2 r d)) (z (ix2 r d)) := by
  rw [dgE, ← one_word]
  pointwise [k0_pay3, k0_pay1] <;> rfl
theorem pay4_at (r : Fin 1024) : k0_pay4 (F := Ideal) z x y (ix4 0 0 0 r)
    = ∑ d : Fin 128, (doE (x (ix2 r d)) (z (ix2 r d)) * y (ix2 r d) : EReal) := by
  simp only [← pay2_at]
  unfold k0_pay4
  generalize k0_pay2 (F := Ideal) z x = w
  pointwise [] <;> rfl

end Values

/-! ## The arrays after the launch -/

variable (m : (ℓ : Loc nD τ sig) → Buf (Elt Ideal) ℓ) (c : Dev nD)

/-- The three arguments, and their blocks at a point. -/
abbrev argD : FVec Ideal S8192x2048 .f32 := V m c main_arg0
abbrev argO : FVec Ideal S8192x1024 .f32 := V m c main_arg1
abbrev argG : FVec Ideal S8192x2048 .f32 := V m c main_arg2
abbrev blkD (t : Fin cfg0.N) : FVec Ideal S1024x128 .f32 := iblk m c 0 t
abbrev blkO (t : Fin cfg0.N) : FVec Ideal S1024x128 .f32 := iblk m c 1 t
abbrev blkG (t : Fin cfg0.N) : FVec Ideal S1024x128 .f32 := iblk m c 2 t

theorem idx : ∀ t : Fin cfg0.N, win0_0.index t = ![t.val % 8, 4 + t.val / 8] ∧ win0_1.index t = ![t.val % 8, t.val / 8]
    ∧ win0_2.index t = ![t.val % 8, t.val / 8] ∧ win0_3.index t = ![t.val % 8, t.val / 8]
    ∧ win0_4.index t = ![t.val % 8, t.val / 8] ∧ win0_5.index t = ![t.val / 8, t.val % 8, 0, 0] := by
  decide +kernel

theorem div_lt (t : Fin cfg0.N) : t.val / 8 < 8 := by
  have := t.isLt; have e : cfg0.N = 64 := rfl; omega
theorem mod_lt (t : Fin cfg0.N) : t.val % 8 < 8 := by omega

/-- A point's head and tile. -/
abbrev hd (t : Fin cfg0.N) : Fin 8 := ⟨t.val / 8, div_lt t⟩
abbrev tl (t : Fin cfg0.N) : Fin 8 := ⟨t.val % 8, mod_lt t⟩
/-- A block's row and column in the array. -/
abbrev row (t : Fin cfg0.N) (r : Fin 1024) : Fin 8192 := ⟨1024 * (tl t).val + r.val, tile_lt (tl t) r⟩
abbrev col (t : Fin cfg0.N) (d : Fin 128) : Fin 1024 := ⟨128 * (hd t).val + d.val, head_lt (hd t) d⟩

theorem d_at (t : Fin cfg0.N) (r : Fin 1024) (d : Fin 128) :
    blkD m c t (ix2 r d) = argD m c (ix2 (row t r) ⟨512 + (col t d).val, col_lt (col t d)⟩) := by
  blk_ext [iblk, idx t]
theorem o_at (t : Fin cfg0.N) (r : Fin 1024) (d : Fin 128) : blkO m c t (ix2 r d) = argO m c (ix2 (row t r) (col t d)) := by
  blk_ext [iblk, idx t]
theorem g_at (t : Fin cfg0.N) (r : Fin 1024) (d : Fin 128) :
    blkG m c t (ix2 r d) = argG m c (ix2 (row t r) ⟨(col t d).val, gate_lt (col t d)⟩) := by
  blk_ext [iblk, idx t]
theorem emb3 (t : Fin cfg0.N) (r : Fin 1024) (d : Fin 128) :
    ((cfg0.win 3).blk t).view.emb (ix2 r d) = (ix2 (row t r) (col t d) : S8192x1024.Idx) := by
  blk_ext [idx t]
theorem emb4 (t : Fin cfg0.N) (r : Fin 1024) (d : Fin 128) :
    ((cfg0.win 4).blk t).view.emb (ix2 r d) = (ix2 (row t r) (col t d) : S8192x1024.Idx) := by
  blk_ext [idx t]
theorem emb5 (t : Fin cfg0.N) (r : Fin 1024) :
    ((cfg0.win 5).blk t).view.emb (ix4 0 0 0 r) = (ix4 (hd t) (tl t) 0 r : S8x8x1x1024.Idx) := by
  blk_ext [idx t]

theorem do_at (t : Fin cfg0.N) (r : Fin 1024) (d : Fin 128) : doE (blkD m c t (ix2 r d)) (blkG m c t (ix2 r d))
    = doA (argD m c) (argG m c) (ix2 (row t r) (col t d)) :=
  congrArg₂ doE (d_at m c t r d) (g_at m c t r d)
theorem dg_at (t : Fin cfg0.N) (r : Fin 1024) (d : Fin 128) :
    dgE (blkD m c t (ix2 r d)) (blkO m c t (ix2 r d)) (blkG m c t (ix2 r d))
      = dgA (argD m c) (argO m c) (argG m c) (ix2 (row t r) (col t d)) := by
  rw [d_at, o_at, g_at]
  rfl

theorem do_eq : (dats m 0 c).arrAt 3 cfg0.N = doA (argD m c) (argG m c) := by
  refine (dats m 0 c).arrAt_eq_of_covers 3 _ (by decide +kernel) fun t hf y => ?_
  blk_simp
  rw [after0_3, out3_eq]
  have key : ∀ y : S1024x128.Idx, k0_pay2 (blkG m c t) (blkD m c t) y = doA (argD m c) (argG m c) (((cfg0.win 3).blk t).view.emb y) := by
    intro y
    obtain ⟨r, d, rfl⟩ : ∃ (r : Fin 1024) (d : Fin 128), y = ix2 r d := ⟨y 0, y 1, eq_ix2 y⟩
    exact ((pay2_at _ _ r d).trans (do_at m c t r d)).trans (congrArg _ (emb3 t r d).symm)
  exact key y
theorem dg_eq : (dats m 0 c).arrAt 4 cfg0.N = dgA (argD m c) (argO m c) (argG m c) := by
  refine (dats m 0 c).arrAt_eq_of_covers 4 _ (by decide +kernel) fun t hf y => ?_
  blk_simp
  rw [after0_4, out4_eq]
  have key : ∀ y : S1024x128.Idx, k0_pay3 (blkG m c t) (blkD m c t) (blkO m c t) y
      = dgA (argD m c) (argO m c) (argG m c) (((cfg0.win 4).blk t).view.emb y) := by
    intro y
    obtain ⟨r, d, rfl⟩ : ∃ (r : Fin 1024) (d : Fin 128), y = ix2 r d := ⟨y 0, y 1, eq_ix2 y⟩
    exact ((pay3_at _ _ _ r d).trans (dg_at m c t r d)).trans (congrArg _ (emb4 t r d).symm)
  exact key y
theorem sum_eq : (dats m 0 c).arrAt 5 cfg0.N = sumA (argD m c) (argO m c) (argG m c) := by
  refine (dats m 0 c).arrAt_eq_of_covers 5 _ (by decide +kernel) fun t hf y => ?_
  blk_simp
  rw [after0_5, out5_eq]
  have key : ∀ y : S1x1x1x1024.Idx, k0_pay4 (blkG m c t) (blkD m c t) (blkO m c t) y
      = sumA (argD m c) (argO m c) (argG m c) (((cfg0.win 5).blk t).view.emb y) := by
    intro y
    obtain ⟨r, rfl⟩ : ∃ r : Fin 1024, y = ix4 0 0 0 r := ⟨y 3, by
      rw [eq_ix4 y]; congr 1 <;> exact Subsingleton.elim (α := Fin 1) _ _⟩
    refine ((pay4_at _ _ _ r).trans ?_).trans (congrArg _ (emb5 t r).symm)
    exact Finset.sum_congr rfl fun d _ => congrArg₂ (· * · : EReal → EReal → EReal) (do_at m c t r d) (o_at m c t r d)
  exact key y

end Cert.Kernel8Ideal.FoxPrep

namespace Cert.FoxPrepClaims

open Idealize Idealize.ShloMosaic Idealize.ShloMosaic.TcCoe Idealize.SL.Sem
open Cert.Reference8Ideal Cert.Reference8Ideal.Gen
open Cert.Kernel8Ideal.FoxPrep (doE dgE doA dgA sumA col_lt gate_lt tile_lt head_lt logistic_eq dgE_eq)
open Cert.ReferenceIdeal.FoxRef (one_word zero_word)

/-! ## The reference's arrays -/

section Reference

variable (D : FVec Ideal S8192x2048 .f32) (O : FVec Ideal S8192x1024 .f32) (G : FVec Ideal S8192x2048 .f32)

/-- The columns of the arguments that the reference reads, ones, and the logistic of the gate. -/
def cutD : FVec Ideal S8192x1024 .f32 := extractStridedSlice S8192x1024 ![0, 512] D slices_S8192x2048_S8192x1024_0_512
def cutG : FVec Ideal S8192x1024 .f32 := extractStridedSlice S8192x1024 ![0, 0] G slices_S8192x2048_S8192x1024_0_0
def ones : FVec Ideal S8192x1024 .f32 := broadcastInDim S8192x1024 ![] bcast_S_S8192x1024 (constant S_ .f32 0x3F800000#32)
def sig (g : FVec Ideal S8192x1024 .f32) : FVec Ideal S8192x1024 .f32 := Host.divf ones (addf ones (Host.exp (Host.negf g)))

def refDo (d g : FVec Ideal S8192x1024 .f32) : FVec Ideal S8192x1024 .bf16 := truncf .bf16 (mulf d (mulf g (sig g))) bitsLt_bf16_f32
def refDg (d o g : FVec Ideal S8192x1024 .f32) : FVec Ideal S8192x1024 .bf16 :=
  truncf .bf16 (addf (mulf (mulf o d) (sig g)) (mulf (mulf g (mulf o d)) (mulf (sig g) (subf ones (sig g))))) bitsLt_bf16_f32
def refSum (w : FVec Ideal S8192x1024 .bf16) (o : FVec Ideal S8192x1024 .f32) : FVec Ideal S8x8x1x1024 .f32 :=
  shapeCast _ (transpose S8x8192 [1, 0] (Host.reduceAdd (shapeCast _ (mulf (extf .f32 w bitsLt_bf16_f32) o) shapeCasts_S8192x1024_S8192x8x128)
    (constant S_ .f32 0x00000000#32) reducesTo_S8192x8x128_S8192x8_d2 h_S_) transposes_S8192x8_S8x8192_1_0) shapeCasts_S8x8192_S8x8x1x1024

theorem cutD_at (r : Fin 8192) (k : Fin 1024) : cutD D (ix2 r k) = D (ix2 r ⟨512 + k.val, col_lt k⟩) := by
  pointwise [cutD]
theorem cutG_at (r : Fin 8192) (k : Fin 1024) : cutG G (ix2 r k) = G (ix2 r ⟨k.val, gate_lt k⟩) := by
  pointwise [cutG]
theorem ones_at (i : S8192x1024.Idx) : ones i = ((1 : ℝ) : EReal) := by
  rw [← one_word]
  rfl
theorem sig_at (g : FVec Ideal S8192x1024 .f32) (i : S8192x1024.Idx) : sig g i = Ideal.logistic (g i) := by
  rw [← logistic_eq, ← ones_at i]
  rfl
theorem refDo_at (d g : FVec Ideal S8192x1024 .f32) (i : S8192x1024.Idx) : refDo d g i = doE (d i) (g i) := by
  rw [doE, mul_assoc, ← sig_at]
  rfl
theorem refDg_at (d o g : FVec Ideal S8192x1024 .f32) (i : S8192x1024.Idx) (h0 : ∃ r : ℝ, d i = r) (h1 : ∃ r : ℝ, o i = r) :
    refDg d o g i = dgE (d i) (o i) (g i) := by
  rw [← dgE_eq _ _ _ h0 h1, ← sig_at, ← ones_at i]
  rfl
theorem refSum_at (w : FVec Ideal S8192x1024 .bf16) (o : FVec Ideal S8192x1024 .f32) (h j : Fin 8) (r : Fin 1024) :
    refSum w o (ix4 h j 0 r) = ∑ d : Fin 128, (w (ix2 ⟨1024 * j.val + r.val, tile_lt j r⟩ ⟨128 * h.val + d.val, head_lt h d⟩)
      * o (ix2 ⟨1024 * j.val + r.val, tile_lt j r⟩ ⟨128 * h.val + d.val, head_lt h d⟩) : EReal) := by
  simp only [Nat.mul_comm 1024 j.val, Nat.mul_comm 128 h.val]
  pointwise [refSum]

theorem do_eq : refDo (cutD D) (cutG G) = doA D G := by
  funext i
  obtain ⟨r, k, rfl⟩ : ∃ (r : Fin 8192) (k : Fin 1024), i = ix2 r k := ⟨i 0, i 1, eq_ix2 i⟩
  rw [refDo_at, cutD_at, cutG_at]
  rfl
theorem dg_eq (h0 : ∀ i, ∃ r : ℝ, D i = r) (h1 : ∀ i, ∃ r : ℝ, O i = r) :
    refDg (cutD D) O (cutG G) = dgA D O G := by
  funext i
  obtain ⟨r, k, rfl⟩ : ∃ (r : Fin 8192) (k : Fin 1024), i = ix2 r k := ⟨i 0, i 1, eq_ix2 i⟩
  rw [refDg_at _ _ _ _ (by rw [cutD_at]; exact h0 _) (h1 _), cutD_at, cutG_at]
  rfl
theorem sum_eq : refSum (refDo (cutD D) (cutG G)) O = sumA D O G := by
  rw [do_eq]
  funext i
  obtain ⟨h, j, r, rfl⟩ : ∃ (h j : Fin 8) (r : Fin 1024), i = ix4 h j 0 r := ⟨i 0, i 1, i 3, by
    refine (eq_ix4 i).trans ?_; congr 1; exact Subsingleton.elim (α := Fin 1) _ _⟩
  exact refSum_at _ _ h j r

end Reference

/-! ## The claims -/

/-- Finite entries are real numbers. -/
theorem real_args [Cert.Pre_finite8.Facts] (x0 : FVec Ideal S8192x2048 .f32) (x1 : FVec Ideal S8192x1024 .f32) (x2 : FVec Ideal S8192x2048 .f32)
    (h : Cert.Pre_finite8.fn (F := Ideal) x0 x1 x2 = fun _ => 1#1) :
    (∀ i, ∃ r : ℝ, x0 i = r) ∧ (∀ i, ∃ r : ℝ, x1 i = r) := by
  haveI : Subsingleton S_.Idx := ⟨fun a b => funext fun d => d.elim0⟩
  have e := congrFun h (fun d => d.elim0)
  unfold Cert.Pre_finite8.fn at e
  obtain ⟨e0, e1⟩ := IntOp.andi_eq_one.1 e
  refine ⟨fun i => Cert.Pre_finite.Real.real_of_lt _ ?_, fun i => Cert.Pre_finite.Real.real_of_lt _ ?_⟩ <;> rw [← Cert.Pre_finite.Real.top32]
  · exact Host.reduce_andi_all _ _ _ _ _ e0 i
  · exact Host.reduce_andi_all _ _ _ _ _ e1 i

theorem frame_kernel : Cert.quiescent_Kernel8 := fun m ρ _ => Cert.Kernel8.Gen.frame m ρ
theorem frame_ideal : Cert.quiescent_Kernel8Ideal := fun m ρ _ => Cert.Kernel8Ideal.Gen.frame m ρ
theorem frame_reference : Cert.quiescent_Reference8Ideal := fun m ρ _ =>
  (θ_run Cert.Reference8Ideal.defs _ _).mono
    (fun r h => ⟨fun c => (h c).2.2.2, Idealize.ShloMosaic.sem_eq_zero_of_no_sems (by decide) r.2⟩)
    (Cert.Reference8Ideal.Value.run (F := Ideal) m ρ)

open Cert.Kernel8Ideal.FoxPrep (argD argO argG) in
/-- The call's three arrays are the reference's. -/
theorem algebraic [Cert.Pre_finite8.Facts] : Cert.algebraic_Kernel8Ideal_Reference8Ideal_pre_finite8 := fun m g m' g' hp hm => by
  refine ⟨fun c => doA (argD m c) (argG m c), fun c => dgA (argD m c) (argO m c) (argG m c),
    fun c => sumA (argD m c) (argO m c) (argG m c), ?_, ?_⟩
  · exact (θ_run Cert.Kernel8Ideal.defs _ _).mono
      (fun r h c => ⟨(h c).1.trans (Cert.Kernel8Ideal.FoxPrep.do_eq m c), (h c).2.1.trans (Cert.Kernel8Ideal.FoxPrep.dg_eq m c),
        (h c).2.2.1.trans (Cert.Kernel8Ideal.FoxPrep.sum_eq m c), (h c).2.2.2⟩)
      (Cert.Kernel8Ideal.Value.run_blocks m g)
  · refine (θ_run Cert.Reference8Ideal.defs _ _).mono (fun r h c => ?_) (Cert.Reference8Ideal.Value.run m' g')
    obtain ⟨h0, h1⟩ := real_args _ _ _ (hp c)
    obtain ⟨e0, e1, e2, rest⟩ := h c
    refine ⟨e0.trans ?_, e1.trans ?_, e2.trans ?_, rest⟩ <;> rw [(hm c).1, (hm c).2.2]
    · exact do_eq _ _
    · rw [(hm c).2.1]
      exact dg_eq _ _ _ h0 h1
    · rw [(hm c).2.1]
      exact sum_eq _ _ _

end Cert.FoxPrepClaims

end
-- ==== Proof.ProductSums.lean ====
/- Sums over tiles of a product's inner axis. -/
module

public import Idealize.ShloMosaic.PureOps.Ideal

@[expose] public section

noncomputable section

namespace ProductSums

theorem tile_lt (j : Fin 4) (r : Fin 2048) : 2048 * j.val + r.val < 8192 := by omega

/-- Row `r` of tile `j` of the inner axis. -/
abbrev inner (j : Fin 4) (r : Fin 2048) : Fin 8192 := ⟨2048 * j.val + r.val, tile_lt j r⟩

/-- Four tiles, one after the other, from zero, are the whole sum. -/
theorem sum_inner (f : Fin 8192 → EReal) :
    0 + ∑ r, f (inner 0 r) + ∑ r, f (inner 1 r) + ∑ r, f (inner 2 r) + ∑ r, f (inner 3 r) = ∑ k, f k := by
  rw [zero_add, ← Fin.sum_univ_four fun j => ∑ r, f (inner j r), ← Fintype.sum_prod_type' fun j r => f (inner j r)]
  exact Fintype.sum_equiv (finProdFinEquiv (m := 4) (n := 2048)) (fun p => f (inner p.1 p.2)) f
    (fun p => congrArg f (Fin.ext (by show 2048 * p.1.val + p.2.val = p.2.val + 2048 * p.1.val; omega)))

/-- An accumulator that starts at the first tile's part and adds the other three ends at the whole sum. -/
theorem sum_of_steps (f : Fin 8192 → EReal) {a b c d : EReal} (ha : a = 0 + ∑ r, f (inner 0 r)) (hb : b = a + ∑ r, f (inner 1 r))
    (hc : c = b + ∑ r, f (inner 2 r)) (hd : d = c + ∑ r, f (inner 3 r)) : d = ∑ k, f k := by
  rw [hd, hc, hb, ha]
  exact sum_inner f

end ProductSums

end
-- ==== Proof.WInRun.lean ====
/- The gradient of the input projection's weights: what each point of the grid leaves in the accumulator and the result. -/
module

public import proofs.«01_k».proof.Proof.ProductSums
public import proofs.«01_k».proof.Proof.Gen.Kernel2Ideal.Value
public import Idealize.ShloMosaic.Lib.Pointwise
public import Idealize.ShloMosaic.Lib.Pipeline.ValueKit.Point
public import Idealize.ShloMosaic.Lib.Tactic

@[expose] public section

set_option maxRecDepth 16384
set_option maxHeartbeats 400000

noncomputable section

namespace Cert.Kernel2Ideal.WIn

open Cert.Kernel2Ideal.Gen
open Idealize Idealize.ShloMosaic Idealize.ShloMosaic.TcCoe ProductSums

section Cases

variable {F : FTy → Type} [FloatOps F]
variable (c : Dev nD) (i : grid0.Coords) (a3 : Memref sig .tc .vmem S1024x2048 .bf16) (h3 : a3.IsWhole)
  (a4 : Memref sig .tc .vmem S2048x1664 .bf16) (h4 : a4.IsWhole) (a5 : Memref sig .tc .vmem S1024x1664 .f32) (h5 : a5.IsWhole)
  (a6 : Memref sig .tc .vmem S1024x1664 .f32) (h6 : a6.IsWhole)
  (x0 : Vec F S1024x2048 .bf16) (x1 : Vec F S2048x1664 .bf16) (xs : Vec F S1024x1664 .f32)

theorem hz : (![0, 0] : Fin 2 → Nat) = fun _ => 0 := funext fun a => by fin_cases a <;> rfl

/-- The first tile of the inner axis: the product added to zero. -/
theorem acc_first (hc0 : cond0_0 i) (hc1 : ¬cond0_1 i) :
    sout0_A_0 c i a3 h3 a4 h4 a5 h5 a6 h6 hc0 hc1 x0 x1 = k0_pay2 x0 x1 k0_pay1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1664) hz, View.readCov_unit_zero (S := S1024x1664) _ hz]
  simp only [View.readAt_eq_ld, h3.read_unread, h4.read_unread, View.ld_unit_zero (S := S1024x2048) hz, View.ld_unit_zero (S := S2048x1664) hz]

/-- A later tile: the product added to what the tile before left. -/
theorem acc_next (hc0 : ¬cond0_0 i) (hc1 : ¬cond0_1 i) :
    sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1024x2048) hz,
    View.ld_unit_zero (S := S2048x1664) hz, View.ld_unit_zero (S := S1024x1664) hz]

/-- The last tile: the result is the accumulator with the last product added. -/
theorem out_last (hc0 : ¬cond0_0 i) (hc1 : cond0_1 i) :
    out0_C_2 c i a3 h3 a4 h4 a5 h5 a6 h6 hc0 hc1 x0 x1 xs = k0_pay2 x0 x1 xs := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S1024x1664) _ hz]
  simp only [View.readAt_eq_ld, h3.read_unread, h4.read_unread, h6.read_unread, View.ld_unit_zero (S := S1024x2048) hz,
    View.ld_unit_zero (S := S2048x1664) hz, View.ld_unit_zero (S := S1024x1664) hz]

end Cases

section Points

variable {F : FTy → Type} [FloatOps F] (m : (ℓ : Loc nD τ sig) → Buf (Elt F) ℓ) (c : Dev nD)

theorem left_first (t : Fin cfg0.N) (h : t.val % 4 = 0) :
    (outsAt0 m c t.val t.isLt).2 = k0_pay2 (iblk m c 0 t) (iblk m c 1 t) k0_pay1 := by
  have h' : ¬t.val % 4 = 3 := by omega
  rw [outsAt0_A m c t h h']
  dsimp only
  rw [acc_first]

theorem left_next (t : Fin cfg0.N) (h : ¬t.val % 4 = 0) (h' : ¬t.val % 4 = 3) : (outsAt0 m c t.val t.isLt).2
    = k0_pay2 (iblk m c 0 t) (iblk m c 1 t) (outsAt0 m c (t.val - 1) (Nat.lt_of_le_of_lt (Nat.sub_le _ _) t.isLt)).2 := by
  rw [outsAt0_B m c t h h']
  dsimp only
  rw [acc_next]

theorem left_last (t : Fin cfg0.N) (h : t.val % 4 = 3) : (outsAt0 m c t.val t.isLt).1
    = k0_pay2 (iblk m c 0 t) (iblk m c 1 t) (outsAt0 m c (t.val - 1) (Nat.lt_of_le_of_lt (Nat.sub_le _ _) t.isLt)).2 := by
  have h' : ¬t.val % 4 = 0 := by omega
  rw [outsAt0_C m c t h' h]
  dsimp only
  rw [out_last]

end Points

section Values

variable (m : (ℓ : Loc nD τ sig) → Buf (Elt Ideal) ℓ) (c : Dev nD)

/-- The two arguments, and their blocks at a point. -/
abbrev argX : FVec Ideal S2048x8192 .bf16 := V m c main_arg0
abbrev argY : FVec Ideal S8192x6656 .bf16 := V m c main_arg1
abbrev blkX (t : Fin cfg0.N) : FVec Ideal S1024x2048 .bf16 := iblk m c 0 t
abbrev blkY (t : Fin cfg0.N) : FVec Ideal S2048x1664 .bf16 := iblk m c 1 t

theorem zero_at (r : Fin 1024) (s : Fin 1664) : k0_pay1 (F := Ideal) (ix2 r s) = 0 := by
  have e : Ideal.ofBits .f32 0x00000000#32 = 0 := by simp [Ideal.ofBits, Ideal.ieee, -EReal.coe_mul]
  rw [← e]
  pointwise [k0_pay1] <;> rfl

theorem step_at (x : FVec Ideal S1024x2048 .bf16) (y : FVec Ideal S2048x1664 .bf16) (z : FVec Ideal S1024x1664 .f32)
    (r : Fin 1024) (s : Fin 1664) : k0_pay2 x y z (ix2 r s) = z (ix2 r s) + ∑ k, x (ix2 r k) * y (ix2 k s) := by
  pointwise [k0_pay2] <;> rfl

theorem idx : ∀ t : Fin cfg0.N, win0_0.index t = ![t.val / 16, t.val % 4] ∧ win0_1.index t = ![t.val % 4, t.val / 4 % 4] := by
  decide +kernel

theorem left_lt (t : Fin cfg0.N) (r : Fin 1024) : 1024 * (t.val / 16) + r.val < 2048 := by
  have := t.isLt; have e : cfg0.N = 32 := rfl; omega
theorem right_lt (t : Fin cfg0.N) (s : Fin 1664) : 1664 * (t.val / 4 % 4) + s.val < 6656 := by omega
theorem mid_lt (t : Fin cfg0.N) : t.val % 4 < 4 := by omega

theorem x_at (t : Fin cfg0.N) (r : Fin 1024) (k : Fin 2048) :
    blkX m c t (ix2 r k) = argX m c (ix2 ⟨1024 * (t.val / 16) + r.val, left_lt t r⟩ (inner ⟨t.val % 4, mid_lt t⟩ k)) := by
  blk_ext [iblk, idx t]
theorem y_at (t : Fin cfg0.N) (k : Fin 2048) (s : Fin 1664) :
    blkY m c t (ix2 k s) = argY m c (ix2 (inner ⟨t.val % 4, mid_lt t⟩ k) ⟨1664 * (t.val / 4 % 4) + s.val, right_lt t s⟩) := by
  blk_ext [iblk, idx t]

theorem at_first (t : Fin cfg0.N) (h : t.val % 4 = 0) (r : Fin 1024) (s : Fin 1664) : (outsAt0 m c t.val t.isLt).2 (ix2 r s)
    = 0 + ∑ k, blkX m c t (ix2 r k) * blkY m c t (ix2 k s) := by
  rw [left_first m c t h, step_at, zero_at]

theorem at_next (t : Fin cfg0.N) (h : ¬t.val % 4 = 0) (h' : ¬t.val % 4 = 3) (r : Fin 1024) (s : Fin 1664) :
    (outsAt0 m c t.val t.isLt).2 (ix2 r s) = (outsAt0 m c (t.val - 1) (Nat.lt_of_le_of_lt (Nat.sub_le _ _) t.isLt)).2 (ix2 r s)
      + ∑ k, blkX m c t (ix2 r k) * blkY m c t (ix2 k s) := by
  rw [left_next m c t h h', step_at]

theorem at_last (t : Fin cfg0.N) (h : t.val % 4 = 3) (r : Fin 1024) (s : Fin 1664) :
    (outsAt0 m c t.val t.isLt).1 (ix2 r s) = (outsAt0 m c (t.val - 1) (Nat.lt_of_le_of_lt (Nat.sub_le _ _) t.isLt)).2 (ix2 r s)
      + ∑ k, blkX m c t (ix2 r k) * blkY m c t (ix2 k s) := by
  rw [left_last m c t h, step_at]

/-- The point of block `q` of the result at tile `j` of the inner axis. -/
abbrev pt (q : Fin 8) (j : Fin 4) : Fin cfg0.N := ⟨4 * q.val + j.val, lt_of_lt_of_eq (by omega) N_0.symm⟩

theorem top_lt (q : Fin 8) (r : Fin 1024) : 1024 * (q.val / 4) + r.val < 2048 := by omega
theorem side_lt (q : Fin 8) (s : Fin 1664) : 1664 * (q.val % 4) + s.val < 6656 := by omega

/-- One tile's part of the inner sum. -/
theorem part_at (q : Fin 8) (j : Fin 4) (r : Fin 1024) (s : Fin 1664) :
    ∑ k, blkX m c (pt q j) (ix2 r k) * blkY m c (pt q j) (ix2 k s)
      = ∑ k, (fun k => argX m c (ix2 ⟨1024 * (q.val / 4) + r.val, top_lt q r⟩ k)
          * argY m c (ix2 k ⟨1664 * (q.val % 4) + s.val, side_lt q s⟩) : Fin 8192 → EReal) (inner j k) := by
  refine Finset.sum_congr rfl fun k _ => ?_
  have e0 : (⟨(pt q j).val % 4, mid_lt (pt q j)⟩ : Fin 4) = j := Fin.ext (by show (4 * q.val + j.val) % 4 = j.val; omega)
  have e1 : (⟨1024 * ((pt q j).val / 16) + r.val, left_lt (pt q j) r⟩ : Fin 2048) = ⟨1024 * (q.val / 4) + r.val, top_lt q r⟩ :=
    Fin.ext (by show 1024 * ((4 * q.val + j.val) / 16) + r.val = _; dsimp only; omega)
  have e2 : (⟨1664 * ((pt q j).val / 4 % 4) + s.val, right_lt (pt q j) s⟩ : Fin 6656) = ⟨1664 * (q.val % 4) + s.val, side_lt q s⟩ :=
    Fin.ext (by show 1664 * ((4 * q.val + j.val) / 4 % 4) + s.val = _; dsimp only; omega)
  rw [x_at, y_at, e0, e1, e2]

/-- The result's block `q` is the whole product's. -/
theorem block_at (q : Fin 8) (r : Fin 1024) (s : Fin 1664) : (outsAt0 m c (pt q 3).val (pt q 3).isLt).1 (ix2 r s)
    = ∑ k : Fin 8192, (argX m c (ix2 ⟨1024 * (q.val / 4) + r.val, top_lt q r⟩ k)
        * argY m c (ix2 k ⟨1664 * (q.val % 4) + s.val, side_lt q s⟩) : EReal) := by
  have h0 := at_first m c (pt q 0) (by show (4 * q.val + 0) % 4 = 0; omega) r s
  have h1 := at_next m c (pt q 1) (by show ¬(4 * q.val + 1) % 4 = 0; omega) (by show ¬(4 * q.val + 1) % 4 = 3; omega) r s
  have h2 := at_next m c (pt q 2) (by show ¬(4 * q.val + 2) % 4 = 0; omega) (by show ¬(4 * q.val + 2) % 4 = 3; omega) r s
  have h3 := at_last m c (pt q 3) (by show (4 * q.val + 3) % 4 = 3; omega) r s
  rw [part_at] at h0 h1 h2 h3
  exact sum_of_steps _ h0 h1 h2 h3

/-- The product of the two arguments. -/
def prod (a : FVec Ideal S2048x8192 .bf16) (b : FVec Ideal S8192x6656 .bf16) : FVec Ideal S2048x6656 .f32 :=
  fun i => ∑ k : Fin 8192, (a (ix2 (i 0) k) * b (ix2 k (i 1)) : EReal)

/-- The array that the launch leaves is the product. -/
theorem result_eq : Cert.Kernel2Ideal.Value.G2 m c = prod (argX m c) (argY m c) := by
  funext i
  obtain ⟨r, s, rfl⟩ : ∃ (r : Fin 2048) (s : Fin 6656), i = ix2 r s := ⟨i 0, i 1, eq_ix2 i⟩
  have hr := r.isLt
  have hs := s.isLt
  have hq : 4 * (r.val / 1024) + s.val / 1664 < 8 := by omega
  have hp : Cert.Kernel2Ideal.Value.pt2Of (ix2 r s) = (pt ⟨_, hq⟩ 3).val := by
    show 4 * (4 * (r.val / 1024 - 0) + 1 * (s.val / 1664 - 0)) + 3 = 4 * (4 * (r.val / 1024) + s.val / 1664) + 3
    omega
  have hl : Cert.Kernel2Ideal.Value.loc2Of (ix2 r s) = (ix2 ⟨r.val % 1024, by omega⟩ ⟨s.val % 1664, by omega⟩ : S1024x1664.Idx) := by
    funext a
    fin_cases a <;> rfl
  have e1 : (⟨1024 * ((4 * (r.val / 1024) + s.val / 1664) / 4) + r.val % 1024, top_lt ⟨_, hq⟩ ⟨_, by omega⟩⟩ : Fin 2048) = r :=
    Fin.ext (by dsimp only; omega)
  have e2 : (⟨1664 * ((4 * (r.val / 1024) + s.val / 1664) % 4) + s.val % 1664, side_lt ⟨_, hq⟩ ⟨_, by omega⟩⟩ : Fin 6656) = s :=
    Fin.ext (by dsimp only; omega)
  have hb := block_at m c ⟨_, hq⟩ ⟨r.val % 1024, by omega⟩ ⟨s.val % 1664, by omega⟩
  dsimp only at hb
  rw [e1, e2, Cert.Kernel2Ideal.Value.outsAt0_sweep] at hb
  unfold Cert.Kernel2Ideal.Value.G2
  rw [dif_pos (lt_of_eq_of_lt hp (pt ⟨_, hq⟩ 3).isLt), hl]
  simp only [hp]
  exact hb

end Values

end Cert.Kernel2Ideal.WIn

end
-- ==== Proof.WInClaims.lean ====
/- The gradient of the input projection's weights: the claims. -/
module

public import proofs.«01_k».proof.Defs
public import proofs.«01_k».proof.Proof.WInRun
public import proofs.«01_k».proof.Proof.Gen.Kernel2.Frame
public import proofs.«01_k».proof.Proof.Gen.Reference2Ideal.Run
public import Idealize.ShloMosaic.Adequacy

@[expose] public section

set_option maxRecDepth 16384
set_option maxHeartbeats 400000

noncomputable section

namespace Cert.WInClaims

open Idealize Idealize.ShloMosaic Idealize.ShloMosaic.TcCoe Idealize.SL.Sem
open Cert.Reference2Ideal Cert.Reference2Ideal.Gen

/-- The reference's result as a term of its arguments. -/
def refOut (a : FVec Ideal S2048x8192 .bf16) (b : FVec Ideal S8192x6656 .bf16) : FVec Ideal S2048x6656 .f32 :=
  transpose S2048x6656 [1, 0] (Host.dotGeneral dot_S8192x6656_S8192x2048_S6656x2048_0_0_1_1_n_n none (extf .f32 b bitsLt_bf16_f32)
    (extf .f32 (transpose S8192x2048 [1, 0] a transposes_S2048x8192_S8192x2048_1_0) bitsLt_bf16_f32)) transposes_S6656x2048_S2048x6656_1_0

theorem refOut_at (a : FVec Ideal S2048x8192 .bf16) (b : FVec Ideal S8192x6656 .bf16) (r : Fin 2048) (s : Fin 6656) :
    refOut a b (ix2 r s) = ∑ k : Fin 8192, b (ix2 k s) * a (ix2 r k) := by
  pointwise [refOut] <;> rfl

/-- The reference's result is the product. -/
theorem refOut_eq (a : FVec Ideal S2048x8192 .bf16) (b : FVec Ideal S8192x6656 .bf16) : refOut a b = Cert.Kernel2Ideal.WIn.prod a b := by
  funext i
  obtain ⟨r, s, rfl⟩ : ∃ (r : Fin 2048) (s : Fin 6656), i = ix2 r s := ⟨i 0, i 1, eq_ix2 i⟩
  exact (refOut_at a b r s).trans (Finset.sum_congr rfl fun k _ => EReal.mul_comm _ _)

theorem frame_ideal : Cert.quiescent_Kernel2Ideal := fun m ρ _ => Cert.Kernel2Ideal.Gen.frame m ρ

theorem frame_reference : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem frame_kernel : Cert.quiescent_Kernel2 := fun m ρ _ => Cert.Kernel2.Gen.frame m ρ

/-- The call's result and the reference's are the product of the two arguments. -/
theorem algebraic : Cert.algebraic_Kernel2Ideal_Reference2Ideal := fun m g m' g' _ hm =>
  ⟨fun c => Cert.Kernel2Ideal.WIn.prod (Cert.Kernel2Ideal.WIn.argX m c) (Cert.Kernel2Ideal.WIn.argY m c),
    (θ_run Cert.Kernel2Ideal.defs _ _).mono
      (fun r h c => ⟨(h c).1.trans (Cert.Kernel2Ideal.WIn.result_eq m c), (h c).2.1, (h c).2.2⟩)
      (Cert.Kernel2Ideal.Value.run m g),
    (θ_run Cert.Reference2Ideal.defs _ _).mono
      (fun r h c => ⟨(h c).1.trans ((refOut_eq _ _).trans (congrArg₂ Cert.Kernel2Ideal.WIn.prod (hm c).1 (hm c).2)), (h c).2⟩)
      (Cert.Reference2Ideal.Value.run m' g')⟩

end Cert.WInClaims

end
-- ==== Proof.WOutRun.lean ====
/- The gradient of the output projection's weights: what each point of the grid leaves in the accumulator and the result. -/
module

public import proofs.«01_k».proof.Proof.ProductSums
public import proofs.«01_k».proof.Proof.Gen.Kernel3Ideal.Value
public import Idealize.ShloMosaic.Lib.Pointwise
public import Idealize.ShloMosaic.Lib.Pipeline.ValueKit.Point
public import Idealize.ShloMosaic.Lib.Tactic

@[expose] public section

set_option maxRecDepth 16384
set_option maxHeartbeats 400000

noncomputable section

namespace Cert.Kernel3Ideal.WOut

open Cert.Kernel3Ideal.Gen
open Idealize Idealize.ShloMosaic Idealize.ShloMosaic.TcCoe ProductSums

section Cases

variable {F : FTy → Type} [FloatOps F]
variable (c : Dev nD) (i : grid0.Coords) (a3 : Memref sig .tc .vmem S1024x2048 .bf16) (h3 : a3.IsWhole)
  (a4 : Memref sig .tc .vmem S2048x1024 .bf16) (h4 : a4.IsWhole) (a5 : Memref sig .tc .vmem S1024x1024 .f32) (h5 : a5.IsWhole)
  (a6 : Memref sig .tc .vmem S1024x1024 .f32) (h6 : a6.IsWhole)
  (x0 : Vec F S1024x2048 .bf16) (x1 : Vec F S2048x1024 .bf16) (xs : Vec F S1024x1024 .f32)

theorem hz : (![0, 0] : Fin 2 → Nat) = fun _ => 0 := funext fun a => by fin_cases a <;> rfl

/-- The first tile of the inner axis: the product added to zero. -/
theorem acc_first (hc0 : cond0_0 i) (hc1 : ¬cond0_1 i) :
    sout0_A_0 c i a3 h3 a4 h4 a5 h5 a6 h6 hc0 hc1 x0 x1 = k0_pay2 x0 x1 k0_pay1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x2048) hz, View.ld_unit_zero (S := S2048x1024) hz]

/-- A later tile: the product added to what the tile before left. -/
theorem acc_next (hc0 : ¬cond0_0 i) (hc1 : ¬cond0_1 i) :
    sout0_B_0 c i a3 h3 a4 h4 a5 h5 a6 h6 hc0 hc1 x0 x1 xs = k0_pay2 x0 x1 xs := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero hz]
  simp only [View.readAt_eq_ld, h3.read_unread, h4.read_unread, h6.read_unread, View.ld_unit_zero (S := S1024x2048) hz,
    View.ld_unit_zero (S := S2048x1024) hz, View.ld_unit_zero (S := S1024x1024) hz]

/-- The last tile: the result is the accumulator with the last product added. -/
theorem out_last (hc0 : ¬cond0_0 i) (hc1 : cond0_1 i) :
    out0_C_2 c i a3 h3 a4 h4 a5 h5 a6 h6 hc0 hc1 x0 x1 xs = k0_pay2 x0 x1 xs := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x2048) hz,
    View.ld_unit_zero (S := S2048x1024) hz, View.ld_unit_zero (S := S1024x1024) hz]

end Cases

section Points

variable {F : FTy → Type} [FloatOps F] (m : (ℓ : Loc nD τ sig) → Buf (Elt F) ℓ) (c : Dev nD)

theorem left_first (t : Fin cfg0.N) (h : t.val % 4 = 0) :
    (outsAt0 m c t.val t.isLt).2 = k0_pay2 (iblk m c 0 t) (iblk m c 1 t) k0_pay1 := by
  have h' : ¬t.val % 4 = 3 := by omega
  rw [outsAt0_A m c t h h']
  dsimp only
  rw [acc_first]

theorem left_next (t : Fin cfg0.N) (h : ¬t.val % 4 = 0) (h' : ¬t.val % 4 = 3) : (outsAt0 m c t.val t.isLt).2
    = k0_pay2 (iblk m c 0 t) (iblk m c 1 t) (outsAt0 m c (t.val - 1) (Nat.lt_of_le_of_lt (Nat.sub_le _ _) t.isLt)).2 := by
  rw [outsAt0_B m c t h h']
  dsimp only
  rw [acc_next]

theorem left_last (t : Fin cfg0.N) (h : t.val % 4 = 3) : (outsAt0 m c t.val t.isLt).1
    = k0_pay2 (iblk m c 0 t) (iblk m c 1 t) (outsAt0 m c (t.val - 1) (Nat.lt_of_le_of_lt (Nat.sub_le _ _) t.isLt)).2 := by
  have h' : ¬t.val % 4 = 0 := by omega
  rw [outsAt0_C m c t h' h]
  dsimp only
  rw [out_last]

end Points

section Values

variable (m : (ℓ : Loc nD τ sig) → Buf (Elt Ideal) ℓ) (c : Dev nD)

/-- The two arguments, and their blocks at a point. -/
abbrev argX : FVec Ideal S2048x8192 .bf16 := V m c main_arg0
abbrev argY : FVec Ideal S8192x2048 .bf16 := V m c main_arg1
abbrev blkX (t : Fin cfg0.N) : FVec Ideal S1024x2048 .bf16 := iblk m c 0 t
abbrev blkY (t : Fin cfg0.N) : FVec Ideal S2048x1024 .bf16 := iblk m c 1 t

theorem zero_at (r : Fin 1024) (s : Fin 1024) : k0_pay1 (F := Ideal) (ix2 r s) = 0 := by
  have e : Ideal.ofBits .f32 0x00000000#32 = 0 := by simp [Ideal.ofBits, Ideal.ieee, -EReal.coe_mul]
  rw [← e]
  pointwise [k0_pay1] <;> rfl

theorem step_at (x : FVec Ideal S1024x2048 .bf16) (y : FVec Ideal S2048x1024 .bf16) (z : FVec Ideal S1024x1024 .f32)
    (r : Fin 1024) (s : Fin 1024) : k0_pay2 x y z (ix2 r s) = z (ix2 r s) + ∑ k, x (ix2 r k) * y (ix2 k s) := by
  pointwise [k0_pay2] <;> rfl

theorem idx : ∀ t : Fin cfg0.N, win0_0.index t = ![t.val / 8, t.val % 4] ∧ win0_1.index t = ![t.val % 4, t.val / 4 % 2] := by
  decide +kernel

theorem left_lt (t : Fin cfg0.N) (r : Fin 1024) : 1024 * (t.val / 8) + r.val < 2048 := by
  have := t.isLt; have e : cfg0.N = 16 := rfl; omega
theorem right_lt (t : Fin cfg0.N) (s : Fin 1024) : 1024 * (t.val / 4 % 2) + s.val < 2048 := by omega
theorem mid_lt (t : Fin cfg0.N) : t.val % 4 < 4 := by omega

theorem x_at (t : Fin cfg0.N) (r : Fin 1024) (k : Fin 2048) :
    blkX m c t (ix2 r k) = argX m c (ix2 ⟨1024 * (t.val / 8) + r.val, left_lt t r⟩ (inner ⟨t.val % 4, mid_lt t⟩ k)) := by
  blk_ext [iblk, idx t]
theorem y_at (t : Fin cfg0.N) (k : Fin 2048) (s : Fin 1024) :
    blkY m c t (ix2 k s) = argY m c (ix2 (inner ⟨t.val % 4, mid_lt t⟩ k) ⟨1024 * (t.val / 4 % 2) + s.val, right_lt t s⟩) := by
  blk_ext [iblk, idx t]

theorem at_first (t : Fin cfg0.N) (h : t.val % 4 = 0) (r : Fin 1024) (s : Fin 1024) : (outsAt0 m c t.val t.isLt).2 (ix2 r s)
    = 0 + ∑ k, blkX m c t (ix2 r k) * blkY m c t (ix2 k s) := by
  rw [left_first m c t h, step_at, zero_at]

theorem at_next (t : Fin cfg0.N) (h : ¬t.val % 4 = 0) (h' : ¬t.val % 4 = 3) (r : Fin 1024) (s : Fin 1024) :
    (outsAt0 m c t.val t.isLt).2 (ix2 r s) = (outsAt0 m c (t.val - 1) (Nat.lt_of_le_of_lt (Nat.sub_le _ _) t.isLt)).2 (ix2 r s)
      + ∑ k, blkX m c t (ix2 r k) * blkY m c t (ix2 k s) := by
  rw [left_next m c t h h', step_at]

theorem at_last (t : Fin cfg0.N) (h : t.val % 4 = 3) (r : Fin 1024) (s : Fin 1024) :
    (outsAt0 m c t.val t.isLt).1 (ix2 r s) = (outsAt0 m c (t.val - 1) (Nat.lt_of_le_of_lt (Nat.sub_le _ _) t.isLt)).2 (ix2 r s)
      + ∑ k, blkX m c t (ix2 r k) * blkY m c t (ix2 k s) := by
  rw [left_last m c t h, step_at]

/-- The point of block `q` of the result at tile `j` of the inner axis. -/
abbrev pt (q : Fin 4) (j : Fin 4) : Fin cfg0.N := ⟨4 * q.val + j.val, lt_of_lt_of_eq (by omega) N_0.symm⟩

theorem top_lt (q : Fin 4) (r : Fin 1024) : 1024 * (q.val / 2) + r.val < 2048 := by omega
theorem side_lt (q : Fin 4) (s : Fin 1024) : 1024 * (q.val % 2) + s.val < 2048 := by omega

/-- One tile's part of the inner sum. -/
theorem part_at (q : Fin 4) (j : Fin 4) (r : Fin 1024) (s : Fin 1024) :
    ∑ k, blkX m c (pt q j) (ix2 r k) * blkY m c (pt q j) (ix2 k s)
      = ∑ k, (fun k => argX m c (ix2 ⟨1024 * (q.val / 2) + r.val, top_lt q r⟩ k)
          * argY m c (ix2 k ⟨1024 * (q.val % 2) + s.val, side_lt q s⟩) : Fin 8192 → EReal) (inner j k) := by
  refine Finset.sum_congr rfl fun k _ => ?_
  have e0 : (⟨(pt q j).val % 4, mid_lt (pt q j)⟩ : Fin 4) = j := Fin.ext (by show (4 * q.val + j.val) % 4 = j.val; omega)
  have e1 : (⟨1024 * ((pt q j).val / 8) + r.val, left_lt (pt q j) r⟩ : Fin 2048) = ⟨1024 * (q.val / 2) + r.val, top_lt q r⟩ :=
    Fin.ext (by show 1024 * ((4 * q.val + j.val) / 8) + r.val = _; dsimp only; omega)
  have e2 : (⟨1024 * ((pt q j).val / 4 % 2) + s.val, right_lt (pt q j) s⟩ : Fin 2048) = ⟨1024 * (q.val % 2) + s.val, side_lt q s⟩ :=
    Fin.ext (by show 1024 * ((4 * q.val + j.val) / 4 % 2) + s.val = _; dsimp only; omega)
  rw [x_at, y_at, e0, e1, e2]

/-- The result's block `q` is the whole product's. -/
theorem block_at (q : Fin 4) (r : Fin 1024) (s : Fin 1024) : (outsAt0 m c (pt q 3).val (pt q 3).isLt).1 (ix2 r s)
    = ∑ k : Fin 8192, (argX m c (ix2 ⟨1024 * (q.val / 2) + r.val, top_lt q r⟩ k)
        * argY m c (ix2 k ⟨1024 * (q.val % 2) + s.val, side_lt q s⟩) : EReal) := by
  have h0 := at_first m c (pt q 0) (by show (4 * q.val + 0) % 4 = 0; omega) r s
  have h1 := at_next m c (pt q 1) (by show ¬(4 * q.val + 1) % 4 = 0; omega) (by show ¬(4 * q.val + 1) % 4 = 3; omega) r s
  have h2 := at_next m c (pt q 2) (by show ¬(4 * q.val + 2) % 4 = 0; omega) (by show ¬(4 * q.val + 2) % 4 = 3; omega) r s
  have h3 := at_last m c (pt q 3) (by show (4 * q.val + 3) % 4 = 3; omega) r s
  rw [part_at] at h0 h1 h2 h3
  exact sum_of_steps _ h0 h1 h2 h3

/-- The product of the two arguments. -/
def prod (a : FVec Ideal S2048x8192 .bf16) (b : FVec Ideal S8192x2048 .bf16) : FVec Ideal S2048x2048 .f32 :=
  fun i => ∑ k : Fin 8192, (a (ix2 (i 0) k) * b (ix2 k (i 1)) : EReal)

/-- The array that the launch leaves is the product. -/
theorem result_eq : Cert.Kernel3Ideal.Value.G2 m c = prod (argX m c) (argY m c) := by
  funext i
  obtain ⟨r, s, rfl⟩ : ∃ (r : Fin 2048) (s : Fin 2048), i = ix2 r s := ⟨i 0, i 1, eq_ix2 i⟩
  have hr := r.isLt
  have hs := s.isLt
  have hq : 2 * (r.val / 1024) + s.val / 1024 < 4 := by omega
  have hp : Cert.Kernel3Ideal.Value.pt2Of (ix2 r s) = (pt ⟨_, hq⟩ 3).val := by
    show 4 * (2 * (r.val / 1024 - 0) + 1 * (s.val / 1024 - 0)) + 3 = 4 * (2 * (r.val / 1024) + s.val / 1024) + 3
    omega
  have hl : Cert.Kernel3Ideal.Value.loc2Of (ix2 r s) = (ix2 ⟨r.val % 1024, by omega⟩ ⟨s.val % 1024, by omega⟩ : S1024x1024.Idx) := by
    funext a
    fin_cases a <;> rfl
  have e1 : (⟨1024 * ((2 * (r.val / 1024) + s.val / 1024) / 2) + r.val % 1024, top_lt ⟨_, hq⟩ ⟨_, by omega⟩⟩ : Fin 2048) = r :=
    Fin.ext (by dsimp only; omega)
  have e2 : (⟨1024 * ((2 * (r.val / 1024) + s.val / 1024) % 2) + s.val % 1024, side_lt ⟨_, hq⟩ ⟨_, by omega⟩⟩ : Fin 2048) = s :=
    Fin.ext (by dsimp only; omega)
  have hb := block_at m c ⟨_, hq⟩ ⟨r.val % 1024, by omega⟩ ⟨s.val % 1024, by omega⟩
  dsimp only at hb
  rw [e1, e2, Cert.Kernel3Ideal.Value.outsAt0_sweep] at hb
  unfold Cert.Kernel3Ideal.Value.G2
  rw [dif_pos (lt_of_eq_of_lt hp (pt ⟨_, hq⟩ 3).isLt), hl]
  simp only [hp]
  exact hb

end Values

end Cert.Kernel3Ideal.WOut

end
-- ==== Proof.WOutClaims.lean ====
/- The gradient of the output projection's weights: the claims. -/
module

public import proofs.«01_k».proof.Defs
public import proofs.«01_k».proof.Proof.WOutRun
public import proofs.«01_k».proof.Proof.Gen.Kernel3.Frame
public import proofs.«01_k».proof.Proof.Gen.Reference3Ideal.Run
public import Idealize.ShloMosaic.Adequacy

@[expose] public section

set_option maxRecDepth 16384
set_option maxHeartbeats 400000

noncomputable section

namespace Cert.WOutClaims

open Idealize Idealize.ShloMosaic Idealize.ShloMosaic.TcCoe Idealize.SL.Sem
open Cert.Reference3Ideal Cert.Reference3Ideal.Gen

/-- The reference's result as a term of its arguments. -/
def refOut (a : FVec Ideal S2048x8192 .bf16) (b : FVec Ideal S8192x2048 .bf16) : FVec Ideal S2048x2048 .f32 :=
  transpose S2048x2048 [1, 0] (Host.dotGeneral dot_S8192x2048_S8192x2048_S2048x2048_0_0_1_1_n_n none (extf .f32 b bitsLt_bf16_f32)
    (extf .f32 (transpose S8192x2048 [1, 0] a transposes_S2048x8192_S8192x2048_1_0) bitsLt_bf16_f32)) transposes_S2048x2048_S2048x2048_1_0

theorem refOut_at (a : FVec Ideal S2048x8192 .bf16) (b : FVec Ideal S8192x2048 .bf16) (r : Fin 2048) (s : Fin 2048) :
    refOut a b (ix2 r s) = ∑ k : Fin 8192, b (ix2 k s) * a (ix2 r k) := by
  pointwise [refOut] <;> rfl

/-- The reference's result is the product. -/
theorem refOut_eq (a : FVec Ideal S2048x8192 .bf16) (b : FVec Ideal S8192x2048 .bf16) : refOut a b = Cert.Kernel3Ideal.WOut.prod a b := by
  funext i
  obtain ⟨r, s, rfl⟩ : ∃ (r : Fin 2048) (s : Fin 2048), i = ix2 r s := ⟨i 0, i 1, eq_ix2 i⟩
  exact (refOut_at a b r s).trans (Finset.sum_congr rfl fun k _ => EReal.mul_comm _ _)

theorem frame_ideal : Cert.quiescent_Kernel3Ideal := fun m ρ _ => Cert.Kernel3Ideal.Gen.frame m ρ

theorem frame_reference : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem frame_kernel : Cert.quiescent_Kernel3 := fun m ρ _ => Cert.Kernel3.Gen.frame m ρ

/-- The call's result and the reference's are the product of the two arguments. -/
theorem algebraic : Cert.algebraic_Kernel3Ideal_Reference3Ideal := fun m g m' g' _ hm =>
  ⟨fun c => Cert.Kernel3Ideal.WOut.prod (Cert.Kernel3Ideal.WOut.argX m c) (Cert.Kernel3Ideal.WOut.argY m c),
    (θ_run Cert.Kernel3Ideal.defs _ _).mono
      (fun r h c => ⟨(h c).1.trans (Cert.Kernel3Ideal.WOut.result_eq m c), (h c).2.1, (h c).2.2⟩)
      (Cert.Kernel3Ideal.Value.run m g),
    (θ_run Cert.Reference3Ideal.defs _ _).mono
      (fun r h c => ⟨(h c).1.trans ((refOut_eq _ _).trans (congrArg₂ Cert.Kernel3Ideal.WOut.prod (hm c).1 (hm c).2)), (h c).2⟩)
      (Cert.Reference3Ideal.Value.run m' g')⟩

end Cert.WOutClaims

end
-- ==== Proof.YGrad.lean ====
/- The gradient of the mixed output: one tile of the inner axis, so that each point leaves a whole block of the product. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Pointwise
public import Idealize.ShloMosaic.Lib.Pipeline.ValueKit.Point
public import Idealize.ShloMosaic.Lib.Tactic
public import Idealize.ShloMosaic.Adequacy

@[expose] public section

set_option maxRecDepth 16384
set_option maxHeartbeats 400000

noncomputable section

namespace Cert.Kernel4Ideal.YGrad

open Cert.Kernel4Ideal.Gen
open Idealize Idealize.ShloMosaic Idealize.ShloMosaic.TcCoe Idealize.SL.Sem

section Points

variable {F : FTy → Type} [FloatOps F] (m : (ℓ : Loc nD τ sig) → Buf (Elt F) ℓ) (c : Dev nD)

theorem hz : (![0, 0] : Fin 2 → Nat) = fun _ => 0 := funext fun a => by fin_cases a <;> rfl

/-- What a point leaves: the product of its blocks, added to zero. -/
theorem outs_eq (t : Fin cfg0.N) : outsAt0 m c t = k0_pay2 (iblk m c 0 t) (iblk m c 1 t) k0_pay1 := by
  unfold outsAt0 out0_A_2
  rw [View.read_writes_eq_canon _ _ _ (fun _ => cover0_A_2 ..)]
  unfold kernelRun0_A
  dsimp only
  sl_unfold_words
  rw [View.canon_unit_zero hz, View.readCov_cons_toLoadRect, View.readCov_unit_zero (S := S1024x1024) _ hz]
  simp only [View.readAt_eq_ld, (hs0_0 t).read_unread, (hs0_1 t).read_unread, View.ld_unit_zero (S := S1024x2048) hz,
    View.ld_unit_zero (S := S2048x1024) hz]

end Points

variable (m : (ℓ : Loc nD τ sig) → Buf (Elt Ideal) ℓ) (c : Dev nD)

/-- The two arguments, and their blocks at a point. -/
abbrev argX : FVec Ideal S8192x2048 .bf16 := V m c main_arg0
abbrev argY : FVec Ideal S2048x2048 .bf16 := V m c main_arg1
abbrev blkX (t : Fin cfg0.N) : FVec Ideal S1024x2048 .bf16 := iblk m c 0 t
abbrev blkY (t : Fin cfg0.N) : FVec Ideal S2048x1024 .bf16 := iblk m c 1 t

theorem zero_at (r : Fin 1024) (s : Fin 1024) : k0_pay1 (F := Ideal) (ix2 r s) = 0 := by
  have e : Ideal.ofBits .f32 0x00000000#32 = 0 := by simp [Ideal.ofBits, Ideal.ieee, -EReal.coe_mul]
  rw [← e]
  pointwise [k0_pay1] <;> rfl

theorem step_at (x : FVec Ideal S1024x2048 .bf16) (y : FVec Ideal S2048x1024 .bf16) (z : FVec Ideal S1024x1024 .f32)
    (r : Fin 1024) (s : Fin 1024) : k0_pay2 x y z (ix2 r s) = z (ix2 r s) + ∑ k, x (ix2 r k) * y (ix2 k s) := by
  pointwise [k0_pay2] <;> rfl

theorem idx : ∀ t : Fin cfg0.N, win0_0.index t = ![t.val / 2, 0] ∧ win0_1.index t = ![0, t.val % 2]
    ∧ win0_2.index t = ![t.val / 2, t.val % 2] := by
  decide +kernel

theorem row_lt (t : Fin cfg0.N) (r : Fin 1024) : 1024 * (t.val / 2) + r.val < 8192 := by
  have := t.isLt; have e : cfg0.N = 16 := rfl; omega
theorem col_lt (t : Fin cfg0.N) (s : Fin 1024) : 1024 * (t.val % 2) + s.val < 2048 := by omega

theorem x_at (t : Fin cfg0.N) (r : Fin 1024) (k : Fin 2048) :
    blkX m c t (ix2 r k) = argX m c (ix2 ⟨1024 * (t.val / 2) + r.val, row_lt t r⟩ k) := by
  blk_ext [iblk, idx t]
theorem y_at (t : Fin cfg0.N) (k : Fin 2048) (s : Fin 1024) :
    blkY m c t (ix2 k s) = argY m c (ix2 k ⟨1024 * (t.val % 2) + s.val, col_lt t s⟩) := by
  blk_ext [iblk, idx t]
theorem emb (t : Fin cfg0.N) (r : Fin 1024) (s : Fin 1024) : ((cfg0.win 2).blk t).view.emb (ix2 r s)
    = (ix2 ⟨1024 * (t.val / 2) + r.val, row_lt t r⟩ ⟨1024 * (t.val % 2) + s.val, col_lt t s⟩ : S8192x2048.Idx) := by
  blk_ext [idx t]

/-- The product of the two arguments. -/
def prod (a : FVec Ideal S8192x2048 .bf16) (b : FVec Ideal S2048x2048 .bf16) : FVec Ideal S8192x2048 .f32 :=
  fun i => ∑ k : Fin 2048, (a (ix2 (i 0) k) * b (ix2 k (i 1)) : EReal)

theorem outs_at (t : Fin cfg0.N) (r : Fin 1024) (s : Fin 1024) : outsAt0 m c t (ix2 r s) = prod (argX m c) (argY m c)
    (ix2 ⟨1024 * (t.val / 2) + r.val, row_lt t r⟩ ⟨1024 * (t.val % 2) + s.val, col_lt t s⟩) := by
  rw [outs_eq, step_at, zero_at, zero_add]
  exact Finset.sum_congr rfl fun k _ => congrArg₂ (· * · : EReal → EReal → EReal) (x_at m c t r k) (y_at m c t k s)

/-- The array that the launch leaves is the product. -/
theorem result_eq : (dats m 0 c).arrAt 2 cfg0.N = prod (argX m c) (argY m c) := by
  refine (dats m 0 c).arrAt_eq_of_covers 2 _ (by decide +kernel) fun t hf y => ?_
  blk_simp
  rw [after0_2]
  have key : ∀ y : S1024x1024.Idx, outsAt0 m c t y = prod (argX m c) (argY m c) (((cfg0.win 2).blk t).view.emb y) := by
    intro y
    obtain ⟨r, s, rfl⟩ : ∃ (r : Fin 1024) (s : Fin 1024), y = ix2 r s := ⟨y 0, y 1, eq_ix2 y⟩
    exact (outs_at m c t r s).trans (congrArg _ (emb t r s).symm)
  exact key y

end Cert.Kernel4Ideal.YGrad

namespace Cert.YGradClaims

open Idealize Idealize.ShloMosaic Idealize.ShloMosaic.TcCoe Idealize.SL.Sem
open Cert.Reference4Ideal Cert.Reference4Ideal.Gen

/-- The reference's result as a term of its arguments. -/
def refOut (a : FVec Ideal S8192x2048 .bf16) (b : FVec Ideal S2048x2048 .bf16) : FVec Ideal S8192x2048 .f32 :=
  Host.dotGeneral dot_S8192x2048_S2048x2048_S8192x2048_1_1_0_0_n_n none (extf .f32 a bitsLt_bf16_f32)
    (extf .f32 (transpose S2048x2048 [1, 0] b transposes_S2048x2048_S2048x2048_1_0) bitsLt_bf16_f32)

theorem refOut_at (a : FVec Ideal S8192x2048 .bf16) (b : FVec Ideal S2048x2048 .bf16) (r : Fin 8192) (s : Fin 2048) :
    refOut a b (ix2 r s) = ∑ k : Fin 2048, a (ix2 r k) * b (ix2 k s) := by
  pointwise [refOut] <;> rfl

/-- The reference's result is the product. -/
theorem refOut_eq (a : FVec Ideal S8192x2048 .bf16) (b : FVec Ideal S2048x2048 .bf16) : refOut a b = Cert.Kernel4Ideal.YGrad.prod a b := by
  funext i
  obtain ⟨r, s, rfl⟩ : ∃ (r : Fin 8192) (s : Fin 2048), i = ix2 r s := ⟨i 0, i 1, eq_ix2 i⟩
  exact refOut_at a b r s

theorem frame_kernel : Cert.quiescent_Kernel4 := fun m ρ _ => Cert.Kernel4.Gen.frame m ρ
theorem frame_ideal : Cert.quiescent_Kernel4Ideal := fun m ρ _ => Cert.Kernel4Ideal.Gen.frame m ρ
theorem frame_reference : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The call's result and the reference's are the product of the two arguments. -/
theorem algebraic : Cert.algebraic_Kernel4Ideal_Reference4Ideal := fun m g m' g' _ hm =>
  ⟨fun c => Cert.Kernel4Ideal.YGrad.prod (Cert.Kernel4Ideal.YGrad.argX m c) (Cert.Kernel4Ideal.YGrad.argY m c),
    (θ_run Cert.Kernel4Ideal.defs _ _).mono
      (fun r h c => ⟨(h c).1.trans (Cert.Kernel4Ideal.YGrad.result_eq m c), (h c).2.1, (h c).2.2⟩)
      (Cert.Kernel4Ideal.Value.run_blocks m g),
    (θ_run Cert.Reference4Ideal.defs _ _).mono
      (fun r h c => ⟨(h c).1.trans ((refOut_eq _ _).trans (congrArg₂ Cert.Kernel4Ideal.YGrad.prod (hm c).1 (hm c).2)), (h c).2⟩)
      (Cert.Reference4Ideal.Value.run m' g')⟩

end Cert.YGradClaims

end
-- ==== Proof.QkvProj.lean ====
/- The projection to q, k and v: one tile of the inner axis, so that each point leaves a whole block of the product. -/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import Idealize.ShloMosaic.Lib.Pointwise
public import Idealize.ShloMosaic.Lib.Pipeline.ValueKit.Point
public import Idealize.ShloMosaic.Lib.Tactic
public import Idealize.ShloMosaic.Adequacy

@[expose] public section

set_option maxRecDepth 16384
set_option maxHeartbeats 400000

noncomputable section

namespace Cert.Kernel5Ideal.QkvProj

open Cert.Kernel5Ideal.Gen
open Idealize Idealize.ShloMosaic Idealize.ShloMosaic.TcCoe Idealize.SL.Sem

section Points

variable {F : FTy → Type} [FloatOps F] (m : (ℓ : Loc nD τ sig) → Buf (Elt F) ℓ) (c : Dev nD)

theorem hz : (![0, 0] : Fin 2 → Nat) = fun _ => 0 := funext fun a => by fin_cases a <;> rfl

/-- What a point leaves: the product of its blocks, added to zero. -/
theorem outs_eq (t : Fin cfg0.N) : outsAt0 m c t = k0_pay3 (k0_pay2 (iblk m c 0 t) (iblk m c 1 t) k0_pay1) := by
  unfold outsAt0 out0_A_2
  rw [View.read_writes_eq_canon _ _ _ (fun _ => cover0_A_2 ..)]
  unfold kernelRun0_A
  dsimp only
  sl_unfold_words
  rw [View.canon_unit_zero hz, View.readCov_cons_toLoadRect, View.readCov_unit_zero (S := S2048x512) _ hz]
  simp only [View.readAt_eq_ld, (hs0_0 t).read_unread, (hs0_1 t).read_unread, View.ld_unit_zero (S := S2048x2048) hz,
    View.ld_unit_zero (S := S2048x512) hz]

end Points

variable (m : (ℓ : Loc nD τ sig) → Buf (Elt Ideal) ℓ) (c : Dev nD)

/-- The two arguments, and their blocks at a point. -/
abbrev argX : FVec Ideal S8192x2048 .bf16 := V m c main_arg0
abbrev argY : FVec Ideal S2048x6656 .bf16 := V m c main_arg1
abbrev blkX (t : Fin cfg0.N) : FVec Ideal S2048x2048 .bf16 := iblk m c 0 t
abbrev blkY (t : Fin cfg0.N) : FVec Ideal S2048x512 .bf16 := iblk m c 1 t

theorem zero_at (r : Fin 2048) (s : Fin 512) : k0_pay1 (F := Ideal) (ix2 r s) = 0 := by
  have e : Ideal.ofBits .f32 0x00000000#32 = 0 := by simp [Ideal.ofBits, Ideal.ieee, -EReal.coe_mul]
  rw [← e]
  pointwise [k0_pay1] <;> rfl

theorem step_at (x : FVec Ideal S2048x2048 .bf16) (y : FVec Ideal S2048x512 .bf16) (z : FVec Ideal S2048x512 .f32)
    (r : Fin 2048) (s : Fin 512) : k0_pay2 x y z (ix2 r s) = z (ix2 r s) + ∑ k, x (ix2 r k) * y (ix2 k s) := by
  pointwise [k0_pay2] <;> rfl

theorem cast_at (z : FVec Ideal S2048x512 .f32) (r : Fin 2048) (s : Fin 512) : (k0_pay3 (F := Ideal) z (ix2 r s) : EReal) = z (ix2 r s) := by
  pointwise [k0_pay3] <;> rfl

theorem idx : ∀ t : Fin cfg0.N, win0_0.index t = ![t.val / 6, 0] ∧ win0_1.index t = ![0, t.val % 6 + 3]
    ∧ win0_2.index t = ![t.val / 6, t.val % 6] := by
  decide +kernel

theorem row_lt (t : Fin cfg0.N) (r : Fin 2048) : 2048 * (t.val / 6) + r.val < 8192 := by
  have := t.isLt; have e : cfg0.N = 24 := rfl; omega
theorem col_lt (t : Fin cfg0.N) (s : Fin 512) : 512 * (t.val % 6) + s.val < 3072 := by omega

theorem far_lt (t : Fin cfg0.N) (s : Fin 512) : 1536 + (512 * (t.val % 6) + s.val) < 6656 := by omega

theorem x_at (t : Fin cfg0.N) (r : Fin 2048) (k : Fin 2048) :
    blkX m c t (ix2 r k) = argX m c (ix2 ⟨2048 * (t.val / 6) + r.val, row_lt t r⟩ k) := by
  blk_ext [iblk, idx t]
theorem y_at (t : Fin cfg0.N) (k : Fin 2048) (s : Fin 512) :
    blkY m c t (ix2 k s) = argY m c (ix2 k ⟨1536 + (512 * (t.val % 6) + s.val), far_lt t s⟩) := by
  blk_ext [iblk, idx t]
theorem emb (t : Fin cfg0.N) (r : Fin 2048) (s : Fin 512) : ((cfg0.win 2).blk t).view.emb (ix2 r s)
    = (ix2 ⟨2048 * (t.val / 6) + r.val, row_lt t r⟩ ⟨512 * (t.val % 6) + s.val, col_lt t s⟩ : S8192x3072.Idx) := by
  blk_ext [idx t]

theorem shift_lt (s : Fin 3072) : 1536 + s.val < 6656 := by omega

/-- The product of the first argument and the columns of the second from 1536. -/
def prod (a : FVec Ideal S8192x2048 .bf16) (b : FVec Ideal S2048x6656 .bf16) : FVec Ideal S8192x3072 .bf16 :=
  fun i => ∑ k : Fin 2048, (a (ix2 (i 0) k) * b (ix2 k ⟨1536 + (i 1).val, shift_lt (i 1)⟩) : EReal)

theorem outs_at (t : Fin cfg0.N) (r : Fin 2048) (s : Fin 512) : outsAt0 m c t (ix2 r s) = prod (argX m c) (argY m c)
    (ix2 ⟨2048 * (t.val / 6) + r.val, row_lt t r⟩ ⟨512 * (t.val % 6) + s.val, col_lt t s⟩) := by
  rw [outs_eq, cast_at, step_at, zero_at, zero_add]
  exact Finset.sum_congr rfl fun k _ => congrArg₂ (· * · : EReal → EReal → EReal) (x_at m c t r k) (y_at m c t k s)

/-- The array that the launch leaves is the product. -/
theorem result_eq : (dats m 0 c).arrAt 2 cfg0.N = prod (argX m c) (argY m c) := by
  refine (dats m 0 c).arrAt_eq_of_covers 2 _ (by decide +kernel) fun t hf y => ?_
  blk_simp
  rw [after0_2]
  have key : ∀ y : S2048x512.Idx, outsAt0 m c t y = prod (argX m c) (argY m c) (((cfg0.win 2).blk t).view.emb y) := by
    intro y
    obtain ⟨r, s, rfl⟩ : ∃ (r : Fin 2048) (s : Fin 512), y = ix2 r s := ⟨y 0, y 1, eq_ix2 y⟩
    exact (outs_at m c t r s).trans (congrArg _ (emb t r s).symm)
  exact key y

end Cert.Kernel5Ideal.QkvProj

namespace Cert.QkvProjClaims

open Idealize Idealize.ShloMosaic Idealize.ShloMosaic.TcCoe Idealize.SL.Sem
open Cert.Reference5Ideal Cert.Reference5Ideal.Gen

/-- The reference's result as a term of its arguments. -/
def refOut (a : FVec Ideal S8192x2048 .bf16) (b : FVec Ideal S2048x6656 .bf16) : FVec Ideal S8192x3072 .bf16 :=
  truncf .bf16 (Host.dotGeneral dot_S8192x2048_S2048x3072_S8192x3072_1_0_0_1_n_n none (extf .f32 a bitsLt_bf16_f32)
    (extf .f32 (extractStridedSlice S2048x3072 ![0, 1536] b slices_S2048x6656_S2048x3072_0_1536) bitsLt_bf16_f32)) bitsLt_bf16_f32

theorem refOut_at (a : FVec Ideal S8192x2048 .bf16) (b : FVec Ideal S2048x6656 .bf16) (r : Fin 8192) (s : Fin 3072) :
    refOut a b (ix2 r s) = ∑ k : Fin 2048, a (ix2 r k) * b (ix2 k ⟨1536 + s.val, Cert.Kernel5Ideal.QkvProj.shift_lt s⟩) := by
  pointwise [refOut] <;> rfl

/-- The reference's result is the product. -/
theorem refOut_eq (a : FVec Ideal S8192x2048 .bf16) (b : FVec Ideal S2048x6656 .bf16) : refOut a b = Cert.Kernel5Ideal.QkvProj.prod a b := by
  funext i
  obtain ⟨r, s, rfl⟩ : ∃ (r : Fin 8192) (s : Fin 3072), i = ix2 r s := ⟨i 0, i 1, eq_ix2 i⟩
  exact refOut_at a b r s

theorem frame_kernel : Cert.quiescent_Kernel5 := fun m ρ _ => Cert.Kernel5.Gen.frame m ρ
theorem frame_ideal : Cert.quiescent_Kernel5Ideal := fun m ρ _ => Cert.Kernel5Ideal.Gen.frame m ρ
theorem frame_reference : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- The call's result and the reference's are the product of the two arguments. -/
theorem algebraic : Cert.algebraic_Kernel5Ideal_Reference5Ideal := fun m g m' g' _ hm =>
  ⟨fun c => Cert.Kernel5Ideal.QkvProj.prod (Cert.Kernel5Ideal.QkvProj.argX m c) (Cert.Kernel5Ideal.QkvProj.argY m c),
    (θ_run Cert.Kernel5Ideal.defs _ _).mono
      (fun r h c => ⟨(h c).1.trans (Cert.Kernel5Ideal.QkvProj.result_eq m c), (h c).2.1, (h c).2.2⟩)
      (Cert.Kernel5Ideal.Value.run_blocks m g),
    (θ_run Cert.Reference5Ideal.defs _ _).mono
      (fun r h c => ⟨(h c).1.trans ((refOut_eq _ _).trans (congrArg₂ Cert.Kernel5Ideal.QkvProj.prod (hm c).1 (hm c).2)), (h c).2⟩)
      (Cert.Reference5Ideal.Value.run m' g')⟩

end Cert.QkvProjClaims

end
-- ==== Proof.GateProj.lean ====
/- The projection to the gates and the memory's queries: one tile of the inner axis, so that each point leaves a whole block of the product. -/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import Idealize.ShloMosaic.Lib.Pointwise
public import Idealize.ShloMosaic.Lib.Pipeline.ValueKit.Point
public import Idealize.ShloMosaic.Lib.Tactic
public import Idealize.ShloMosaic.Adequacy

@[expose] public section

set_option maxRecDepth 16384
set_option maxHeartbeats 400000

noncomputable section

namespace Cert.Kernel6Ideal.GateProj

open Cert.Kernel6Ideal.Gen
open Idealize Idealize.ShloMosaic Idealize.ShloMosaic.TcCoe Idealize.SL.Sem

section Points

variable {F : FTy → Type} [FloatOps F] (m : (ℓ : Loc nD τ sig) → Buf (Elt F) ℓ) (c : Dev nD)

theorem hz : (![0, 0] : Fin 2 → Nat) = fun _ => 0 := funext fun a => by fin_cases a <;> rfl

/-- What a point leaves: the product of its blocks, added to zero. -/
theorem outs_eq (t : Fin cfg0.N) : outsAt0 m c t = k0_pay2 (iblk m c 0 t) (iblk m c 1 t) k0_pay1 := by
  unfold outsAt0 out0_A_2
  rw [View.read_writes_eq_canon _ _ _ (fun _ => cover0_A_2 ..)]
  unfold kernelRun0_A
  dsimp only
  sl_unfold_words
  rw [View.canon_unit_zero hz, View.readCov_cons_toLoadRect, View.readCov_unit_zero (S := S2048x512) _ hz]
  simp only [View.readAt_eq_ld, (hs0_0 t).read_unread, (hs0_1 t).read_unread, View.ld_unit_zero (S := S2048x2048) hz,
    View.ld_unit_zero (S := S2048x512) hz]

end Points

variable (m : (ℓ : Loc nD τ sig) → Buf (Elt Ideal) ℓ) (c : Dev nD)

/-- The two arguments, and their blocks at a point. -/
abbrev argX : FVec Ideal S8192x2048 .bf16 := V m c main_arg0
abbrev argY : FVec Ideal S2048x6656 .bf16 := V m c main_arg1
abbrev blkX (t : Fin cfg0.N) : FVec Ideal S2048x2048 .bf16 := iblk m c 0 t
abbrev blkY (t : Fin cfg0.N) : FVec Ideal S2048x512 .bf16 := iblk m c 1 t

theorem zero_at (r : Fin 2048) (s : Fin 512) : k0_pay1 (F := Ideal) (ix2 r s) = 0 := by
  have e : Ideal.ofBits .f32 0x00000000#32 = 0 := by simp [Ideal.ofBits, Ideal.ieee, -EReal.coe_mul]
  rw [← e]
  pointwise [k0_pay1] <;> rfl

theorem step_at (x : FVec Ideal S2048x2048 .bf16) (y : FVec Ideal S2048x512 .bf16) (z : FVec Ideal S2048x512 .f32)
    (r : Fin 2048) (s : Fin 512) : k0_pay2 x y z (ix2 r s) = z (ix2 r s) + ∑ k, x (ix2 r k) * y (ix2 k s) := by
  pointwise [k0_pay2] <;> rfl

theorem idx : ∀ t : Fin cfg0.N, win0_0.index t = ![t.val / 4, 0] ∧ win0_1.index t = ![0, t.val % 4 + 9]
    ∧ win0_2.index t = ![t.val / 4, t.val % 4] := by
  decide +kernel

theorem row_lt (t : Fin cfg0.N) (r : Fin 2048) : 2048 * (t.val / 4) + r.val < 8192 := by
  have := t.isLt; have e : cfg0.N = 16 := rfl; omega
theorem col_lt (t : Fin cfg0.N) (s : Fin 512) : 512 * (t.val % 4) + s.val < 2048 := by omega

theorem far_lt (t : Fin cfg0.N) (s : Fin 512) : 4608 + (512 * (t.val % 4) + s.val) < 6656 := by omega

theorem x_at (t : Fin cfg0.N) (r : Fin 2048) (k : Fin 2048) :
    blkX m c t (ix2 r k) = argX m c (ix2 ⟨2048 * (t.val / 4) + r.val, row_lt t r⟩ k) := by
  blk_ext [iblk, idx t]
theorem y_at (t : Fin cfg0.N) (k : Fin 2048) (s : Fin 512) :
    blkY m c t (ix2 k s) = argY m c (ix2 k ⟨4608 + (512 * (t.val % 4) + s.val), far_lt t s⟩) := by
  blk_ext [iblk, idx t]
theorem emb (t : Fin cfg0.N) (r : Fin 2048) (s : Fin 512) : ((cfg0.win 2).blk t).view.emb (ix2 r s)
    = (ix2 ⟨2048 * (t.val / 4) + r.val, row_lt t r⟩ ⟨512 * (t.val % 4) + s.val, col_lt t s⟩ : S8192x2048.Idx) := by
  blk_ext [idx t]

theorem shift_lt (s : Fin 2048) : 4608 + s.val < 6656 := by omega

/-- The product of the first argument and the columns of the second from 4608. -/
def prod (a : FVec Ideal S8192x2048 .bf16) (b : FVec Ideal S2048x6656 .bf16) : FVec Ideal S8192x2048 .f32 :=
  fun i => ∑ k : Fin 2048, (a (ix2 (i 0) k) * b (ix2 k ⟨4608 + (i 1).val, shift_lt (i 1)⟩) : EReal)

theorem outs_at (t : Fin cfg0.N) (r : Fin 2048) (s : Fin 512) : outsAt0 m c t (ix2 r s) = prod (argX m c) (argY m c)
    (ix2 ⟨2048 * (t.val / 4) + r.val, row_lt t r⟩ ⟨512 * (t.val % 4) + s.val, col_lt t s⟩) := by
  rw [outs_eq, step_at, zero_at, zero_add]
  exact Finset.sum_congr rfl fun k _ => congrArg₂ (· * · : EReal → EReal → EReal) (x_at m c t r k) (y_at m c t k s)

/-- The array that the launch leaves is the product. -/
theorem result_eq : (dats m 0 c).arrAt 2 cfg0.N = prod (argX m c) (argY m c) := by
  refine (dats m 0 c).arrAt_eq_of_covers 2 _ (by decide +kernel) fun t hf y => ?_
  blk_simp
  rw [after0_2]
  have key : ∀ y : S2048x512.Idx, outsAt0 m c t y = prod (argX m c) (argY m c) (((cfg0.win 2).blk t).view.emb y) := by
    intro y
    obtain ⟨r, s, rfl⟩ : ∃ (r : Fin 2048) (s : Fin 512), y = ix2 r s := ⟨y 0, y 1, eq_ix2 y⟩
    exact (outs_at m c t r s).trans (congrArg _ (emb t r s).symm)
  exact key y

end Cert.Kernel6Ideal.GateProj

namespace Cert.GateProjClaims

open Idealize Idealize.ShloMosaic Idealize.ShloMosaic.TcCoe Idealize.SL.Sem
open Cert.Reference6Ideal Cert.Reference6Ideal.Gen

/-- The reference's result as a term of its arguments. -/
def refOut (a : FVec Ideal S8192x2048 .bf16) (b : FVec Ideal S2048x6656 .bf16) : FVec Ideal S8192x2048 .f32 :=
  Host.dotGeneral dot_S8192x2048_S2048x2048_S8192x2048_1_0_0_1_n_n none (extf .f32 a bitsLt_bf16_f32)
    (extf .f32 (extractStridedSlice S2048x2048 ![0, 4608] b slices_S2048x6656_S2048x2048_0_4608) bitsLt_bf16_f32)

theorem refOut_at (a : FVec Ideal S8192x2048 .bf16) (b : FVec Ideal S2048x6656 .bf16) (r : Fin 8192) (s : Fin 2048) :
    refOut a b (ix2 r s) = ∑ k : Fin 2048, a (ix2 r k) * b (ix2 k ⟨4608 + s.val, Cert.Kernel6Ideal.GateProj.shift_lt s⟩) := by
  pointwise [refOut] <;> rfl

/-- The reference's result is the product. -/
theorem refOut_eq (a : FVec Ideal S8192x2048 .bf16) (b : FVec Ideal S2048x6656 .bf16) : refOut a b = Cert.Kernel6Ideal.GateProj.prod a b := by
  funext i
  obtain ⟨r, s, rfl⟩ : ∃ (r : Fin 8192) (s : Fin 2048), i = ix2 r s := ⟨i 0, i 1, eq_ix2 i⟩
  exact refOut_at a b r s

theorem frame_kernel : Cert.quiescent_Kernel6 := fun m ρ _ => Cert.Kernel6.Gen.frame m ρ
theorem frame_ideal : Cert.quiescent_Kernel6Ideal := fun m ρ _ => Cert.Kernel6Ideal.Gen.frame m ρ
theorem frame_reference : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- The call's result and the reference's are the product of the two arguments. -/
theorem algebraic : Cert.algebraic_Kernel6Ideal_Reference6Ideal := fun m g m' g' _ hm =>
  ⟨fun c => Cert.Kernel6Ideal.GateProj.prod (Cert.Kernel6Ideal.GateProj.argX m c) (Cert.Kernel6Ideal.GateProj.argY m c),
    (θ_run Cert.Kernel6Ideal.defs _ _).mono
      (fun r h c => ⟨(h c).1.trans (Cert.Kernel6Ideal.GateProj.result_eq m c), (h c).2.1, (h c).2.2⟩)
      (Cert.Kernel6Ideal.Value.run_blocks m g),
    (θ_run Cert.Reference6Ideal.defs _ _).mono
      (fun r h c => ⟨(h c).1.trans ((refOut_eq _ _).trans (congrArg₂ Cert.Kernel6Ideal.GateProj.prod (hm c).1 (hm c).2)), (h c).2⟩)
      (Cert.Reference6Ideal.Value.run m' g')⟩

end Cert.GateProjClaims

end
-- ==== Proof.OutProj.lean ====
/- The output projection, added to the residual: one tile of the inner axis, so that each point leaves a whole block of the product. -/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import Idealize.ShloMosaic.Lib.Pointwise
public import Idealize.ShloMosaic.Lib.Pipeline.ValueKit.Point
public import Idealize.ShloMosaic.Lib.Tactic
public import Idealize.ShloMosaic.Adequacy

@[expose] public section

set_option maxRecDepth 16384
set_option maxHeartbeats 400000

noncomputable section

namespace Cert.Kernel7Ideal.OutProj

open Cert.Kernel7Ideal.Gen
open Idealize Idealize.ShloMosaic Idealize.ShloMosaic.TcCoe Idealize.SL.Sem

section Points

variable {F : FTy → Type} [FloatOps F] (m : (ℓ : Loc nD τ sig) → Buf (Elt F) ℓ) (c : Dev nD)

theorem hz : (![0, 0] : Fin 2 → Nat) = fun _ => 0 := funext fun a => by fin_cases a <;> rfl

/-- What a point leaves: the product of its blocks, added to zero and to the block of the residual. -/
theorem outs_eq (t : Fin cfg0.N) : outsAt0 m c t = k0_pay3 (k0_pay2 (iblk m c 0 t) (iblk m c 1 t) k0_pay1) (iblk m c 2 t) := by
  unfold outsAt0 out0_A_3
  rw [View.read_writes_eq_canon _ _ _ (fun _ => cover0_A_3 ..)]
  unfold kernelRun0_A
  dsimp only
  sl_unfold_words
  rw [View.canon_unit_zero hz, View.readCov_cons_toLoadRect, View.readCov_unit_zero (S := S1024x1024) _ hz]
  simp only [View.readAt_eq_ld, (hs0_0 t).read_unread, (hs0_1 t).read_unread, (hs0_2 t).read_unread, View.ld_unit_zero (S := S1024x2048) hz,
    View.ld_unit_zero (S := S2048x1024) hz, View.ld_unit_zero (S := S1024x1024) hz]

end Points

variable (m : (ℓ : Loc nD τ sig) → Buf (Elt Ideal) ℓ) (c : Dev nD)

/-- The two arguments, and their blocks at a point. -/
abbrev argX : FVec Ideal S8192x2048 .bf16 := V m c main_arg0
abbrev argY : FVec Ideal S2048x2048 .bf16 := V m c main_arg1
abbrev blkX (t : Fin cfg0.N) : FVec Ideal S1024x2048 .bf16 := iblk m c 0 t
abbrev blkY (t : Fin cfg0.N) : FVec Ideal S2048x1024 .bf16 := iblk m c 1 t

abbrev argZ : FVec Ideal S8192x2048 .f32 := V m c main_arg2
abbrev blkZ (t : Fin cfg0.N) : FVec Ideal S1024x1024 .f32 := iblk m c 2 t

theorem zero_at (r : Fin 1024) (s : Fin 1024) : k0_pay1 (F := Ideal) (ix2 r s) = 0 := by
  have e : Ideal.ofBits .f32 0x00000000#32 = 0 := by simp [Ideal.ofBits, Ideal.ieee, -EReal.coe_mul]
  rw [← e]
  pointwise [k0_pay1] <;> rfl

theorem step_at (x : FVec Ideal S1024x2048 .bf16) (y : FVec Ideal S2048x1024 .bf16) (z : FVec Ideal S1024x1024 .f32)
    (r : Fin 1024) (s : Fin 1024) : k0_pay2 x y z (ix2 r s) = z (ix2 r s) + ∑ k, x (ix2 r k) * y (ix2 k s) := by
  pointwise [k0_pay2] <;> rfl

theorem add_at (z w : FVec Ideal S1024x1024 .f32) (r : Fin 1024) (s : Fin 1024) : k0_pay3 z w (ix2 r s) = z (ix2 r s) + w (ix2 r s) := by
  pointwise [k0_pay3] <;> rfl

theorem idx : ∀ t : Fin cfg0.N, win0_0.index t = ![t.val / 2, 0] ∧ win0_1.index t = ![0, t.val % 2]
    ∧ win0_2.index t = ![t.val / 2, t.val % 2] ∧ win0_3.index t = ![t.val / 2, t.val % 2] := by
  decide +kernel

theorem row_lt (t : Fin cfg0.N) (r : Fin 1024) : 1024 * (t.val / 2) + r.val < 8192 := by
  have := t.isLt; have e : cfg0.N = 16 := rfl; omega
theorem col_lt (t : Fin cfg0.N) (s : Fin 1024) : 1024 * (t.val % 2) + s.val < 2048 := by omega

theorem x_at (t : Fin cfg0.N) (r : Fin 1024) (k : Fin 2048) :
    blkX m c t (ix2 r k) = argX m c (ix2 ⟨1024 * (t.val / 2) + r.val, row_lt t r⟩ k) := by
  blk_ext [iblk, idx t]
theorem y_at (t : Fin cfg0.N) (k : Fin 2048) (s : Fin 1024) :
    blkY m c t (ix2 k s) = argY m c (ix2 k ⟨1024 * (t.val % 2) + s.val, col_lt t s⟩) := by
  blk_ext [iblk, idx t]
theorem z_at (t : Fin cfg0.N) (r : Fin 1024) (s : Fin 1024) : blkZ m c t (ix2 r s)
    = argZ m c (ix2 ⟨1024 * (t.val / 2) + r.val, row_lt t r⟩ ⟨1024 * (t.val % 2) + s.val, col_lt t s⟩) := by
  blk_ext [iblk, idx t]
theorem emb (t : Fin cfg0.N) (r : Fin 1024) (s : Fin 1024) : ((cfg0.win 3).blk t).view.emb (ix2 r s)
    = (ix2 ⟨1024 * (t.val / 2) + r.val, row_lt t r⟩ ⟨1024 * (t.val % 2) + s.val, col_lt t s⟩ : S8192x2048.Idx) := by
  blk_ext [idx t]

/-- The product of the first two arguments, added to the third. -/
def prod (a : FVec Ideal S8192x2048 .bf16) (b : FVec Ideal S2048x2048 .bf16) (z : FVec Ideal S8192x2048 .f32) : FVec Ideal S8192x2048 .f32 :=
  fun i => (∑ k : Fin 2048, (a (ix2 (i 0) k) * b (ix2 k (i 1)) : EReal)) + z i

theorem outs_at (t : Fin cfg0.N) (r : Fin 1024) (s : Fin 1024) : outsAt0 m c t (ix2 r s) = prod (argX m c) (argY m c) (argZ m c)
    (ix2 ⟨1024 * (t.val / 2) + r.val, row_lt t r⟩ ⟨1024 * (t.val % 2) + s.val, col_lt t s⟩) := by
  rw [outs_eq, add_at, step_at, zero_at, zero_add]
  exact congrArg₂ (· + · : EReal → EReal → EReal)
    (Finset.sum_congr rfl fun k _ => congrArg₂ (· * · : EReal → EReal → EReal) (x_at m c t r k) (y_at m c t k s)) (z_at m c t r s)

/-- The array that the launch leaves is the product. -/
theorem result_eq : (dats m 0 c).arrAt 3 cfg0.N = prod (argX m c) (argY m c) (argZ m c) := by
  refine (dats m 0 c).arrAt_eq_of_covers 3 _ (by decide +kernel) fun t hf y => ?_
  blk_simp
  rw [after0_3]
  have key : ∀ y : S1024x1024.Idx, outsAt0 m c t y = prod (argX m c) (argY m c) (argZ m c) (((cfg0.win 3).blk t).view.emb y) := by
    intro y
    obtain ⟨r, s, rfl⟩ : ∃ (r : Fin 1024) (s : Fin 1024), y = ix2 r s := ⟨y 0, y 1, eq_ix2 y⟩
    exact (outs_at m c t r s).trans (congrArg _ (emb t r s).symm)
  exact key y

end Cert.Kernel7Ideal.OutProj

namespace Cert.OutProjClaims

open Idealize Idealize.ShloMosaic Idealize.ShloMosaic.TcCoe Idealize.SL.Sem
open Cert.Reference7Ideal Cert.Reference7Ideal.Gen

/-- The reference's result as a term of its arguments. -/
def refOut (a : FVec Ideal S8192x2048 .bf16) (b : FVec Ideal S2048x2048 .bf16) (z : FVec Ideal S8192x2048 .f32) : FVec Ideal S8192x2048 .f32 :=
  addf z (Host.dotGeneral dot_S8192x2048_S2048x2048_S8192x2048_1_0_0_1_n_n none (extf .f32 a bitsLt_bf16_f32) (extf .f32 b bitsLt_bf16_f32))

theorem refOut_at (a : FVec Ideal S8192x2048 .bf16) (b : FVec Ideal S2048x2048 .bf16) (z : FVec Ideal S8192x2048 .f32) (r : Fin 8192) (s : Fin 2048) :
    refOut a b z (ix2 r s) = z (ix2 r s) + ∑ k : Fin 2048, a (ix2 r k) * b (ix2 k s) := by
  pointwise [refOut] <;> rfl

/-- The reference's result is the product. -/
theorem refOut_eq (a : FVec Ideal S8192x2048 .bf16) (b : FVec Ideal S2048x2048 .bf16) (z : FVec Ideal S8192x2048 .f32) : refOut a b z = Cert.Kernel7Ideal.OutProj.prod a b z := by
  funext i
  obtain ⟨r, s, rfl⟩ : ∃ (r : Fin 8192) (s : Fin 2048), i = ix2 r s := ⟨i 0, i 1, eq_ix2 i⟩
  exact (refOut_at a b z r s).trans (add_comm (_ : EReal) _)

theorem frame_kernel : Cert.quiescent_Kernel7 := fun m ρ _ => Cert.Kernel7.Gen.frame m ρ
theorem frame_ideal : Cert.quiescent_Kernel7Ideal := fun m ρ _ => Cert.Kernel7Ideal.Gen.frame m ρ
theorem frame_reference : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

/-- The call's result and the reference's are the product of the first two arguments, added to the third. -/
theorem algebraic : Cert.algebraic_Kernel7Ideal_Reference7Ideal := fun m g m' g' _ hm =>
  ⟨fun c => Cert.Kernel7Ideal.OutProj.prod (Cert.Kernel7Ideal.OutProj.argX m c) (Cert.Kernel7Ideal.OutProj.argY m c) (Cert.Kernel7Ideal.OutProj.argZ m c),
    (θ_run Cert.Kernel7Ideal.defs _ _).mono
      (fun r h c => ⟨(h c).1.trans (Cert.Kernel7Ideal.OutProj.result_eq m c), (h c).2⟩)
      (Cert.Kernel7Ideal.Value.run_blocks m g),
    (θ_run Cert.Reference7Ideal.defs _ _).mono
      (fun r h c => ⟨(h c).1.trans ((refOut_eq _ _ _).trans (congr (congrArg₂ Cert.Kernel7Ideal.OutProj.prod (hm c).1 (hm c).2.1) (hm c).2.2)), (h c).2⟩)
      (Cert.Reference7Ideal.Value.run m' g')⟩

end Cert.OutProjClaims

end
-- ==== Proof.NormRow.lean ====
/- The gradient of the root mean square normalisation of one row: the kernel's words and the reference's agree on all extended reals. -/
module

public import proofs.«01_k».proof.Proof.FoxOps

@[expose] public section

set_option maxHeartbeats 400000

noncomputable section

namespace NormRow

open Idealize Idealize.ShloMosaic
open Cert.ReferenceIdeal.FoxRef (div_real)
open Cert.KernelIdeal.Fox (coe_sum)

theorem w2048 : Ideal.ofBits .f32 0x45000000#32 = ((2048 : ℝ) : EReal) := by
  simp [Ideal.ofBits, Ideal.ieee, -EReal.coe_mul]; norm_num
theorem mhalf_word : Ideal.ofBits .f32 0xBF000000#32 = ((-(1 / 2) : ℝ) : EReal) := by
  simp [Ideal.ofBits, Ideal.ieee, -EReal.coe_mul]; norm_num
theorem eps_word : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

variable (x w : Fin 2048 → EReal)

/-- The mean of the squares, with the small term, and one over its root. -/
def rowV : EReal := Ideal.div (∑ k, x k * x k) (Ideal.ofBits .f32 0x45000000#32) + Ideal.ofBits .f32 0x358637BD#32
def rowR : EReal := Ideal.rsqrt (rowV x)

/-- The gradient at an entry in the kernel's words; `w` is the gradient of the normed row. -/
def rowK (j : Fin 2048) (d : EReal) : EReal :=
  rowR x * (w j - x j * rowR x * Ideal.div (∑ k, w k * (x k * rowR x)) (Ideal.ofBits .f32 0x45000000#32)) + d

/-- The gradient of the mean, and the gradient at an entry, in the reference's words. -/
def rowC : EReal := Ideal.div ((∑ k, x k * w k) * (Ideal.ofBits .f32 0xBF000000#32 * Ideal.div (rowR x) (rowV x))) (Ideal.ofBits .f32 0x45000000#32)
def rowT (j : Fin 2048) (d : EReal) : EReal := d + (w j * rowR x + x j * rowC x w + rowC x w * x j)

theorem square_nonneg (a : EReal) : 0 ≤ a * a := by
  rcases le_total 0 a with h | h
  · exact mul_nonneg h h
  · rw [← neg_mul_neg]
    exact mul_nonneg (EReal.neg_nonneg.2 h) (EReal.neg_nonneg.2 h)

theorem add_self (a : EReal) : a + a = a * ((2 : ℝ) : EReal) := by
  induction a using EReal.rec with
  | bot => rw [EReal.bot_mul_coe_of_pos (by norm_num)]; rfl
  | top => rw [EReal.top_mul_coe_of_pos (by norm_num)]; rfl
  | coe a => rw [← EReal.coe_add, ← EReal.coe_mul, mul_two]

theorem sum_mul (f : Fin 2048 → EReal) (r : ℝ) (hr : 0 ≤ r) : ∑ k, f k * (r : EReal) = (∑ k, f k) * (r : EReal) := by
  classical
  refine Finset.induction_on Finset.univ (by simp) fun a s ha ih => ?_
  rw [Finset.sum_insert ha, Finset.sum_insert ha, ih,
    EReal.right_distrib_of_nonneg_of_ne_top (EReal.coe_nonneg.2 hr) (EReal.coe_ne_top r)]

/-- An infinite entry makes the mean infinite. -/
theorem rowV_top (k : Fin 2048) (h : x k = ⊤ ∨ x k = ⊥) : rowV x = ⊤ := by
  obtain ⟨e, he, hw⟩ := eps_word
  have s : ∑ k, x k * x k = ⊤ := by
    have l : x k * x k ≤ ∑ k, x k * x k :=
      Finset.single_le_sum (f := fun k => x k * x k) (fun i _ => square_nonneg (x i)) (Finset.mem_univ k)
    refine top_le_iff.1 (le_trans (le_of_eq ?_) l)
    rcases h with h | h <;> rw [h]
    · exact EReal.top_mul_top.symm
    · exact EReal.bot_mul_bot.symm
  rw [rowV, s, w2048, hw, Ideal.div_coe (by norm_num), EReal.top_mul_coe_of_pos (by norm_num), EReal.top_add_coe]

/-- With real entries the mean is a positive real number. -/
theorem rowV_real (h : ∀ k, ∃ r : ℝ, x k = r) : ∃ v : ℝ, 0 < v ∧ rowV x = v := by
  obtain ⟨e, he, hw⟩ := eps_word
  choose y hy using h
  have s : ∑ k, x k * x k = ((∑ k, y k * y k : ℝ) : EReal) := by
    simp only [hy, ← EReal.coe_mul, ← coe_sum]
  refine ⟨(∑ k, y k * y k) * (2048 : ℝ)⁻¹ + e, ?_, ?_⟩
  · have : 0 ≤ ∑ k, y k * y k := Finset.sum_nonneg fun k _ => mul_self_nonneg (y k)
    positivity
  · rw [rowV, s, w2048, hw, div_real _ _ (by norm_num), EReal.coe_add]

/-- The kernel's gradient of a row is the reference's. -/
theorem rowK_eq (j : Fin 2048) (d : EReal) : rowK x w j d = rowT x w j d := by
  by_cases h : ∃ k, x k = ⊤ ∨ x k = ⊥
  · obtain ⟨k, hk⟩ := h
    have r : rowR x = 0 := by rw [rowR, rowV_top x k hk]; rfl
    have c : rowC x w = 0 := by
      rw [rowC, rowV_top x k hk, r]
      simp [Ideal.div, w2048]
    rw [rowK, rowT, r, c]
    simp only [zero_mul, mul_zero, add_zero, zero_add]
  · have hx : ∀ k, ∃ r : ℝ, x k = r := fun k => by
      have n := not_exists.1 h k
      exact ⟨(x k).toReal, (EReal.coe_toReal (fun e => n (Or.inl e)) fun e => n (Or.inr e)).symm⟩
    obtain ⟨v, hv, ev⟩ := rowV_real x hx
    have r : rowR x = (((Real.sqrt v)⁻¹ : ℝ) : EReal) := by
      rw [rowR, ev, Ideal.rsqrt_coe, if_neg (not_lt.2 hv.le), if_neg hv.ne']
    have hq : (Real.sqrt v)⁻¹ * (Real.sqrt v)⁻¹ = v⁻¹ := by rw [← mul_inv, Real.mul_self_sqrt hv.le]
    have hp : 0 ≤ (Real.sqrt v)⁻¹ := by positivity
    obtain ⟨y, hy⟩ := hx j
    have c : rowC x w = (∑ k, x k * w k) * ((-(1 / 2) * ((Real.sqrt v)⁻¹ * v⁻¹) * (1 / 2048) : ℝ) : EReal) := by
      rw [rowC, r, ev, w2048, mhalf_word, div_real _ _ hv.ne', Ideal.div_coe (by norm_num), mul_assoc, ← EReal.coe_mul, ← EReal.coe_mul]
    have s : ∑ k, w k * (x k * rowR x) = (∑ k, x k * w k) * (((Real.sqrt v)⁻¹ : ℝ) : EReal) := by
      rw [r, ← sum_mul _ _ hp]
      exact Finset.sum_congr rfl fun k _ => by rw [← mul_assoc, mul_comm (w k)]
    rw [rowK, rowT, s, c, r, hy, w2048, Ideal.div_coe (by norm_num), add_assoc (w j * _), mul_comm ((y : ℝ) : EReal) (_ * _), add_self]
    generalize ∑ k, x k * w k = S
    generalize (Real.sqrt v)⁻¹ = q at hq hp
    rw [sub_eq_add_neg, EReal.left_distrib_of_nonneg_of_ne_top (EReal.coe_nonneg.2 hp) (EReal.coe_ne_top q), add_comm d]
    congr 1
    refine congrArg₂ (· + ·) (mul_comm _ _) ?_
    have l : (q : EReal) * -((y : EReal) * q * (S * q * ((1 / 2048 : ℝ) : EReal))) = S * ((-(y * q * (q * q) * (1 / 2048)) : ℝ) : EReal) := by
      rw [EReal.coe_neg, mul_neg, mul_neg]
      simp only [EReal.coe_mul]
      ac_rfl
    rw [l, hq]
    simp only [mul_assoc, ← EReal.coe_mul]
    exact congrArg (fun z : ℝ => S * (z : EReal)) (by ring)

end NormRow

end
-- ==== Proof.NormGrad.lean ====
/- The gradient of the root mean square normalisation before the projections: the kernel's two arrays are the reference's. -/
module

public import proofs.«01_k».proof.Defs
public import proofs.«01_k».proof.Proof.NormRow
public import proofs.«01_k».proof.Proof.Gen.Kernel9.Frame
public import proofs.«01_k».proof.Proof.Gen.Kernel9Ideal.Value
public import proofs.«01_k».proof.Proof.Gen.Reference9Ideal.Run
public import Idealize.ShloMosaic.Lib.Pointwise
public import Idealize.ShloMosaic.Lib.Pipeline.ValueKit.Point
public import Idealize.ShloMosaic.Lib.Tactic
public import Idealize.ShloMosaic.Adequacy

@[expose] public section

set_option maxRecDepth 16384
set_option maxHeartbeats 400000

noncomputable section

namespace Cert.Kernel9Ideal.NormGrad

open Cert.Kernel9Ideal.Gen
open Idealize Idealize.ShloMosaic Idealize.ShloMosaic.TcCoe Idealize.SL.Sem NormRow

/-! ## What a point leaves in the two results -/

section Cases

variable {F : FTy → Type} [FloatOps F]
variable (c : Dev nD) (i : grid0.Coords) (a1 : Memref sig .tc .vmem S512x2048 .f32) (h1 : a1.IsWhole)
  (a2 : Memref sig .tc .vmem S1x2048 .f32) (h2 : a2.IsWhole) (a3 : Memref sig .tc .vmem S512x2048 .f32) (h3 : a3.IsWhole)
  (a4 : Memref sig .tc .vmem S512x2048 .f32) (h4 : a4.IsWhole) (a5 : Memref sig .tc .vmem S512x2048 .f32) (h5 : a5.IsWhole)
  (a6 : Memref sig .tc .vmem S1x2048 .f32) (h6 : a6.IsWhole)
  (x0 : Vec F S512x2048 .f32) (x1 : Vec F S1x2048 .f32) (x2 x3 : Vec F S512x2048 .f32) (xs : Vec F S1x2048 .f32)

theorem hz : (![0, 0] : Fin 2 → Nat) = fun _ => 0 := funext fun a => by fin_cases a <;> rfl

theorem dx_first (hc0 : cond0_0 i) :
    out0_A_4 c i a1 h1 a2 h2 a3 h3 a4 h4 a5 h5 a6 h6 hc0 x0 x1 x2 x3 = k0_pay5 x0 x2 x1 x3 := by
  unfold out0_A_4
  rw [View.read_writes_eq_canon _ _ _ (cover0_A_4 c i a1 h1 a2 h2 a3 h3 a4 h4 a5 h5 a6 h6 hc0 x0 x1 x2 x3)]
  unfold kernelRun0_A
  dsimp only
  sl_unfold_words
  rw [View.canon_unit_zero hz]
  simp only [View.readAt_eq_ld, h1.read_unread, h2.read_unread, h3.read_unread, h4.read_unread,
    View.ld_unit_zero (S := S512x2048) hz, View.ld_unit_zero (S := S1x2048) hz]

theorem dx_next (hc0 : ¬cond0_0 i) :
    out0_B_4 c i a1 h1 a2 h2 a3 h3 a4 h4 a5 h5 a6 h6 hc0 x0 x1 x2 x3 xs = k0_pay5 x0 x2 x1 x3 := by
  unfold out0_B_4
  rw [View.read_writes_eq_canon _ _ _ (cover0_B_4 c i a1 h1 a2 h2 a3 h3 a4 h4 a5 h5 a6 h6 hc0 x0 x1 x2 x3 xs)]
  unfold kernelRun0_B
  dsimp only
  sl_unfold_words
  rw [View.canon_unit_zero hz]
  simp only [View.readAt_eq_ld, h1.read_unread, h2.read_unread, h3.read_unread, h4.read_unread,
    View.ld_unit_zero (S := S512x2048) hz, View.ld_unit_zero (S := S1x2048) hz]

/-- The first tile: its rows' part added to zero. -/
theorem dg_first (hc0 : cond0_0 i) :
    out0_A_5 c i a1 h1 a2 h2 a3 h3 a4 h4 a5 h5 a6 h6 hc0 x0 x1 x2 x3 = k0_pay4 x0 x2 k0_pay1 := by
  unfold out0_A_5
  rw [View.read_writes_eq_canon _ _ _ (cover0_A_5 c i a1 h1 a2 h2 a3 h3 a4 h4 a5 h5 a6 h6 hc0 x0 x1 x2 x3)]
  unfold kernelRun0_A
  dsimp only
  sl_unfold_words
  rw [View.canon_cons_unit_zero (S := S1x2048) hz, View.readCov_unit_zero (S := S1x2048) _ hz]
  simp only [View.readAt_eq_ld, h1.read_unread, h3.read_unread, View.ld_unit_zero (S := S512x2048) hz]

/-- A later tile: its rows' part added to what the tile before left. -/
theorem dg_next (hc0 : ¬cond0_0 i) :
    out0_B_5 c i a1 h1 a2 h2 a3 h3 a4 h4 a5 h5 a6 h6 hc0 x0 x1 x2 x3 xs = k0_pay4 x0 x2 xs := by
  unfold out0_B_5
  rw [View.read_writes_eq_canon _ _ _ (cover0_B_5 c i a1 h1 a2 h2 a3 h3 a4 h4 a5 h5 a6 h6 hc0 x0 x1 x2 x3 xs)]
  unfold kernelRun0_B
  dsimp only
  sl_unfold_words
  rw [View.canon_unit_zero hz]
  simp only [View.readAt_eq_ld, h1.read_unread, h3.read_unread, h6.read_unread,
    View.ld_unit_zero (S := S512x2048) hz, View.ld_unit_zero (S := S1x2048) hz]

end Cases

section Points

variable {F : FTy → Type} [FloatOps F] (m : (ℓ : Loc nD τ sig) → Buf (Elt F) ℓ) (c : Dev nD)

theorem left_dx (t : Fin cfg0.N) : (outsAt0 m c t.val t.isLt).1 = k0_pay5 (iblk m c 0 t) (iblk m c 2 t) (iblk m c 1 t) (iblk m c 3 t) := by
  by_cases h : t.val % 16 = 0
  · rw [outsAt0_A m c t h]
    dsimp only
    rw [dx_first]
  · rw [outsAt0_B m c t h]
    dsimp only
    rw [dx_next]

theorem left_first (t : Fin cfg0.N) (h : t.val % 16 = 0) :
    (outsAt0 m c t.val t.isLt).2 = k0_pay4 (iblk m c 0 t) (iblk m c 2 t) k0_pay1 := by
  rw [outsAt0_A m c t h]
  dsimp only
  rw [dg_first]

theorem left_next (t : Fin cfg0.N) (h : ¬t.val % 16 = 0) : (outsAt0 m c t.val t.isLt).2
    = k0_pay4 (iblk m c 0 t) (iblk m c 2 t) (outsAt0 m c (t.val - 1) (Nat.lt_of_le_of_lt (Nat.sub_le _ _) t.isLt)).2 := by
  rw [outsAt0_B m c t h]
  dsimp only
  rw [dg_next]

end Points

/-! ## The payloads at an entry -/

section Values

variable (x h d : FVec Ideal S512x2048 .f32) (g z : FVec Ideal S1x2048 .f32)

theorem zero_at (j : Fin 2048) : k0_pay1 (F := Ideal) (ix2 0 j) = 0 := by
  rw [← Cert.ReferenceIdeal.FoxRef.zero_word]
  pointwise [k0_pay1] <;> rfl
theorem root_at (r : Fin 512) : k0_pay2 (F := Ideal) x (ix2 r 0) = rowR (fun k => x (ix2 r k)) := by
  pointwise [k0_pay2, rowR, rowV] <;> rfl
theorem norm_at (r : Fin 512) (j : Fin 2048) : k0_pay3 (F := Ideal) x (ix2 r j) = x (ix2 r j) * rowR (fun k => x (ix2 r k)) := by
  rw [← root_at]
  unfold k0_pay3
  generalize k0_pay2 (F := Ideal) x = v
  pointwise [] <;> rfl
theorem dg_at (j : Fin 2048) : k0_pay4 (F := Ideal) x h z (ix2 0 j)
    = z (ix2 0 j) + ∑ r : Fin 512, h (ix2 r j) * (x (ix2 r j) * rowR (fun k => x (ix2 r k))) := by
  simp only [← norm_at]
  unfold k0_pay4
  generalize k0_pay3 (F := Ideal) x = n
  pointwise [] <;> rfl
theorem dx_at (r : Fin 512) (j : Fin 2048) : k0_pay5 (F := Ideal) x h g d (ix2 r j)
    = rowK (fun k => x (ix2 r k)) (fun k => h (ix2 r k) * g (ix2 0 k)) j (d (ix2 r j)) := by
  unfold rowK
  simp only [← norm_at x r]
  rw [← root_at]
  unfold k0_pay5
  generalize k0_pay3 (F := Ideal) x = n
  generalize k0_pay2 (F := Ideal) x = v
  pointwise [] <;> rfl

end Values

/-! ## The arrays after the launch -/

theorem row_lt (t : Fin 16) (r : Fin 512) : 512 * t.val + r.val < 8192 := by omega

/-- Row `r` of tile `t`. -/
abbrev tileRow (t : Fin 16) (r : Fin 512) : Fin 8192 := ⟨512 * t.val + r.val, row_lt t r⟩

/-- The sixteen tiles are all the rows. -/
theorem sum_tiles (f : Fin 8192 → EReal) : ∑ t : Fin 16, ∑ r, f (tileRow t r) = ∑ k, f k := by
  rw [← Fintype.sum_prod_type' fun t r => f (tileRow t r)]
  exact Fintype.sum_equiv (finProdFinEquiv (m := 16) (n := 512)) (fun p => f (tileRow p.1 p.2)) f
    (fun p => congrArg f (Fin.ext (by show 512 * p.1.val + p.2.val = p.2.val + 512 * p.1.val; omega)))

section Arrays

variable (X H D : FVec Ideal S8192x2048 .f32) (G : FVec Ideal S1x2048 .f32)

/-- The gradient of the rows, with the gradient that goes around. -/
def dxA : FVec Ideal S8192x2048 .f32 := fun i =>
  rowK (fun k => X (ix2 (i 0) k)) (fun k => H (ix2 (i 0) k) * G (ix2 0 k)) (i 1) (D (ix2 (i 0) (i 1)))

/-- A row's part of the gradient of the gain, and the gradient of the gain. -/
def dgE (j : Fin 2048) (s : Fin 8192) : EReal := H (ix2 s j) * (X (ix2 s j) * rowR (fun k => X (ix2 s k)))
def dgA : FVec Ideal S1x2048 .f32 := fun i => ∑ s, dgE X H (i 1) s

end Arrays

variable (m : (ℓ : Loc nD τ sig) → Buf (Elt Ideal) ℓ) (c : Dev nD)

/-- The four arguments, and their blocks at a point. -/
abbrev argX : FVec Ideal S8192x2048 .f32 := V m c main_arg0
abbrev argG : FVec Ideal S1x2048 .f32 := V m c main_arg1
abbrev argH : FVec Ideal S8192x2048 .f32 := V m c main_arg2
abbrev argD : FVec Ideal S8192x2048 .f32 := V m c main_arg3
abbrev blkX (t : Fin cfg0.N) : FVec Ideal S512x2048 .f32 := iblk m c 0 t
abbrev blkG (t : Fin cfg0.N) : FVec Ideal S1x2048 .f32 := iblk m c 1 t
abbrev blkH (t : Fin cfg0.N) : FVec Ideal S512x2048 .f32 := iblk m c 2 t
abbrev blkD (t : Fin cfg0.N) : FVec Ideal S512x2048 .f32 := iblk m c 3 t

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] := by
  decide +kernel

theorem pt_lt (t : Fin cfg0.N) : t.val < 16 := lt_of_lt_of_eq t.isLt (show cfg0.N = 16 from rfl)

/-- A block's row in the array. -/
abbrev row (t : Fin cfg0.N) (r : Fin 512) : Fin 8192 := tileRow ⟨t.val, pt_lt t⟩ r

theorem x_at (t : Fin cfg0.N) (r : Fin 512) (k : Fin 2048) : blkX m c t (ix2 r k) = argX m c (ix2 (row t r) k) := by
  blk_ext [iblk, idx t]
theorem g_at (t : Fin cfg0.N) (k : Fin 2048) : blkG m c t (ix2 0 k) = argG m c (ix2 0 k) := by
  blk_ext [iblk, idx t]
theorem h_at (t : Fin cfg0.N) (r : Fin 512) (k : Fin 2048) : blkH m c t (ix2 r k) = argH m c (ix2 (row t r) k) := by
  blk_ext [iblk, idx t]
theorem d_at (t : Fin cfg0.N) (r : Fin 512) (k : Fin 2048) : blkD m c t (ix2 r k) = argD m c (ix2 (row t r) k) := by
  blk_ext [iblk, idx t]
theorem emb4 (t : Fin cfg0.N) (r : Fin 512) (k : Fin 2048) :
    ((cfg0.win 4).blk t).view.emb (ix2 r k) = (ix2 (row t r) k : S8192x2048.Idx) := by
  blk_ext [idx t]
theorem emb5 (t : Fin cfg0.N) (k : Fin 2048) : ((cfg0.win 5).blk t).view.emb (ix2 0 k) = (ix2 0 k : S1x2048.Idx) := by
  blk_ext [idx t]

theorem dx_eq : (dats m 0 c).arrAt 4 cfg0.N = dxA (argX m c) (argH m c) (argD m c) (argG m c) := by
  refine (dats m 0 c).arrAt_eq_of_covers 4 _ (by decide +kernel) fun t hf y => ?_
  blk_simp
  rw [after0_4, left_dx]
  have key : ∀ y : S512x2048.Idx, k0_pay5 (blkX m c t) (blkH m c t) (blkG m c t) (blkD m c t) y
      = dxA (argX m c) (argH m c) (argD m c) (argG m c) (((cfg0.win 4).blk t).view.emb y) := by
    intro y
    obtain ⟨r, k, rfl⟩ : ∃ (r : Fin 512) (k : Fin 2048), y = ix2 r k := ⟨y 0, y 1, eq_ix2 y⟩
    refine ((dx_at _ _ _ _ r k).trans ?_).trans (congrArg _ (emb4 t r k).symm)
    simp only [x_at, g_at, h_at, d_at]
    rfl
  exact key y

/-- One tile's part of the gradient of the gain. -/
theorem part_at (t : Fin cfg0.N) (j : Fin 2048) :
    ∑ r : Fin 512, blkH m c t (ix2 r j) * (blkX m c t (ix2 r j) * rowR (fun k => blkX m c t (ix2 r k)))
      = ∑ r, dgE (argX m c) (argH m c) j (row t r) := by
  simp only [x_at, h_at]
  rfl

/-- After a point, the second result holds the parts of the tiles so far. -/
theorem after_at (j : Fin 2048) : ∀ (n : ℕ) (hn : n < cfg0.N), (outsAt0 m c n hn).2 (ix2 0 j)
    = ∑ q : Fin (n + 1), ∑ r, dgE (argX m c) (argH m c) j (row ⟨q.val, lt_of_le_of_lt (Nat.le_of_lt_succ q.isLt) hn⟩ r)
  | 0, hn => by
    have e := left_first m c ⟨0, hn⟩ rfl
    rw [e, dg_at, part_at, zero_at, zero_add, Fin.sum_univ_one]
    rfl
  | n + 1, hn => by
    have h16 : n + 1 < 16 := pt_lt ⟨n + 1, hn⟩
    have e := left_next m c ⟨n + 1, hn⟩ (by show ¬(n + 1) % 16 = 0; omega)
    rw [e, dg_at, part_at]
    refine Eq.trans ?_ (Fin.sum_univ_castSucc _).symm
    exact congrArg (· + ∑ r, dgE (argX m c) (argH m c) j (row ⟨n + 1, hn⟩ r)) (after_at j n (Nat.lt_of_succ_lt hn))

theorem dg_eq : (dats m 0 c).arrAt 5 cfg0.N = dgA (argX m c) (argH m c) := by
  refine (dats m 0 c).arrAt_eq_of_covers 5 _ (by decide +kernel) fun t hf y => ?_
  have ht : t.val = 15 := by
    have := (flush0_5 t).1 hf
    have := pt_lt t
    omega
  blk_simp
  rw [after0_5]
  have key : ∀ y : S1x2048.Idx, (outsAt0 m c t.val t.isLt).2 y = dgA (argX m c) (argH m c) (((cfg0.win 5).blk t).view.emb y) := by
    intro y
    obtain ⟨j, rfl⟩ : ∃ j : Fin 2048, y = ix2 0 j := ⟨y 1, by
      refine (eq_ix2 y).trans ?_; congr 1; exact Subsingleton.elim (α := Fin 1) _ _⟩
    refine Eq.trans ?_ (congrArg _ (emb5 t j).symm)
    obtain ⟨n, hn⟩ := t
    obtain rfl : n = 15 := ht
    exact (after_at m c j 15 hn).trans (sum_tiles (dgE (argX m c) (argH m c) j))
  exact key y

end Cert.Kernel9Ideal.NormGrad

namespace Cert.NormGradClaims

open Idealize Idealize.ShloMosaic Idealize.ShloMosaic.TcCoe Idealize.SL.Sem NormRow
open Cert.Reference9Ideal Cert.Reference9Ideal.Gen
open Cert.Kernel9Ideal.NormGrad (dxA dgA dgE)

/-! ## The reference's arrays -/

section Reference

variable (X H D W : FVec Ideal S8192x2048 .f32) (G : FVec Ideal S1x2048 .f32) (R S : FVec Ideal S8192x1 .f32) (C : FVec Ideal S8192 .f32)

/-- The reference's words for the mean of the squares, its root, the gradient of the mean, and the two results. -/
def refV : FVec Ideal S8192x1 .f32 := addf (Host.divf (broadcastInDim S8192x1 ![0] bcast_S8192_S8192x1_0
  (Host.reduceAdd (mulf X X) (constant S_ .f32 0x00000000#32) reducesTo_S8192x2048_S8192_d1 h_S_))
  (broadcastInDim S8192x1 ![] bcast_S_S8192x1 (constant S_ .f32 0x45000000#32))) (broadcastInDim S8192x1 ![] bcast_S_S8192x1 (constant S_ .f32 0x358637BD#32))
def refW : FVec Ideal S8192x2048 .f32 := mulf H (broadcastInDim S8192x2048 ![0, 1] bcast_S1x2048_S8192x2048_0_1 G)
def refS : FVec Ideal S8192x1 .f32 :=
  shapeCast _ (Host.reduceAdd (mulf X W) (constant S_ .f32 0x00000000#32) reducesTo_S8192x2048_S8192_d1 h_S_) shapeCasts_S8192_S8192x1
def refC (R V S : FVec Ideal S8192x1 .f32) : FVec Ideal S8192 .f32 := Host.reduceAdd (Host.divf (mulf S
  (mulf (broadcastInDim S8192x1 ![] bcast_S_S8192x1 (constant S_ .f32 0xBF000000#32)) (Host.divf R V)))
  (broadcastInDim S8192x1 ![] bcast_S_S8192x1 (constant S_ .f32 0x45000000#32))) (constant S_ .f32 0x00000000#32) reducesTo_S8192x1_S8192_d1 h_S_
def refDx : FVec Ideal S8192x2048 .f32 := addf D (addf (addf (mulf W (broadcastInDim S8192x2048 ![0, 1] bcast_S8192x1_S8192x2048_0_1 R))
  (mulf X (broadcastInDim S8192x2048 ![0] bcast_S8192_S8192x2048_0 C))) (mulf (broadcastInDim S8192x2048 ![0] bcast_S8192_S8192x2048_0 C) X))
def refDg : FVec Ideal S1x2048 .f32 := shapeCast _ (Host.reduceAdd (mulf (mulf X (broadcastInDim S8192x2048 ![0, 1] bcast_S8192x1_S8192x2048_0_1 R)) H)
  (constant S_ .f32 0x00000000#32) reducesTo_S8192x2048_S2048_d0 h_S_) shapeCasts_S2048_S1x2048

theorem refV_at (s : Fin 8192) : refV X (ix2 s 0) = rowV (fun k => X (ix2 s k)) := by
  pointwise [refV, rowV] <;> rfl
theorem refR_at (s : Fin 8192) : Host.rsqrt (refV X) (ix2 s 0) = rowR (fun k => X (ix2 s k)) := by
  rw [rowR, ← refV_at]
  rfl
theorem refW_at (s : Fin 8192) (j : Fin 2048) : refW H G (ix2 s j) = H (ix2 s j) * G (ix2 0 j) := by
  pointwise [refW] <;> rfl
theorem refS_at (s : Fin 8192) : refS X W (ix2 s 0) = ∑ k, X (ix2 s k) * W (ix2 s k) := by
  pointwise [refS] <;> rfl
theorem refC_at (V : FVec Ideal S8192x1 .f32) (s : Fin 8192) : refC R V S (ix1 s)
    = Ideal.div (S (ix2 s 0) * (Ideal.ofBits .f32 0xBF000000#32 * Ideal.div (R (ix2 s 0)) (V (ix2 s 0)))) (Ideal.ofBits .f32 0x45000000#32) := by
  refine Eq.trans ?_ (Fin.sum_univ_one fun q : Fin 1 =>
    Ideal.div (S (ix2 s q) * (Ideal.ofBits .f32 0xBF000000#32 * Ideal.div (R (ix2 s q)) (V (ix2 s q)))) (Ideal.ofBits .f32 0x45000000#32))
  pointwise [refC] <;> rfl
theorem refDx_at (s : Fin 8192) (j : Fin 2048) : refDx X D W R C (ix2 s j)
    = D (ix2 s j) + (W (ix2 s j) * R (ix2 s 0) + X (ix2 s j) * C (ix1 s) + C (ix1 s) * X (ix2 s j)) := by
  pointwise [refDx] <;> rfl
theorem refDg_at (j : Fin 2048) : refDg X H R (ix2 0 j) = ∑ s, X (ix2 s j) * R (ix2 s 0) * H (ix2 s j) := by
  pointwise [refDg] <;> rfl

theorem dx_eq : refDx X D (refW H G) (Host.rsqrt (refV X)) (refC (Host.rsqrt (refV X)) (refV X) (refS X (refW H G))) = dxA X H D G := by
  funext i
  obtain ⟨s, j, rfl⟩ : ∃ (s : Fin 8192) (j : Fin 2048), i = ix2 s j := ⟨i 0, i 1, eq_ix2 i⟩
  refine Eq.trans ?_ (rowK_eq (fun k => X (ix2 s k)) (fun k => H (ix2 s k) * G (ix2 0 k)) j (D (ix2 s j))).symm
  rw [refDx_at, refC_at, refS_at, refR_at, refV_at]
  simp only [refW_at]
  rfl
theorem dg_eq : refDg X H (Host.rsqrt (refV X)) = dgA X H := by
  funext i
  obtain ⟨j, rfl⟩ : ∃ j : Fin 2048, i = ix2 0 j := ⟨i 1, by
    refine (eq_ix2 i).trans ?_; congr 1; exact Subsingleton.elim (α := Fin 1) _ _⟩
  rw [refDg_at]
  exact Finset.sum_congr rfl fun s _ => (congrArg (· * H (ix2 s j)) (congrArg (X (ix2 s j) * ·) (refR_at X s))).trans (mul_comm _ _)

end Reference

/-! ## The claims -/

theorem frame_kernel : Cert.quiescent_Kernel9 := fun m ρ _ => Cert.Kernel9.Gen.frame m ρ
theorem frame_ideal : Cert.quiescent_Kernel9Ideal := fun m ρ _ => Cert.Kernel9Ideal.Gen.frame m ρ
theorem frame_reference : Cert.quiescent_Reference9Ideal := fun m ρ _ =>
  (θ_run Cert.Reference9Ideal.defs _ _).mono
    (fun r h => ⟨fun c => (h c).2.2, Idealize.ShloMosaic.sem_eq_zero_of_no_sems (by decide) r.2⟩)
    (Cert.Reference9Ideal.Value.run (F := Ideal) m ρ)

open Cert.Kernel9Ideal.NormGrad (argX argG argH argD) in
/-- The call's two arrays are the reference's. -/
theorem algebraic : Cert.algebraic_Kernel9Ideal_Reference9Ideal := fun m g m' g' _ hm => by
  refine ⟨fun c => dxA (argX m c) (argH m c) (argD m c) (argG m c), fun c => dgA (argX m c) (argH m c), ?_, ?_⟩
  · exact (θ_run Cert.Kernel9Ideal.defs _ _).mono
      (fun r h c => ⟨(h c).1.trans (Cert.Kernel9Ideal.NormGrad.dx_eq m c), (h c).2.1.trans (Cert.Kernel9Ideal.NormGrad.dg_eq m c), (h c).2.2⟩)
      (Cert.Kernel9Ideal.Value.run_blocks m g)
  · refine (θ_run Cert.Reference9Ideal.defs _ _).mono (fun r h c => ?_) (Cert.Reference9Ideal.Value.run m' g')
    obtain ⟨a0, a1, a2, a3⟩ := hm c
    obtain ⟨e0, e1, rest⟩ := h c
    refine ⟨e0.trans ?_, e1.trans ?_, rest⟩
    · rw [a0, a1, a2, a3]
      exact dx_eq _ _ _ _
    · rw [a0, a2]
      exact dg_eq _ _

end Cert.NormGradClaims

end
-- ==== Proof.AdamW.lean ====
/- The optimiser's step of the input and output projections' weights: the kernel's arrays are the reference's, entry by entry. -/
module

public import proofs.«01_k».proof.Defs
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import Idealize.ShloMosaic.Adequacy

@[expose] public section

set_option maxRecDepth 16384
set_option maxHeartbeats 400000

noncomputable section

namespace Cert.AdamInClaims

open Idealize Idealize.ShloMosaic Idealize.ShloMosaic.TcCoe Idealize.SL.Sem

theorem frame_kernel : Cert.quiescent_Kernel10 := fun m ρ _ => Cert.Kernel10.Gen.frame m ρ
theorem frame_ideal : Cert.quiescent_Kernel10Ideal := fun m ρ _ => Cert.Kernel10Ideal.Gen.frame m ρ
theorem frame_reference : Cert.quiescent_Reference10Ideal := fun m ρ _ =>
  (θ_run Cert.Reference10Ideal.defs _ _).mono
    (fun r h => ⟨fun c => (h c).2.2.2, Idealize.ShloMosaic.sem_eq_zero_of_no_sems (by decide) r.2⟩)
    (Cert.Reference10Ideal.Value.run (F := Ideal) m ρ)

/-- The input projection: the step and the two new moments are the reference's. -/
theorem algebraic : Cert.algebraic_Kernel10Ideal_Reference10Ideal := fun m g m' g' _ hm => by
  refine ⟨_, _, _, Cert.Kernel10Ideal.Value.run m g,
    (θ_run Cert.Reference10Ideal.defs _ _).mono (fun r h c => ?_) (Cert.Reference10Ideal.Value.run m' g')⟩
  obtain ⟨a0, a1, a2, a3⟩ := hm c
  obtain ⟨e0, e1, e2, rest⟩ := h c
  refine ⟨e0.trans ?_, e1.trans ?_, e2.trans ?_, rest⟩
  · rw [a0, a1, a2, a3]
    rfl
  · rw [a1, a2]
    rfl
  · rw [a1, a3]
    rfl

end Cert.AdamInClaims

namespace Cert.AdamOutClaims

open Idealize Idealize.ShloMosaic Idealize.ShloMosaic.TcCoe Idealize.SL.Sem

theorem frame_kernel : Cert.quiescent_Kernel11 := fun m ρ _ => Cert.Kernel11.Gen.frame m ρ
theorem frame_ideal : Cert.quiescent_Kernel11Ideal := fun m ρ _ => Cert.Kernel11Ideal.Gen.frame m ρ
theorem frame_reference : Cert.quiescent_Reference11Ideal := fun m ρ _ =>
  (θ_run Cert.Reference11Ideal.defs _ _).mono
    (fun r h => ⟨fun c => (h c).2.2.2, Idealize.ShloMosaic.sem_eq_zero_of_no_sems (by decide) r.2⟩)
    (Cert.Reference11Ideal.Value.run (F := Ideal) m ρ)

/-- The output projection: the step and the two new moments are the reference's. -/
theorem algebraic : Cert.algebraic_Kernel11Ideal_Reference11Ideal := fun m g m' g' _ hm => by
  refine ⟨_, _, _, Cert.Kernel11Ideal.Value.run m g,
    (θ_run Cert.Reference11Ideal.defs _ _).mono (fun r h c => ?_) (Cert.Reference11Ideal.Value.run m' g')⟩
  obtain ⟨a0, a1, a2, a3⟩ := hm c
  obtain ⟨e0, e1, e2, rest⟩ := h c
  refine ⟨e0.trans ?_, e1.trans ?_, e2.trans ?_, rest⟩
  · rw [a0, a1, a2, a3]
    rfl
  · rw [a1, a2]
    rfl
  · rw [a1, a3]
    rfl

end Cert.AdamOutClaims

end
-- ==== Proof.lean ====
/- The claims about the backward pass of the forgetting attention, the call before it, six products, the backward pass of a norm and two steps of the optimiser. -/
module

public import proofs.«01_k».proof.Defs
public import proofs.«01_k».proof.Proof.FoxClaims
public import proofs.«01_k».proof.Proof.FoxAlgebraic
public import proofs.«01_k».proof.Proof.FoxPrep
public import proofs.«01_k».proof.Proof.WInClaims
public import proofs.«01_k».proof.Proof.WOutClaims
public import proofs.«01_k».proof.Proof.YGrad
public import proofs.«01_k».proof.Proof.QkvProj
public import proofs.«01_k».proof.Proof.GateProj
public import proofs.«01_k».proof.Proof.OutProj
public import proofs.«01_k».proof.Proof.NormGrad
public import proofs.«01_k».proof.Proof.AdamW
public import proofs.«01_k».proof.Proof.Gen.Kernel
public import proofs.«01_k».proof.Proof.Gen.KernelIdeal
public import proofs.«01_k».proof.Proof.Gen.ReferenceIdeal
public import proofs.«01_k».proof.Proof.Gen.Pre_finite

@[expose] public section

noncomputable section

namespace Cert.Proof

theorem claim : Cert.Claim :=
  haveI := Cert.Pre_finite.Gen.facts
  haveI := Cert.Pre_finite8.Gen.facts
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Pre_finite.Gen.facts, Cert.Pre_finite8.Gen.facts,
    Cert.FoxClaims.frame_kernel, Cert.FoxClaims.frame_ideal, fun m g _ => Cert.FoxClaims.frame_ideal m g trivial,
    Cert.FoxClaims.frame_reference, fun m g _ => Cert.FoxClaims.frame_reference m g trivial,
    Cert.WInClaims.frame_kernel, Cert.WInClaims.frame_ideal, Cert.WInClaims.frame_reference,
    Cert.WOutClaims.frame_kernel, Cert.WOutClaims.frame_ideal, Cert.WOutClaims.frame_reference,
    Cert.YGradClaims.frame_kernel, Cert.YGradClaims.frame_ideal, Cert.YGradClaims.frame_reference,
    Cert.QkvProjClaims.frame_kernel, Cert.QkvProjClaims.frame_ideal, Cert.QkvProjClaims.frame_reference,
    Cert.GateProjClaims.frame_kernel, Cert.GateProjClaims.frame_ideal, Cert.GateProjClaims.frame_reference,
    Cert.OutProjClaims.frame_kernel, Cert.OutProjClaims.frame_ideal, Cert.OutProjClaims.frame_reference,
    Cert.FoxPrepClaims.frame_kernel, Cert.FoxPrepClaims.frame_ideal, fun m g _ => Cert.FoxPrepClaims.frame_ideal m g trivial,
    Cert.FoxPrepClaims.frame_reference, fun m g _ => Cert.FoxPrepClaims.frame_reference m g trivial,
    Cert.NormGradClaims.frame_kernel, Cert.NormGradClaims.frame_ideal, Cert.NormGradClaims.frame_reference,
    Cert.AdamInClaims.frame_kernel, Cert.AdamInClaims.frame_ideal, Cert.AdamInClaims.frame_reference,
    Cert.AdamOutClaims.frame_kernel, Cert.AdamOutClaims.frame_ideal, Cert.AdamOutClaims.frame_reference,
    Cert.FoxClaims.preserves, Cert.FoxClaims.algebraic,
    trivial, Cert.WInClaims.algebraic,
    trivial, Cert.WOutClaims.algebraic,
    trivial, Cert.YGradClaims.algebraic,
    trivial, Cert.QkvProjClaims.algebraic,
    trivial, Cert.GateProjClaims.algebraic,
    trivial, Cert.OutProjClaims.algebraic,
    trivial, Cert.FoxPrepClaims.algebraic,
    trivial, Cert.NormGradClaims.algebraic,
    trivial, Cert.AdamInClaims.algebraic,
    trivial, Cert.AdamOutClaims.algebraic⟩

end Cert.Proof

end
